-- ==== Defs.lean ====
def Pre_Mix [hPre_finite : Cert.Pre_finite.Facts] (m : (ℓ : Loc Cert.Mix.nD Cert.Mix.τ Cert.Mix.sig) → Buf (Elt Bits) ℓ) : Prop :=
  ∀ c : Dev Cert.Mix.nD,
    (Cert.Pre_finite.fn (F := Bits) (m ((c.tc : Thread Cert.Mix.nD Cert.Mix.τ).loc Cert.Mix.main_arg0)) (m ((c.tc : Thread Cert.Mix.nD Cert.Mix.τ).loc Cert.Mix.main_arg1)) (m ((c.tc : Thread Cert.Mix.nD Cert.Mix.τ).loc Cert.Mix.main_arg2)) (m ((c.tc : Thread Cert.Mix.nD Cert.Mix.τ).loc Cert.Mix.main_arg3)) (m ((c.tc : Thread Cert.Mix.nD Cert.Mix.τ).loc Cert.Mix.main_arg4)) (m ((c.tc : Thread Cert.Mix.nD Cert.Mix.τ).loc Cert.Mix.main_arg5)) (m ((c.tc : Thread Cert.Mix.nD Cert.Mix.τ).loc Cert.Mix.main_arg6)) (m ((c.tc : Thread Cert.Mix.nD Cert.Mix.τ).loc Cert.Mix.main_arg7)) (m ((c.tc : Thread Cert.Mix.nD Cert.Mix.τ).loc Cert.Mix.main_arg8)) (m ((c.tc : Thread Cert.Mix.nD Cert.Mix.τ).loc Cert.Mix.main_arg9)) (m ((c.tc : Thread Cert.Mix.nD Cert.Mix.τ).loc Cert.Mix.main_arg10)) (m ((c.tc : Thread Cert.Mix.nD Cert.Mix.τ).loc Cert.Mix.main_arg11)) (m ((c.tc : Thread Cert.Mix.nD Cert.Mix.τ).loc Cert.Mix.main_arg12)) (m ((c.tc : Thread Cert.Mix.nD Cert.Mix.τ).loc Cert.Mix.main_arg13)) (m ((c.tc : Thread Cert.Mix.nD Cert.Mix.τ).loc Cert.Mix.main_arg14)) (m ((c.tc : Thread Cert.Mix.nD Cert.Mix.τ).loc Cert.Mix.main_arg15)) (m ((c.tc : Thread Cert.Mix.nD Cert.Mix.τ).loc Cert.Mix.main_arg16)) (m ((c.tc : Thread Cert.Mix.nD Cert.Mix.τ).loc Cert.Mix.main_arg17)) (m ((c.tc : Thread Cert.Mix.nD Cert.Mix.τ).loc Cert.Mix.main_arg18)) (m ((c.tc : Thread Cert.Mix.nD Cert.Mix.τ).loc Cert.Mix.main_arg19))) = (fun _ => 1#1)

def Pre_MixIdeal [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18)) (m ((c.tc : Thread Cert.MixIdeal.nD Cert.MixIdeal.τ).loc Cert.MixIdeal.main_arg19))) = (fun _ => 1#1)

def Pre_MixRefIdeal [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18)) (m ((c.tc : Thread Cert.MixRefIdeal.nD Cert.MixRefIdeal.τ).loc Cert.MixRefIdeal.main_arg19))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondRefIdeal (m : (ℓ : Loc Cert.SecondRefIdeal.nD Cert.SecondRefIdeal.τ Cert.SecondRefIdeal.sig) → Buf (Elt Ideal) ℓ) : Prop :=
  True

def quiescent_Mix [hMix : Cert.Mix.Facts] [hPre_finite : Cert.Pre_finite.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19))
      ∧ r.2.sem = fun _ => 0)

def quiescent_MixIdeal [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ r.2.sem = fun _ => 0)

def quiescent_MixRefIdeal [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4))
      ∧ r.2.sem = fun _ => 0)

def preserves_Mix_MixIdeal : Prop :=
  True

def algebraic_MixIdeal_MixRefIdeal [hMixIdeal : Cert.MixIdeal.Facts] [hMixRefIdeal : Cert.MixRefIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)
      ∧ m' ((c.tc : Thread Cert.MixRefIdeal.nD Cert.MixRefIdeal.τ).loc Cert.MixRefIdeal.main_arg19) = m ((c.tc : Thread Cert.MixIdeal.nD Cert.MixIdeal.τ).loc Cert.MixIdeal.main_arg19)) →
    ∃ (v0 : (c : Dev Cert.MixIdeal.nD) → Buf (Elt Ideal) ((c.tc : Thread Cert.MixIdeal.nD Cert.MixIdeal.τ).loc Cert.MixIdeal.main_v31)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v31) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v337) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18)
          ∧ r.2.mem ((c.tc : Thread Cert.MixRefIdeal.nD Cert.MixRefIdeal.τ).loc Cert.MixRefIdeal.main_arg19) = m' ((c.tc : Thread Cert.MixRefIdeal.nD Cert.MixRefIdeal.τ).loc Cert.MixRefIdeal.main_arg19))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v9)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v9) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v32) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Second_SecondIdeal : Prop :=
  True

def algebraic_SecondIdeal_SecondRefIdeal [hSecondIdeal : Cert.SecondIdeal.Facts] [hSecondRefIdeal : Cert.SecondRefIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)
      ∧ m' ((c.tc : Thread Cert.SecondRefIdeal.nD Cert.SecondRefIdeal.τ).loc Cert.SecondRefIdeal.main_arg4) = m ((c.tc : Thread Cert.SecondIdeal.nD Cert.SecondIdeal.τ).loc Cert.SecondIdeal.main_arg4)) →
    ∃ (v0 : (c : Dev Cert.SecondIdeal.nD) → Buf (Elt Ideal) ((c.tc : Thread Cert.SecondIdeal.nD Cert.SecondIdeal.τ).loc Cert.SecondIdeal.main_v9)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v9) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v32) = v0 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3)
          ∧ r.2.mem ((c.tc : Thread Cert.SecondRefIdeal.nD Cert.SecondRefIdeal.τ).loc Cert.SecondRefIdeal.main_arg4) = m' ((c.tc : Thread Cert.SecondRefIdeal.nD Cert.SecondRefIdeal.τ).loc Cert.SecondRefIdeal.main_arg4))

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hFirst : Cert.First.Facts) (hFirstIdeal : Cert.FirstIdeal.Facts) (hFirstRefIdeal : Cert.FirstRefIdeal.Facts) (hSecond : Cert.Second.Facts) (hSecondIdeal : Cert.SecondIdeal.Facts) (hSecondRefIdeal : Cert.SecondRefIdeal.Facts) (hPre_finite : Cert.Pre_finite.Facts),
    quiescent_Mix (hMix := hMix) (hPre_finite := hPre_finite)
    ∧ quiescent_MixIdeal (hMixIdeal := hMixIdeal) (hPre_finite := hPre_finite)
    ∧ quiescent_MixRefIdeal (hMixRefIdeal := hMixRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_First (hFirst := hFirst)
    ∧ quiescent_FirstIdeal (hFirstIdeal := hFirstIdeal)
    ∧ quiescent_FirstRefIdeal (hFirstRefIdeal := hFirstRefIdeal)
    ∧ quiescent_Second (hSecond := hSecond)
    ∧ quiescent_SecondIdeal (hSecondIdeal := hSecondIdeal)
    ∧ quiescent_SecondRefIdeal (hSecondRefIdeal := hSecondRefIdeal)
    ∧ preserves_Mix_MixIdeal
    ∧ algebraic_MixIdeal_MixRefIdeal (hMixIdeal := hMixIdeal) (hMixRefIdeal := hMixRefIdeal) (hPre_finite := hPre_finite)
    ∧ preserves_Ffn_FfnIdeal
    ∧ algebraic_FfnIdeal_FfnRefIdeal (hFfnIdeal := hFfnIdeal) (hFfnRefIdeal := hFfnRefIdeal)
    ∧ preserves_First_FirstIdeal
    ∧ algebraic_FirstIdeal_FirstRefIdeal (hFirstIdeal := hFirstIdeal) (hFirstRefIdeal := hFirstRefIdeal)
    ∧ preserves_Second_SecondIdeal
    ∧ algebraic_SecondIdeal_SecondRefIdeal (hSecondIdeal := hSecondIdeal) (hSecondRefIdeal := hSecondRefIdeal)
-- ==== Pre_finite.lean ====
abbrev S16x2048x1024 : Shape := ⟨3, ![16, 2048, 1024]⟩
abbrev S16x9x1024 : Shape := ⟨3, ![16, 9, 1024]⟩
abbrev S16x2048x256 : Shape := ⟨3, ![16, 2048, 256]⟩
abbrev S16x2048x128 : Shape := ⟨3, ![16, 2048, 128]⟩
abbrev S16x256x128 : Shape := ⟨3, ![16, 256, 128]⟩
abbrev S16x256x256 : Shape := ⟨3, ![16, 256, 256]⟩
abbrev S31x256 : Shape := ⟨2, ![31, 256]⟩
abbrev S256 : Shape := ⟨1, ![256]⟩
abbrev S64 : Shape := ⟨1, ![64]⟩
abbrev S4x32 : Shape := ⟨2, ![4, 32]⟩
abbrev S1024x1024 : Shape := ⟨2, ![1024, 1024]⟩
abbrev S_ : Shape := ⟨0, ![]⟩

class Facts : Prop where
  bcast_S_S4x32 : S_.BroadcastsInDim S4x32 (![] : Fin 0 → Fin S4x32.rank)
  reducesTo_S4x32_S_d0_1 : S4x32.ReducesTo [0, 1] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16x2048x128 : S_.BroadcastsInDim S16x2048x128 (![] : Fin 0 → Fin S16x2048x128.rank)
  reducesTo_S16x2048x128_S_d0_1_2 : S16x2048x128.ReducesTo [0, 1, 2] S_
  bcast_S_S16x256x128 : S_.BroadcastsInDim S16x256x128 (![] : Fin 0 → Fin S16x256x128.rank)
  reducesTo_S16x256x128_S_d0_1_2 : S16x256x128.ReducesTo [0, 1, 2] S_
  bcast_S_S16x256x256 : S_.BroadcastsInDim S16x256x256 (![] : Fin 0 → Fin S16x256x256.rank)
  reducesTo_S16x256x256_S_d0_1_2 : S16x256x256.ReducesTo [0, 1, 2] S_

variable [Facts]

def fn_part2 {F : FTy → Type} [FloatOps F] (main_arg7 : FVec F S16x2048x256 .f32) (main_arg11 : FVec F S16x256x256 .f32) (main_v33 : IVec S_ 1) : IVec S_ 1 :=
  let main_v34 : FVec F S16x2048x256 .f32 := Host.absf main_arg7
  let main_cst_12 : FVec F S_ .f32 := constant S_ .f32 0x7F800000#32
  let main_v35 : FVec F S16x2048x256 .f32 := broadcastInDim S16x2048x256 ![] bcast_S_S16x2048x256 main_cst_12
  let main_v36 : IVec S16x2048x256 1 := cmpf .olt main_v34 main_v35
  let main_c_13 : IVec S_ 1 := constantI S_ 1 1#1
  let main_v37 : IVec S_ 1 := (fun x v => Host.reduce IntOp.andi x v reducesTo_S16x2048x256_S_d0_1_2 h_S_) main_v36 main_c_13
  let main_v38 : IVec S_ 1 := andi main_v33 main_v37
  let main_v39 : FVec F S16x256x256 .f32 := Host.absf main_arg11
  let main_cst_14 : FVec F S_ .f32 := constant S_ .f32 0x7F800000#32
  let main_v40 : FVec F S16x256x256 .f32 := broadcastInDim S16x256x256 ![] bcast_S_S16x256x256 main_cst_14
  let main_v41 : IVec S16x256x256 1 := cmpf .olt main_v39 main_v40
  let main_c_15 : IVec S_ 1 := constantI S_ 1 1#1
  let main_v42 : IVec S_ 1 := (fun x v => Host.reduce IntOp.andi x v reducesTo_S16x256x256_S_d0_1_2 h_S_) main_v41 main_c_15
  let main_v43 : IVec S_ 1 := andi main_v38 main_v42
  main_v43

def fn_part1 {F : FTy → Type} [FloatOps F] (main_arg6 : FVec F S16x2048x256 .f32) (main_arg7 : FVec F S16x2048x256 .f32) (main_arg8 : FVec F S16x256x128 .f32) (main_arg10 : FVec F S16x256x256 .f32) (main_arg11 : FVec F S16x256x256 .f32) (main_v13 : IVec S_ 1) (main_v16 : IVec S16x2048x128 1) : IVec S_ 1 :=
  let main_c_5 : IVec S_ 1 := constantI S_ 1 1#1
  let main_v17 : IVec S_ 1 := (fun x v => Host.reduce IntOp.andi x v reducesTo_S16x2048x128_S_d0_1_2 h_S_) main_v16 main_c_5
  let main_v18 : IVec S_ 1 := andi main_v13 main_v17
  let main_v19 : FVec F S16x2048x256 .f32 := Host.absf main_arg6
  let main_cst_6 : FVec F S_ .f32 := constant S_ .f32 0x7F800000#32
  let main_v20 : FVec F S16x2048x256 .f32 := broadcastInDim S16x2048x256 ![] bcast_S_S16x2048x256 main_cst_6
  let main_v21 : IVec S16x2048x256 1 := cmpf .olt main_v19 main_v20
  let main_c_7 : IVec S_ 1 := constantI S_ 1 1#1
  let main_v22 : IVec S_ 1 := (fun x v => Host.reduce IntOp.andi x v reducesTo_S16x2048x256_S_d0_1_2 h_S_) main_v21 main_c_7
  let main_v23 : IVec S_ 1 := andi main_v18 main_v22
  let main_v24 : FVec F S16x256x128 .f32 := Host.absf main_arg8
  let main_cst_8 : FVec F S_ .f32 := constant S_ .f32 0x7F800000#32
  let main_v25 : FVec F S16x256x128 .f32 := broadcastInDim S16x256x128 ![] bcast_S_S16x256x128 main_cst_8
  let main_v26 : IVec S16x256x128 1 := cmpf .olt main_v24 main_v25
  let main_c_9 : IVec S_ 1 := constantI S_ 1 1#1
  let main_v27 : IVec S_ 1 := (fun x v => Host.reduce IntOp.andi x v reducesTo_S16x256x128_S_d0_1_2 h_S_) main_v26 main_c_9
  let main_v28 : IVec S_ 1 := andi main_v23 main_v27
  let main_v29 : FVec F S16x256x256 .f32 := Host.absf main_arg10
  let main_cst_10 : FVec F S_ .f32 := constant S_ .f32 0x7F800000#32
  let main_v30 : FVec F S16x256x256 .f32 := broadcastInDim S16x256x256 ![] bcast_S_S16x256x256 main_cst_10
  let main_v31 : IVec S16x256x256 1 := cmpf .olt main_v29 main_v30
  let main_c_11 : IVec S_ 1 := constantI S_ 1 1#1
  let main_v32 : IVec S_ 1 := (fun x v => Host.reduce IntOp.andi x v reducesTo_S16x256x256_S_d0_1_2 h_S_) main_v31 main_c_11
  let main_v33 : IVec S_ 1 := andi main_v28 main_v32
  fn_part2 (F := F) main_arg7 main_arg11 main_v33

def fn {F : FTy → Type} [FloatOps F] (main_arg0 : FVec F S16x2048x1024 .f32) (main_arg1 : FVec F S16x9x1024 .f32) (main_arg2 : FVec F S16x2048x256 .f32) (main_arg3 : FVec F S16x2048x256 .f32) (main_arg4 : FVec F S16x2048x128 .f32) (main_arg5 : FVec F S16x2048x128 .f32) (main_arg6 : FVec F S16x2048x256 .f32) (main_arg7 : FVec F S16x2048x256 .f32) (main_arg8 : FVec F S16x256x128 .f32) (main_arg9 : FVec F S16x256x128 .f32) (main_arg10 : FVec F S16x256x256 .f32) (main_arg11 : FVec F S16x256x256 .f32) (main_arg12 : FVec F S16x2048x256 .f32) (main_arg13 : FVec F S16x2048x256 .f32) (main_arg14 : FVec F S31x256 .f32) (main_arg15 : FVec F S256 .f32) (main_arg16 : FVec F S256 .f32) (main_arg17 : FVec F S64 .f32) (main_arg18 : FVec F S4x32 .f32) (main_arg19 : FVec F S1024x1024 .f32) : IVec S_ 1 :=
  let main_v0 : FVec F S4x32 .f32 := Host.absf main_arg18
  let main_cst : FVec F S_ .f32 := constant S_ .f32 0x7F800000#32
  let main_v1 : FVec F S4x32 .f32 := broadcastInDim S4x32 ![] bcast_S_S4x32 main_cst
  let main_v2 : IVec S4x32 1 := cmpf .olt main_v0 main_v1
  let main_c : IVec S_ 1 := constantI S_ 1 1#1
  let main_v3 : IVec S_ 1 := (fun x v => Host.reduce IntOp.andi x v reducesTo_S4x32_S_d0_1 h_S_) main_v2 main_c
  let main_v4 : FVec F S16x2048x256 .f32 := Host.absf main_arg2
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x256 .f32 := Host.absf main_arg3
  let main_cst_2 : FVec F S_ .f32 := constant S_ .f32 0x7F800000#32
  let main_v10 : FVec F S16x2048x256 .f32 := broadcastInDim S16x2048x256 ![] bcast_S_S16x2048x256 main_cst_2
  let main_v11 : IVec S16x2048x256 1 := cmpf .olt main_v9 main_v10
  let main_c_3 : IVec S_ 1 := constantI S_ 1 1#1
  let main_v12 : IVec S_ 1 := (fun x v => Host.reduce IntOp.andi x v reducesTo_S16x2048x256_S_d0_1_2 h_S_) main_v11 main_c_3
  let main_v13 : IVec S_ 1 := andi main_v8 main_v12
  let main_v14 : FVec F S16x2048x128 .f32 := Host.absf main_arg4
  let main_cst_4 : FVec F S_ .f32 := constant S_ .f32 0x7F800000#32
  let main_v15 : FVec F S16x2048x128 .f32 := broadcastInDim S16x2048x128 ![] bcast_S_S16x2048x128 main_cst_4
  let main_v16 : IVec S16x2048x128 1 := cmpf .olt main_v14 main_v15
  fn_part1 (F := F) main_arg6 main_arg7 main_arg8 main_arg10 main_arg11 main_v13 main_v16
-- ==== Mix.lean ====
abbrev S16x2048x1024 : Shape := ⟨3, ![16, 2048, 1024]⟩
abbrev S16x9x1024 : Shape := ⟨3, ![16, 9, 1024]⟩
abbrev S16x2048x256 : Shape := ⟨3, ![16, 2048, 256]⟩
abbrev S16x2048x128 : Shape := ⟨3, ![16, 2048, 128]⟩
abbrev S16x256x128 : Shape := ⟨3, ![16, 256, 128]⟩
abbrev S16x256x256 : Shape := ⟨3, ![16, 256, 256]⟩
abbrev S31x256 : Shape := ⟨2, ![31, 256]⟩
abbrev S256 : Shape := ⟨1, ![256]⟩
abbrev S64 : Shape := ⟨1, ![64]⟩
abbrev S4x32 : Shape := ⟨2, ![4, 32]⟩
abbrev S1024x1024 : Shape := ⟨2, ![1024, 1024]⟩
abbrev S16x2048x64 : Shape := ⟨3, ![16, 2048, 64]⟩
abbrev S_ : Shape := ⟨0, ![]⟩
abbrev S1x256 : Shape := ⟨2, ![1, 256]⟩
abbrev S64x1 : Shape := ⟨2, ![64, 1]⟩
abbrev S16x128x2048 : Shape := ⟨3, ![16, 128, 2048]⟩
abbrev S16x256x2048 : Shape := ⟨3, ![16, 256, 2048]⟩
abbrev S16x128x256 : Shape := ⟨3, ![16, 128, 256]⟩
abbrev S1x1024x1024 : Shape := ⟨3, ![1, 1024, 1024]⟩
abbrev S1x9x1024 : Shape := ⟨3, ![1, 9, 1024]⟩
abbrev S1x1024x256 : Shape := ⟨3, ![1, 1024, 256]⟩
abbrev S1x2048x128 : Shape := ⟨3, ![1, 2048, 128]⟩
abbrev S1x128x2048 : Shape := ⟨3, ![1, 128, 2048]⟩
abbrev S1x2048x256 : Shape := ⟨3, ![1, 2048, 256]⟩
abbrev S1x256x2048 : Shape := ⟨3, ![1, 256, 2048]⟩
abbrev S1x256x128 : Shape := ⟨3, ![1, 256, 128]⟩
abbrev S1x128x256 : Shape := ⟨3, ![1, 128, 256]⟩
abbrev S1x256x256 : Shape := ⟨3, ![1, 256, 256]⟩
abbrev S1024x256 : Shape := ⟨2, ![1024, 256]⟩
abbrev S2048x128 : Shape := ⟨2, ![2048, 128]⟩
abbrev S256x128 : Shape := ⟨2, ![256, 128]⟩
abbrev S2048x256 : Shape := ⟨2, ![2048, 256]⟩
abbrev S256x256 : Shape := ⟨2, ![256, 256]⟩
abbrev S1x64x2048 : Shape := ⟨3, ![1, 64, 2048]⟩
abbrev S64x2048 : Shape := ⟨2, ![64, 2048]⟩
abbrev S16x2048 : Shape := ⟨2, ![16, 2048]⟩
abbrev S80x2048 : Shape := ⟨2, ![80, 2048]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S1024x128 : Shape := ⟨2, ![1024, 128]⟩
abbrev S2048x1024 : Shape := ⟨2, ![2048, 1024]⟩
abbrev S256x1024 : Shape := ⟨2, ![256, 1024]⟩
abbrev S2304x1024 : Shape := ⟨2, ![2304, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S1024 : Shape := ⟨1, ![1024]⟩
abbrev S1x1024 : Shape := ⟨2, ![1, 1024]⟩
abbrev S80x1024 : Shape := ⟨2, ![80, 1024]⟩
abbrev S1x32 : Shape := ⟨2, ![1, 32]⟩
abbrev S1x1x32 : Shape := ⟨3, ![1, 1, 32]⟩
abbrev S1 : Shape := ⟨1, ![1]⟩
abbrev S1x1x1 : Shape := ⟨3, ![1, 1, 1]⟩
abbrev S1x1 : Shape := ⟨2, ![1, 1]⟩
abbrev S1x16x256 : Shape := ⟨3, ![1, 16, 256]⟩
abbrev S1056x256 : Shape := ⟨2, ![1056, 256]⟩
abbrev S1024x1 : Shape := ⟨2, ![1024, 1]⟩
abbrev S9x1024 : Shape := ⟨2, ![9, 1024]⟩

abbrev nBuf : Space → Nat
  | .hbm => 55
  | .vmem => 36
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S16x2048x256, .f32⟩
  | .hbm, ⟨3, _⟩ => ⟨S16x2048x256, .f32⟩
  | .hbm, ⟨4, _⟩ => ⟨S16x2048x128, .f32⟩
  | .hbm, ⟨5, _⟩ => ⟨S16x2048x128, .f32⟩
  | .hbm, ⟨6, _⟩ => ⟨S16x2048x256, .f32⟩
  | .hbm, ⟨7, _⟩ => ⟨S16x2048x256, .f32⟩
  | .hbm, ⟨8, _⟩ => ⟨S16x256x128, .f32⟩
  | .hbm, ⟨9, _⟩ => ⟨S16x256x128, .f32⟩
  | .hbm, ⟨10, _⟩ => ⟨S16x256x256, .f32⟩
  | .hbm, ⟨11, _⟩ => ⟨S16x256x256, .f32⟩
  | .hbm, ⟨12, _⟩ => ⟨S16x2048x256, .f32⟩
  | .hbm, ⟨13, _⟩ => ⟨S16x2048x256, .f32⟩
  | .hbm, ⟨14, _⟩ => ⟨S31x256, .f32⟩
  | .hbm, ⟨15, _⟩ => ⟨S256, .f32⟩
  | .hbm, ⟨16, _⟩ => ⟨S256, .f32⟩
  | .hbm, ⟨17, _⟩ => ⟨S64, .f32⟩
  | .hbm, ⟨18, _⟩ => ⟨S4x32, .f32⟩
  | .hbm, ⟨19, _⟩ => ⟨S1024x1024, .f32⟩
  | .hbm, ⟨20, _⟩ => ⟨S16x2048x64, .f32⟩
  | .hbm, ⟨21, _⟩ => ⟨S16x2048x64, .f32⟩
  | .hbm, ⟨22, _⟩ => ⟨S16x2048x64, .f32⟩
  | .hbm, ⟨23, _⟩ => ⟨S16x2048x64, .f32⟩
  | .hbm, ⟨24, _⟩ => ⟨S16x2048x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x2048x256, .f32⟩
  | .hbm, ⟨30, _⟩ => ⟨S16x2048x256, .f32⟩
  | .hbm, ⟨31, _⟩ => ⟨S16x2048x256, .bf16⟩
  | .hbm, ⟨32, _⟩ => ⟨S_, .f32⟩
  | .hbm, ⟨33, _⟩ => ⟨S_, .f32⟩
  | .hbm, ⟨34, _⟩ => ⟨S16x2048x256, .f32⟩
  | .hbm, ⟨35, _⟩ => ⟨S16x2048x256, .f32⟩
  | .hbm, ⟨36, _⟩ => ⟨S16x2048x256, .bf16⟩
  | .hbm, ⟨37, _⟩ => ⟨S1x256, .f32⟩
  | .hbm, ⟨38, _⟩ => ⟨S1x256, .f32⟩
  | .hbm, ⟨39, _⟩ => ⟨S64x1, .f32⟩
  | .hbm, ⟨40, _⟩ => ⟨S16x2048x128, .bf16⟩
  | .hbm, ⟨41, _⟩ => ⟨S16x128x2048, .f32⟩
  | .hbm, ⟨42, _⟩ => ⟨S16x128x2048, .bf16⟩
  | .hbm, ⟨43, _⟩ => ⟨S16x2048x256, .bf16⟩
  | .hbm, ⟨44, _⟩ => ⟨S16x256x2048, .f32⟩
  | .hbm, ⟨45, _⟩ => ⟨S16x256x2048, .bf16⟩
  | .hbm, ⟨46, _⟩ => ⟨S16x256x128, .bf16⟩
  | .hbm, ⟨47, _⟩ => ⟨S16x128x256, .f32⟩
  | .hbm, ⟨48, _⟩ => ⟨S16x128x256, .bf16⟩
  | .hbm, ⟨49, _⟩ => ⟨S16x256x256, .bf16⟩
  | .hbm, ⟨50, _⟩ => ⟨S16x256x256, .f32⟩
  | .hbm, ⟨51, _⟩ => ⟨S16x256x256, .bf16⟩
  | .hbm, ⟨52, _⟩ => ⟨S16x2048x256, .bf16⟩
  | .hbm, ⟨53, _⟩ => ⟨S1024x1024, .bf16⟩
  | .hbm, ⟨54, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x128, .bf16⟩
  | .local _ .vmem, ⟨17, _⟩ => ⟨S1x256x128, .bf16⟩
  | .local _ .vmem, ⟨18, _⟩ => ⟨S1x128x256, .bf16⟩
  | .local _ .vmem, ⟨19, _⟩ => ⟨S1x128x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x2048x256, .f32⟩
  | .local _ .vmem, ⟨27, _⟩ => ⟨S1x2048x256, .f32⟩
  | .local _ .vmem, ⟨28, _⟩ => ⟨S31x256, .f32⟩
  | .local _ .vmem, ⟨29, _⟩ => ⟨S1x256, .f32⟩
  | .local _ .vmem, ⟨30, _⟩ => ⟨S1x256, .f32⟩
  | .local _ .vmem, ⟨31, _⟩ => ⟨S64x1, .f32⟩
  | .local _ .vmem, ⟨32, _⟩ => ⟨S4x32, .f32⟩
  | .local _ .vmem, ⟨33, _⟩ => ⟨S1024x1024, .bf16⟩
  | .local _ .vmem, ⟨34, _⟩ => ⟨S1x1024x1024, .f32⟩
  | .local _ .vmem, ⟨35, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v1466 : BitVec 32 := Scalar.muli arg1 c1024_i32
  v1466
def k0_mult2 (i : grid0.Coords) : BitVec 32 :=
  let arg1 : BitVec 32 := BitVec.ofNat 32 (i 1).val
  let c1024_i32 : BitVec 32 := 1024#32
  let v1466 : BitVec 32 := Scalar.muli arg1 c1024_i32
  let v1467 : BitVec 32 := v1466
  let c16_i32 : BitVec 32 := 16#32
  let v1468 : BitVec 32 := Scalar.subi v1467 c16_i32
  let c0_i32_193 : BitVec 32 := 0#32
  let v1469 : BitVec 32 := Scalar.maxsi v1468 c0_i32_193
  v1469
def k0_mult3 (i : grid0.Coords) : BitVec 32 :=
  let arg1 : BitVec 32 := BitVec.ofNat 32 (i 1).val
  let c1024_i32 : BitVec 32 := 1024#32
  let v1466 : BitVec 32 := Scalar.muli arg1 c1024_i32
  let v1467 : BitVec 32 := v1466
  let c1024_i32_194 : BitVec 32 := 1024#32
  let v1471 : BitVec 32 := Scalar.addi v1467 c1024_i32_194
  let c2032_i32 : BitVec 32 := 2032#32
  let v1472 : BitVec 32 := Scalar.minsi v1471 c2032_i32
  v1472
def k0_off1 (i : grid0.Coords) : Fin 3 → Nat :=
  let c0_196 : Index := 0#32
  let arg1 : BitVec 32 := BitVec.ofNat 32 (i 1).val
  let c1024_i32 : BitVec 32 := 1024#32
  let v1466 : BitVec 32 := Scalar.muli arg1 c1024_i32
  let v1467 : BitVec 32 := v1466
  let c16_i32 : BitVec 32 := 16#32
  let v1468 : BitVec 32 := Scalar.subi v1467 c16_i32
  let c0_i32_193 : BitVec 32 := 0#32
  let v1469 : BitVec 32 := Scalar.maxsi v1468 c0_i32_193
  let v1470 : BitVec 32 := v1469
  let v1475 : Index := Scalar.indexCast v1470
  let c0_197 : Index := 0#32
  ![0, v1475.toNat, 0]
def k0_off2 (i : grid0.Coords) : Fin 3 → Nat :=
  let c0_199 : Index := 0#32
  let arg1 : BitVec 32 := BitVec.ofNat 32 (i 1).val
  let c1024_i32 : BitVec 32 := 1024#32
  let v1466 : BitVec 32 := Scalar.muli arg1 c1024_i32
  let v1467 : BitVec 32 := v1466
  let v1480 : Index := Scalar.indexCast v1467
  let c0_200 : Index := 0#32
  ![0, v1480.toNat, 0]
def k0_off3 (i : grid0.Coords) : Fin 3 → Nat :=
  let c0_201 : Index := 0#32
  let arg1 : BitVec 32 := BitVec.ofNat 32 (i 1).val
  let c1024_i32 : BitVec 32 := 1024#32
  let v1466 : BitVec 32 := Scalar.muli arg1 c1024_i32
  let v1467 : BitVec 32 := v1466
  let c1024_i32_194 : BitVec 32 := 1024#32
  let v1471 : BitVec 32 := Scalar.addi v1467 c1024_i32_194
  let c2032_i32 : BitVec 32 := 2032#32
  let v1472 : BitVec 32 := Scalar.minsi v1471 c2032_i32
  let v1473 : BitVec 32 := v1472
  let v1484 : Index := Scalar.indexCast v1473
  let c0_202 : Index := 0#32
  ![0, v1484.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S31x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x1024x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== MixRefIdeal.lean ====
abbrev S16x2048x1024 : Shape := ⟨3, ![16, 2048, 1024]⟩
abbrev S16x9x1024 : Shape := ⟨3, ![16, 9, 1024]⟩
abbrev S16x2048x256 : Shape := ⟨3, ![16, 2048, 256]⟩
abbrev S16x2048x128 : Shape := ⟨3, ![16, 2048, 128]⟩
abbrev S16x256x128 : Shape := ⟨3, ![16, 256, 128]⟩
abbrev S16x256x256 : Shape := ⟨3, ![16, 256, 256]⟩
abbrev S31x256 : Shape := ⟨2, ![31, 256]⟩
abbrev S256 : Shape := ⟨1, ![256]⟩
abbrev S64 : Shape := ⟨1, ![64]⟩
abbrev S4x32 : Shape := ⟨2, ![4, 32]⟩
abbrev S1024x1024 : Shape := ⟨2, ![1024, 1024]⟩
abbrev S16x2048x2x64 : Shape := ⟨4, ![16, 2048, 2, 64]⟩
abbrev S16x2x2048x64 : Shape := ⟨4, ![16, 2, 2048, 64]⟩
abbrev S16x256x2x64 : Shape := ⟨4, ![16, 256, 2, 64]⟩
abbrev S16x2x256x64 : Shape := ⟨4, ![16, 2, 256, 64]⟩
abbrev S16x2x2304x64 : Shape := ⟨4, ![16, 2, 2304, 64]⟩
abbrev S16x2048x2x2x64 : Shape := ⟨5, ![16, 2048, 2, 2, 64]⟩
abbrev S16x2x2x2048x64 : Shape := ⟨5, ![16, 2, 2, 2048, 64]⟩
abbrev S16x2x2x2048x2304 : Shape := ⟨5, ![16, 2, 2, 2048, 2304]⟩
abbrev S_ : Shape := ⟨0, ![]⟩
abbrev S16x2x2x2048 : Shape := ⟨4, ![16, 2, 2, 2048]⟩
abbrev S16x2x2x2048x1 : Shape := ⟨5, ![16, 2, 2, 2048, 1]⟩
abbrev S16x2048x4x2x32 : Shape := ⟨5, ![16, 2048, 4, 2, 32]⟩
abbrev S16x4x2x2048x32 : Shape := ⟨5, ![16, 4, 2, 2048, 32]⟩
abbrev S16x256x4x2x32 : Shape := ⟨5, ![16, 256, 4, 2, 32]⟩
abbrev S16x4x2x256x32 : Shape := ⟨5, ![16, 4, 2, 256, 32]⟩
abbrev S16x4x2x2304x32 : Shape := ⟨5, ![16, 4, 2, 2304, 32]⟩
abbrev S16x2048x4x64 : Shape := ⟨4, ![16, 2048, 4, 64]⟩
abbrev S16x4x2048x64 : Shape := ⟨4, ![16, 4, 2048, 64]⟩
abbrev S16x256x4x64 : Shape := ⟨4, ![16, 256, 4, 64]⟩
abbrev S16x4x256x64 : Shape := ⟨4, ![16, 4, 256, 64]⟩
abbrev S16x4x2304x64 : Shape := ⟨4, ![16, 4, 2304, 64]⟩
abbrev S1x32 : Shape := ⟨2, ![1, 32]⟩
abbrev S32 : Shape := ⟨1, ![32]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S1x1x1x64 : Shape := ⟨4, ![1, 1, 1, 64]⟩
abbrev S16x2078x256 : Shape := ⟨3, ![16, 2078, 256]⟩
abbrev S1x256 : Shape := ⟨2, ![1, 256]⟩
abbrev S1x1x256 : Shape := ⟨3, ![1, 1, 256]⟩
abbrev S16x2048 : Shape := ⟨2, ![16, 2048]⟩
abbrev S16x2048x1 : Shape := ⟨3, ![16, 2048, 1]⟩
abbrev S16x1x1024 : Shape := ⟨3, ![16, 1, 1024]⟩

abbrev nBuf : Space → Nat
  | .hbm => 387
  | .vmem => 0
  | .smem => 0
  | _ => 0

abbrev hbmTy0_0 (i : Nat) : BufTy := match i % 128 with
  | 0 => ⟨S16x2048x1024, .f32⟩
  | 1 => ⟨S16x9x1024, .f32⟩
  | 2 => ⟨S16x2048x256, .f32⟩
  | 3 => ⟨S16x2048x256, .f32⟩
  | 4 => ⟨S16x2048x128, .f32⟩
  | 5 => ⟨S16x2048x128, .f32⟩
  | 6 => ⟨S16x2048x256, .f32⟩
  | 7 => ⟨S16x2048x256, .f32⟩
  | 8 => ⟨S16x256x128, .f32⟩
  | 9 => ⟨S16x256x128, .f32⟩
  | 10 => ⟨S16x256x256, .f32⟩
  | 11 => ⟨S16x256x256, .f32⟩
  | 12 => ⟨S16x2048x256, .f32⟩
  | 13 => ⟨S16x2048x256, .f32⟩
  | 14 => ⟨S31x256, .f32⟩
  | 15 => ⟨S256, .f32⟩
  | 16 => ⟨S256, .f32⟩
  | 17 => ⟨S64, .f32⟩
  | 18 => ⟨S4x32, .f32⟩
  | 19 => ⟨S1024x1024, .f32⟩
  | 20 => ⟨S16x2048x2x64, .f32⟩
  | 21 => ⟨S16x2x2048x64, .f32⟩
  | 22 => ⟨S16x256x2x64, .f32⟩
  | 23 => ⟨S16x2x256x64, .f32⟩
  | 24 => ⟨S16x2x2304x64, .f32⟩
  | 25 => ⟨S16x2048x2x64, .f32⟩
  | 26 => ⟨S16x2x2048x64, .f32⟩
  | 27 => ⟨S16x256x2x64, .f32⟩
  | 28 => ⟨S16x2x256x64, .f32⟩
  | 29 => ⟨S16x2x2304x64, .f32⟩
  | 30 => ⟨S16x2048x2x2x64, .f32⟩
  | 31 => ⟨S16x2x2x2048x64, .f32⟩
  | 32 => ⟨S16x2x2x2048x2304, .f32⟩
  | 33 => ⟨S_, .f32⟩
  | 34 => ⟨S16x2x2x2048x2304, .f32⟩
  | 35 => ⟨S16x2x2x2048x2304, .f32⟩
  | 36 => ⟨S_, .f32⟩
  | 37 => ⟨S16x2x2x2048, .f32⟩
  | 38 => ⟨S_, .f32⟩
  | 39 => ⟨S16x2x2x2048, .f32⟩
  | 40 => ⟨S16x2x2x2048, .f32⟩
  | 41 => ⟨S16x2x2x2048x1, .f32⟩
  | 42 => ⟨S16x2x2x2048x2304, .f32⟩
  | 43 => ⟨S16x2x2x2048x2304, .f32⟩
  | 44 => ⟨S16x2x2x2048x2304, .f32⟩
  | 45 => ⟨S_, .f32⟩
  | 46 => ⟨S16x2x2x2048, .f32⟩
  | 47 => ⟨S16x2x2x2048x1, .f32⟩
  | 48 => ⟨S16x2x2x2048x2304, .f32⟩
  | 49 => ⟨S16x2x2x2048x2304, .f32⟩
  | 50 => ⟨S16x2x2x2048x64, .f32⟩
  | 51 => ⟨S16x2048x2x2x64, .f32⟩
  | 52 => ⟨S16x2048x256, .f32⟩
  | 53 => ⟨S16x2048x4x2x32, .f32⟩
  | 54 => ⟨S16x4x2x2048x32, .f32⟩
  | 55 => ⟨S16x256x4x2x32, .f32⟩
  | 56 => ⟨S16x4x2x256x32, .f32⟩
  | 57 => ⟨S16x4x2x2304x32, .f32⟩
  | 58 => ⟨S16x2048x4x64, .f32⟩
  | 59 => ⟨S16x4x2048x64, .f32⟩
  | 60 => ⟨S16x256x4x64, .f32⟩
  | 61 => ⟨S16x4x256x64, .f32⟩
  | 62 => ⟨S16x4x2304x64, .f32⟩
  | 63 => ⟨S1x32, .f32⟩
  | 64 => ⟨S32, .f32⟩
  | 65 => ⟨S1x32, .f32⟩
  | 66 => ⟨S32, .f32⟩
  | 67 => ⟨S32, .f32⟩
  | 68 => ⟨S_, .f32⟩
  | 69 => ⟨S_, .f32⟩
  | 70 => ⟨S_, .f32⟩
  | 71 => ⟨S1x32, .f32⟩
  | 72 => ⟨S32, .f32⟩
  | 73 => ⟨S1x32, .f32⟩
  | 74 => ⟨S32, .f32⟩
  | 75 => ⟨S32, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S16x2048x4x2x32, .f32⟩
  | 83 => ⟨S16x4x2x2048x32, .f32⟩
  | 84 => ⟨S16x4x2x2048x2304, .f32⟩
  | 85 => ⟨S_, .f32⟩
  | 86 => ⟨S16x4x2x2048x2304, .f32⟩
  | 87 => ⟨S16x4x2x2048x2304, .f32⟩
  | 88 => ⟨S_, .f32⟩
  | 89 => ⟨S16x4x2x2048, .f32⟩
  | 90 => ⟨S_, .f32⟩
  | 91 => ⟨S16x4x2x2048, .f32⟩
  | 92 => ⟨S16x4x2x2048, .f32⟩
  | 93 => ⟨S16x4x2x2048x1, .f32⟩
  | 94 => ⟨S16x4x2x2048x2304, .f32⟩
  | 95 => ⟨S16x4x2x2048x2304, .f32⟩
  | 96 => ⟨S16x4x2x2048x2304, .f32⟩
  | 97 => ⟨S_, .f32⟩
  | 98 => ⟨S16x4x2x2048, .f32⟩
  | 99 => ⟨S16x4x2x2048x1, .f32⟩
  | 100 => ⟨S16x4x2x2048x2304, .f32⟩
  | 101 => ⟨S16x4x2x2048x2304, .f32⟩
  | 102 => ⟨S16x4x1x2048x2304, .f32⟩
  | 103 => ⟨S16x4x2048x2304, .f32⟩
  | 104 => ⟨S16x4x1x2048x2304, .f32⟩
  | 105 => ⟨S16x4x2048x2304, .f32⟩
  | 106 => ⟨S16x4x2048x2304, .f32⟩
  | 107 => ⟨S16x4x2048x2304, .f32⟩
  | 108 => ⟨S16x4x2048x2304, .f32⟩
  | 109 => ⟨S16x4x2048x64, .f32⟩
  | 110 => ⟨S16x4x2048x64, .f32⟩
  | 111 => ⟨S_, .f32⟩
  | 112 => ⟨S16x4x2048, .f32⟩
  | 113 => ⟨S16x4x2048x1, .f32⟩
  | 114 => ⟨S_, .f32⟩
  | 115 => ⟨S16x4x2048x1, .f32⟩
  | 116 => ⟨S16x4x2048x1, .f32⟩
  | 117 => ⟨S_, .f32⟩
  | 118 => ⟨S16x4x2048x1, .f32⟩
  | 119 => ⟨S16x4x2048x1, .f32⟩
  | 120 => ⟨S16x4x2048x1, .f32⟩
  | 121 => ⟨S16x4x2048x64, .f32⟩
  | 122 => ⟨S16x4x2048x64, .f32⟩
  | 123 => ⟨S1x1x1x64, .f32⟩
  | 124 => ⟨S16x4x2048x64, .f32⟩
  | 125 => ⟨S16x4x2048x64, .f32⟩
  | 126 => ⟨S_, .f32⟩
  | 127 => ⟨S16x4x2048x64, .f32⟩
  | _ => ⟨S16x2048x1024, .f32⟩

abbrev hbmTy0_1 (i : Nat) : BufTy := match i % 128 with
  | 0 => ⟨S16x4x2048x64, .f32⟩
  | 1 => ⟨S16x2048x4x64, .f32⟩
  | 2 => ⟨S16x2048x256, .f32⟩
  | 3 => ⟨S_, .i32⟩
  | 4 => ⟨S_, .f32⟩
  | 5 => ⟨S16x2078x256, .f32⟩
  | 6 => ⟨S16x2048x256, .f32⟩
  | 7 => ⟨S1x256, .f32⟩
  | 8 => ⟨S256, .f32⟩
  | 9 => ⟨S1x1x256, .f32⟩
  | 10 => ⟨S16x2048x256, .f32⟩
  | 11 => ⟨S16x2048x256, .f32⟩
  | 12 => ⟨S_, .f32⟩
  | 13 => ⟨S16x2048x256, .f32⟩
  | 14 => ⟨S16x2048x256, .f32⟩
  | 15 => ⟨S16x2048x256, .f32⟩
  | 16 => ⟨S1x256, .f32⟩
  | 17 => ⟨S256, .f32⟩
  | 18 => ⟨S1x1x256, .f32⟩
  | 19 => ⟨S16x2048x256, .f32⟩
  | 20 => ⟨S16x2048x256, .f32⟩
  | 21 => ⟨S16x2048x256, .f32⟩
  | 22 => ⟨S16x2048x256, .f32⟩
  | 23 => ⟨S1x256, .f32⟩
  | 24 => ⟨S256, .f32⟩
  | 25 => ⟨S1x1x256, .f32⟩
  | 26 => ⟨S16x2048x256, .f32⟩
  | 27 => ⟨S16x2048x256, .f32⟩
  | 28 => ⟨S16x2048x256, .f32⟩
  | 29 => ⟨S16x2048x256, .f32⟩
  | 30 => ⟨S1x256, .f32⟩
  | 31 => ⟨S256, .f32⟩
  | 32 => ⟨S1x1x256, .f32⟩
  | 33 => ⟨S16x2048x256, .f32⟩
  | 34 => ⟨S16x2048x256, .f32⟩
  | 35 => ⟨S16x2048x256, .f32⟩
  | 36 => ⟨S16x2048x256, .f32⟩
  | 37 => ⟨S1x256, .f32⟩
  | 38 => ⟨S256, .f32⟩
  | 39 => ⟨S1x1x256, .f32⟩
  | 40 => ⟨S16x2048x256, .f32⟩
  | 41 => ⟨S16x2048x256, .f32⟩
  | 42 => ⟨S16x2048x256, .f32⟩
  | 43 => ⟨S16x2048x256, .f32⟩
  | 44 => ⟨S1x256, .f32⟩
  | 45 => ⟨S256, .f32⟩
  | 46 => ⟨S1x1x256, .f32⟩
  | 47 => ⟨S16x2048x256, .f32⟩
  | 48 => ⟨S16x2048x256, .f32⟩
  | 49 => ⟨S16x2048x256, .f32⟩
  | 50 => ⟨S16x2048x256, .f32⟩
  | 51 => ⟨S1x256, .f32⟩
  | 52 => ⟨S256, .f32⟩
  | 53 => ⟨S1x1x256, .f32⟩
  | 54 => ⟨S16x2048x256, .f32⟩
  | 55 => ⟨S16x2048x256, .f32⟩
  | 56 => ⟨S16x2048x256, .f32⟩
  | 57 => ⟨S16x2048x256, .f32⟩
  | 58 => ⟨S1x256, .f32⟩
  | 59 => ⟨S256, .f32⟩
  | 60 => ⟨S1x1x256, .f32⟩
  | 61 => ⟨S16x2048x256, .f32⟩
  | 62 => ⟨S16x2048x256, .f32⟩
  | 63 => ⟨S16x2048x256, .f32⟩
  | 64 => ⟨S16x2048x256, .f32⟩
  | 65 => ⟨S1x256, .f32⟩
  | 66 => ⟨S256, .f32⟩
  | 67 => ⟨S1x1x256, .f32⟩
  | 68 => ⟨S16x2048x256, .f32⟩
  | 69 => ⟨S16x2048x256, .f32⟩
  | 70 => ⟨S16x2048x256, .f32⟩
  | 71 => ⟨S16x2048x256, .f32⟩
  | 72 => ⟨S1x256, .f32⟩
  | 73 => ⟨S256, .f32⟩
  | 74 => ⟨S1x1x256, .f32⟩
  | 75 => ⟨S16x2048x256, .f32⟩
  | 76 => ⟨S16x2048x256, .f32⟩
  | 77 => ⟨S16x2048x256, .f32⟩
  | 78 => ⟨S16x2048x256, .f32⟩
  | 79 => ⟨S1x256, .f32⟩
  | 80 => ⟨S256, .f32⟩
  | 81 => ⟨S1x1x256, .f32⟩
  | 82 => ⟨S16x2048x256, .f32⟩
  | 83 => ⟨S16x2048x256, .f32⟩
  | 84 => ⟨S16x2048x256, .f32⟩
  | 85 => ⟨S16x2048x256, .f32⟩
  | 86 => ⟨S1x256, .f32⟩
  | 87 => ⟨S256, .f32⟩
  | 88 => ⟨S1x1x256, .f32⟩
  | 89 => ⟨S16x2048x256, .f32⟩
  | 90 => ⟨S16x2048x256, .f32⟩
  | 91 => ⟨S16x2048x256, .f32⟩
  | 92 => ⟨S16x2048x256, .f32⟩
  | 93 => ⟨S1x256, .f32⟩
  | 94 => ⟨S256, .f32⟩
  | 95 => ⟨S1x1x256, .f32⟩
  | 96 => ⟨S16x2048x256, .f32⟩
  | 97 => ⟨S16x2048x256, .f32⟩
  | 98 => ⟨S16x2048x256, .f32⟩
  | 99 => ⟨S16x2048x256, .f32⟩
  | 100 => ⟨S1x256, .f32⟩
  | 101 => ⟨S256, .f32⟩
  | 102 => ⟨S1x1x256, .f32⟩
  | 103 => ⟨S16x2048x256, .f32⟩
  | 104 => ⟨S16x2048x256, .f32⟩
  | 105 => ⟨S16x2048x256, .f32⟩
  | 106 => ⟨S16x2048x256, .f32⟩
  | 107 => ⟨S1x256, .f32⟩
  | 108 => ⟨S256, .f32⟩
  | 109 => ⟨S1x1x256, .f32⟩
  | 110 => ⟨S16x2048x256, .f32⟩
  | 111 => ⟨S16x2048x256, .f32⟩
  | 112 => ⟨S16x2048x256, .f32⟩
  | 113 => ⟨S16x2048x256, .f32⟩
  | 114 => ⟨S1x256, .f32⟩
  | 115 => ⟨S256, .f32⟩
  | 116 => ⟨S1x1x256, .f32⟩
  | 117 => ⟨S16x2048x256, .f32⟩
  | 118 => ⟨S16x2048x256, .f32⟩
  | 119 => ⟨S16x2048x256, .f32⟩
  | 120 => ⟨S16x2048x256, .f32⟩
  | 121 => ⟨S1x256, .f32⟩
  | 122 => ⟨S256, .f32⟩
  | 123 => ⟨S1x1x256, .f32⟩
  | 124 => ⟨S16x2048x256, .f32⟩
  | 125 => ⟨S16x2048x256, .f32⟩
  | 126 => ⟨S16x2048x256, .f32⟩
  | 127 => ⟨S16x2048x256, .f32⟩
  | _ => ⟨S16x2048x1024, .f32⟩

abbrev hbmTy0_2 (i : Nat) : BufTy := match i % 128 with
  | 0 => ⟨S1x256, .f32⟩
  | 1 => ⟨S256, .f32⟩
  | 2 => ⟨S1x1x256, .f32⟩
  | 3 => ⟨S16x2048x256, .f32⟩
  | 4 => ⟨S16x2048x256, .f32⟩
  | 5 => ⟨S16x2048x256, .f32⟩
  | 6 => ⟨S16x2048x256, .f32⟩
  | 7 => ⟨S1x256, .f32⟩
  | 8 => ⟨S256, .f32⟩
  | 9 => ⟨S1x1x256, .f32⟩
  | 10 => ⟨S16x2048x256, .f32⟩
  | 11 => ⟨S16x2048x256, .f32⟩
  | 12 => ⟨S16x2048x256, .f32⟩
  | 13 => ⟨S16x2048x256, .f32⟩
  | 14 => ⟨S1x256, .f32⟩
  | 15 => ⟨S256, .f32⟩
  | 16 => ⟨S1x1x256, .f32⟩
  | 17 => ⟨S16x2048x256, .f32⟩
  | 18 => ⟨S16x2048x256, .f32⟩
  | 19 => ⟨S16x2048x256, .f32⟩
  | 20 => ⟨S16x2048x256, .f32⟩
  | 21 => ⟨S1x256, .f32⟩
  | 22 => ⟨S256, .f32⟩
  | 23 => ⟨S1x1x256, .f32⟩
  | 24 => ⟨S16x2048x256, .f32⟩
  | 25 => ⟨S16x2048x256, .f32⟩
  | 26 => ⟨S16x2048x256, .f32⟩
  | 27 => ⟨S16x2048x256, .f32⟩
  | 28 => ⟨S1x256, .f32⟩
  | 29 => ⟨S256, .f32⟩
  | 30 => ⟨S1x1x256, .f32⟩
  | 31 => ⟨S16x2048x256, .f32⟩
  | 32 => ⟨S16x2048x256, .f32⟩
  | 33 => ⟨S16x2048x256, .f32⟩
  | 34 => ⟨S16x2048x256, .f32⟩
  | 35 => ⟨S1x256, .f32⟩
  | 36 => ⟨S256, .f32⟩
  | 37 => ⟨S1x1x256, .f32⟩
  | 38 => ⟨S16x2048x256, .f32⟩
  | 39 => ⟨S16x2048x256, .f32⟩
  | 40 => ⟨S16x2048x256, .f32⟩
  | 41 => ⟨S16x2048x256, .f32⟩
  | 42 => ⟨S1x256, .f32⟩
  | 43 => ⟨S256, .f32⟩
  | 44 => ⟨S1x1x256, .f32⟩
  | 45 => ⟨S16x2048x256, .f32⟩
  | 46 => ⟨S16x2048x256, .f32⟩
  | 47 => ⟨S16x2048x256, .f32⟩
  | 48 => ⟨S16x2048x256, .f32⟩
  | 49 => ⟨S1x256, .f32⟩
  | 50 => ⟨S256, .f32⟩
  | 51 => ⟨S1x1x256, .f32⟩
  | 52 => ⟨S16x2048x256, .f32⟩
  | 53 => ⟨S16x2048x256, .f32⟩
  | 54 => ⟨S16x2048x256, .f32⟩
  | 55 => ⟨S16x2048x256, .f32⟩
  | 56 => ⟨S1x256, .f32⟩
  | 57 => ⟨S256, .f32⟩
  | 58 => ⟨S1x1x256, .f32⟩
  | 59 => ⟨S16x2048x256, .f32⟩
  | 60 => ⟨S16x2048x256, .f32⟩
  | 61 => ⟨S16x2048x256, .f32⟩
  | 62 => ⟨S16x2048x256, .f32⟩
  | 63 => ⟨S1x256, .f32⟩
  | 64 => ⟨S256, .f32⟩
  | 65 => ⟨S1x1x256, .f32⟩
  | 66 => ⟨S16x2048x256, .f32⟩
  | 67 => ⟨S16x2048x256, .f32⟩
  | 68 => ⟨S16x2048x256, .f32⟩
  | 69 => ⟨S16x2048x256, .f32⟩
  | 70 => ⟨S1x256, .f32⟩
  | 71 => ⟨S256, .f32⟩
  | 72 => ⟨S1x1x256, .f32⟩
  | 73 => ⟨S16x2048x256, .f32⟩
  | 74 => ⟨S16x2048x256, .f32⟩
  | 75 => ⟨S16x2048x256, .f32⟩
  | 76 => ⟨S16x2048x256, .f32⟩
  | 77 => ⟨S1x256, .f32⟩
  | 78 => ⟨S256, .f32⟩
  | 79 => ⟨S1x1x256, .f32⟩
  | 80 => ⟨S16x2048x256, .f32⟩
  | 81 => ⟨S16x2048x256, .f32⟩
  | 82 => ⟨S16x2048x256, .f32⟩
  | 83 => ⟨S16x2048x256, .f32⟩
  | 84 => ⟨S1x256, .f32⟩
  | 85 => ⟨S256, .f32⟩
  | 86 => ⟨S1x1x256, .f32⟩
  | 87 => ⟨S16x2048x256, .f32⟩
  | 88 => ⟨S16x2048x256, .f32⟩
  | 89 => ⟨S16x2048x256, .f32⟩
  | 90 => ⟨S16x2048x256, .f32⟩
  | 91 => ⟨S1x256, .f32⟩
  | 92 => ⟨S256, .f32⟩
  | 93 => ⟨S1x1x256, .f32⟩
  | 94 => ⟨S16x2048x256, .f32⟩
  | 95 => ⟨S16x2048x256, .f32⟩
  | 96 => ⟨S16x2048x256, .f32⟩
  | 97 => ⟨S1x1x256, .f32⟩
  | 98 => ⟨S16x2048x256, .f32⟩
  | 99 => ⟨S16x2048x256, .f32⟩
  | 100 => ⟨S16x2048x256, .f32⟩
  | 101 => ⟨S_, .f32⟩
  | 102 => ⟨S16x2048, .f32⟩
  | 103 => ⟨S16x2048x1, .f32⟩
  | 104 => ⟨S_, .f32⟩
  | 105 => ⟨S16x2048x1, .f32⟩
  | 106 => ⟨S16x2048x1, .f32⟩
  | 107 => ⟨S_, .f32⟩
  | 108 => ⟨S16x2048x1, .f32⟩
  | 109 => ⟨S16x2048x1, .f32⟩
  | 110 => ⟨S16x2048x1, .f32⟩
  | 111 => ⟨S16x2048x256, .f32⟩
  | 112 => ⟨S16x2048x256, .f32⟩
  | 113 => ⟨S1x1x256, .f32⟩
  | 114 => ⟨S16x2048x256, .f32⟩
  | 115 => ⟨S16x2048x256, .f32⟩
  | 116 => ⟨S16x2048x256, .f32⟩
  | 117 => ⟨S16x2048x256, .f32⟩
  | 118 => ⟨S_, .f32⟩
  | 119 => ⟨S16x2048x256, .f32⟩
  | 120 => ⟨S16x2048x256, .f32⟩
  | 121 => ⟨S_, .f32⟩
  | 122 => ⟨S16x2048x256, .f32⟩
  | 123 => ⟨S16x2048x256, .f32⟩
  | 124 => ⟨S16x2048x256, .f32⟩
  | 125 => ⟨S16x2048x1024, .f32⟩
  | 126 => ⟨S16x2048x1024, .f32⟩
  | 127 => ⟨S16x1x1024, .f32⟩
  | _ => ⟨S16x2048x1024, .f32⟩

abbrev hbmTy0_3 (i : Nat) : BufTy := match i % 128 with
  | 0 => ⟨S16x2048x1024, .f32⟩
  | 1 => ⟨S16x2048x1024, .f32⟩
  | 2 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_cst_7 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_10 : Ref sig .tc := ⟨.hbm, 111, rfl⟩
abbrev main_v80 : Ref sig .tc := ⟨.hbm, 112, rfl⟩
abbrev main_v81 : Ref sig .tc := ⟨.hbm, 113, rfl⟩
abbrev main_cst_11 : Ref sig .tc := ⟨.hbm, 114, rfl⟩
abbrev main_v82 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c : Ref sig .tc := ⟨.hbm, 131, rfl⟩
abbrev main_call0_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_14 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_cst_15 : Ref sig .tc := ⟨.hbm, 357, rfl⟩
abbrev main_v319 : Ref sig .tc := ⟨.hbm, 358, rfl⟩
abbrev main_v320 : Ref sig .tc := ⟨.hbm, 359, rfl⟩
abbrev main_cst_16 : Ref sig .tc := ⟨.hbm, 360, rfl⟩
abbrev main_v321 : Ref sig .tc := ⟨.hbm, 361, rfl⟩
abbrev main_v322 : Ref sig .tc := ⟨.hbm, 362, rfl⟩
abbrev main_cst_17 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_call1_v0 : Ref sig .tc := ⟨.hbm, 372, rfl⟩
abbrev main_call1_v1 : Ref sig .tc := ⟨.hbm, 373, rfl⟩
abbrev main_call1_cst : Ref sig .tc := ⟨.hbm, 374, rfl⟩
abbrev main_call1_v2 : Ref sig .tc := ⟨.hbm, 375, rfl⟩
abbrev main_call1_v3 : Ref sig .tc := ⟨.hbm, 376, rfl⟩
abbrev main_call1_cst_0 : Ref sig .tc := ⟨.hbm, 377, rfl⟩
abbrev main_call1_v4 : Ref sig .tc := ⟨.hbm, 378, rfl⟩
abbrev main_call1_v5 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩

abbrev nD : Nat := 1
abbrev τ : Topo := Topo.v7x

variable {F : FTy → Type} [FloatOps F]
-- ==== Ffn.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S1x1024 : Shape := ⟨2, ![1, 1024]⟩
abbrev S1x1024x1024 : Shape := ⟨3, ![1, 1024, 1024]⟩
abbrev S1x9x1024 : Shape := ⟨3, ![1, 9, 1024]⟩
abbrev S1024x1024 : Shape := ⟨2, ![1024, 1024]⟩
abbrev S9x1024 : Shape := ⟨2, ![9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x256 : Shape := ⟨2, ![256, 256]⟩
abbrev S256x2816 : Shape := ⟨2, ![256, 2816]⟩

abbrev nBuf : Space → Nat
  | .hbm => 17
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x2816, .f32⟩
  | .hbm, ⟨7, _⟩ => ⟨S1024x11x256, .f32⟩
  | .hbm, ⟨8, _⟩ => ⟨S1024x2816, .f32⟩
  | .hbm, ⟨9, _⟩ => ⟨S1024x11x256, .f32⟩
  | .hbm, ⟨10, _⟩ => ⟨S1024x11x512, .f32⟩
  | .hbm, ⟨11, _⟩ => ⟨S11x1024x512, .f32⟩
  | .hbm, ⟨12, _⟩ => ⟨S11x1024x512, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S11x1024x512, .bf16⟩
  | .local _ .vmem, ⟨6, _⟩ => ⟨S2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | .local _ .vmem, ⟨11, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2048x2816 : Shape := ⟨3, ![16, 2048, 2816]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x1x1024, .f32⟩
  | .hbm, ⟨29, _⟩ => ⟨S16x2048x1024, .f32⟩
  | .hbm, ⟨30, _⟩ => ⟨S16x2048x1024, .f32⟩
  | .hbm, ⟨31, _⟩ => ⟨S16x2048x5632, .f32⟩
  | .hbm, ⟨32, _⟩ => ⟨S16x2048x2816, .f32⟩
  | .hbm, ⟨33, _⟩ => ⟨S16x2048x2816, .f32⟩
  | .hbm, ⟨34, _⟩ => ⟨S16x1x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x2048x2816, .f32⟩
  | .hbm, ⟨39, _⟩ => ⟨S16x2048x2816, .f32⟩
  | .hbm, ⟨40, _⟩ => ⟨S_, .f32⟩
  | .hbm, ⟨41, _⟩ => ⟨S16x2048x2816, .f32⟩
  | .hbm, ⟨42, _⟩ => ⟨S16x2048x2816, .f32⟩
  | .hbm, ⟨43, _⟩ => ⟨S_, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S16x2048x2816, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== First.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S1x1024 : Shape := ⟨2, ![1, 1024]⟩
abbrev S1x1024x1024 : Shape := ⟨3, ![1, 1024, 1024]⟩
abbrev S1x9x1024 : Shape := ⟨3, ![1, 9, 1024]⟩
abbrev S1024x1024 : Shape := ⟨2, ![1024, 1024]⟩
abbrev S9x1024 : Shape := ⟨2, ![9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x256 : Shape := ⟨2, ![256, 256]⟩
abbrev S256x2816 : Shape := ⟨2, ![256, 2816]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S2816x1024, .bf16⟩
  | .hbm, ⟨13, _⟩ => ⟨S1x1024, .f32⟩
  | .hbm, ⟨14, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S11x1024x512, .bf16⟩
  | .local _ .vmem, ⟨6, _⟩ => ⟨S2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FirstRefIdeal.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2048x2816 : Shape := ⟨3, ![16, 2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x5632, .f32⟩
  | .hbm, ⟨31, _⟩ => ⟨S16x2048x2816, .f32⟩
  | .hbm, ⟨32, _⟩ => ⟨S16x2048x2816, .f32⟩
  | .hbm, ⟨33, _⟩ => ⟨S16x1x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x2816, .f32⟩
  | .hbm, ⟨38, _⟩ => ⟨S16x2048x2816, .f32⟩
  | .hbm, ⟨39, _⟩ => ⟨S_, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Second.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S1x1024 : Shape := ⟨2, ![1, 1024]⟩
abbrev S1x1024x1024 : Shape := ⟨3, ![1, 1024, 1024]⟩
abbrev S1x9x1024 : Shape := ⟨3, ![1, 9, 1024]⟩
abbrev S1024x1024 : Shape := ⟨2, ![1024, 1024]⟩
abbrev S9x1024 : Shape := ⟨2, ![9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x256 : Shape := ⟨2, ![256, 256]⟩
abbrev S256x2816 : Shape := ⟨2, ![256, 2816]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S2816x1024, .bf16⟩
  | .hbm, ⟨13, _⟩ => ⟨S1x1024, .f32⟩
  | .hbm, ⟨14, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S11x1024x512, .bf16⟩
  | .local _ .vmem, ⟨6, _⟩ => ⟨S2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SecondRefIdeal.lean ====
abbrev S16x2048x1024 : Shape := ⟨3, ![16, 2048, 1024]⟩
abbrev S16x9x1024 : Shape := ⟨3, ![16, 9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2048x2816 : Shape := ⟨3, ![16, 2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x5632, .f32⟩
  | .hbm, ⟨31, _⟩ => ⟨S16x2048x2816, .f32⟩
  | .hbm, ⟨32, _⟩ => ⟨S16x2048x2816, .f32⟩
  | .hbm, ⟨33, _⟩ => ⟨S16x1x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x2816, .f32⟩
  | .hbm, ⟨38, _⟩ => ⟨S16x2048x2816, .f32⟩
  | .hbm, ⟨39, _⟩ => ⟨S_, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.FfnMath.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

/-! The reference's result as a function of its six arguments, in named stages. -/

namespace Cert.FfnRefIdeal.Stage

open Cert.FfnRefIdeal Cert.FfnRefIdeal.Gen Idealize.ShloMosaic Idealize.ShloMosaic.TcCoe Idealize.SL.Sem

/-- A root-mean-square norm over the last axis, times a gain. -/
def norm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The two halves' common product: the modulated norm times the inner weight. -/
def inner (x : FVec Ideal S16x2048x1024 .f32) (mo : FVec Ideal S16x9x1024 .f32) (g : FVec Ideal S1024 .f32) (wi : FVec Ideal S1024x5632 .f32) : FVec Ideal S16x2048x5632 .f32 :=
  Host.dotGeneral (φ₁ := .f32) (φ₂ := .f32) dot_S16x2048x1024_S1024x5632_S16x2048x5632_2_0_01_1_n_n none (addf (mulf (norm x g) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 7, 0] mo slices_S16x9x1024_S16x1x1024_0_7_0)))) (broadcastInDim S16x2048x1024 ![0, 1, 2] bcast_S16x1x1024_S16x2048x1024_0_1_2 (extractStridedSlice S16x1x1024 ![0, 6, 0] mo slices_S16x9x1024_S16x1x1024_0_6_0))) wi

/-- The gated hidden layer of a product `y`: its first half times that half's logistic, times its second half. -/
def hidden (y : FVec Ideal S16x2048x5632 .f32) : FVec Ideal S16x2048x2816 .f32 :=
  mulf (mulf (extractStridedSlice S16x2048x2816 ![0, 0, 0] y slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] y slices_S16x2048x5632_S16x2048x2816_0_0_0)))))) (extractStridedSlice S16x2048x2816 ![0, 0, 2816] y slices_S16x2048x5632_S16x2048x2816_0_0_2816)

/-- The residual sum before the last norm. -/
def resid (x : FVec Ideal S16x2048x1024 .f32) (mo : FVec Ideal S16x9x1024 .f32) (g : FVec Ideal S1024 .f32) (wi : FVec Ideal S1024x5632 .f32) (wo : FVec Ideal S2816x1024 .f32) : FVec Ideal S16x2048x1024 .f32 :=
  addf x (mulf (broadcastInDim S16x2048x1024 ![0, 1, 2] bcast_S16x1x1024_S16x2048x1024_0_1_2 (mulf (broadcastInDim S16x1x1024 ![] bcast_S_S16x1x1024 (constant S_ .f32 0x3F000000#32)) (extractStridedSlice S16x1x1024 ![0, 8, 0] mo slices_S16x9x1024_S16x1x1024_0_8_0))) (Host.dotGeneral (φ₁ := .f32) (φ₂ := .f32) dot_S16x2048x2816_S2816x1024_S16x2048x1024_2_0_01_1_n_n none (hidden (inner x mo g wi)) wo))

/-- The result. -/
def result (x : FVec Ideal S16x2048x1024 .f32) (mo : FVec Ideal S16x9x1024 .f32) (g : FVec Ideal S1024 .f32) (wi : FVec Ideal S1024x5632 .f32) (wo : FVec Ideal S2816x1024 .f32) (gf : FVec Ideal S1024 .f32) : FVec Ideal S16x2048x1024 .f32 :=
  norm (resid x mo g wi wo) gf

set_option maxHeartbeats 2000000 in
/-- The run's composed term is these stages. -/
theorem result_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_out0 Value.res_main_v45 result resid hidden inner norm
  rfl

/-- A row over the root of its mean square, as a scalar formula. -/
def rowNorm (r : Fin 1024 → EReal) (d : Fin 1024) : EReal :=
  r d * Ideal.rsqrt (Ideal.div (∑ e, r e * r e) (Ideal.ofBits FTy.f32 1149239296#32) + Ideal.ofBits FTy.f32 897988541#32)

theorem norm_at (x : FVec Ideal S16x2048x1024 .f32) (g : FVec Ideal S1024 .f32) (b : Fin 16) (s : Fin 2048) (d : Fin 1024) :
    norm x g (ix3 b s d) = rowNorm (fun e => x (ix3 b s e)) d * g (ix1 d) := by
  pointwise [norm, rowNorm]

theorem hidden_at (y : FVec Ideal S16x2048x5632 .f32) (b : Fin 16) (s : Fin 2048) (d : Fin 2816) :
    hidden y (ix3 b s d) = y (ix3 b s ⟨(d : ℕ), by omega⟩) * Ideal.logistic (y (ix3 b s ⟨(d : ℕ), by omega⟩)) * y (ix3 b s ⟨2816 + (d : ℕ), by omega⟩) := by
  pointwise [hidden]
  rfl

theorem inner_at (x : FVec Ideal S16x2048x1024 .f32) (mo : FVec Ideal S16x9x1024 .f32) (g : FVec Ideal S1024 .f32) (wi : FVec Ideal S1024x5632 .f32) (b : Fin 16) (s : Fin 2048) (d : Fin 5632) :
    inner x mo g wi (ix3 b s d) = ∑ e, (norm x g (ix3 b s e) * (1 + mo (ix3 b 7 e)) + mo (ix3 b 6 e)) * wi (ix2 e d) := by
  pointwise [inner]

theorem resid_at (x : FVec Ideal S16x2048x1024 .f32) (mo : FVec Ideal S16x9x1024 .f32) (g : FVec Ideal S1024 .f32) (wi : FVec Ideal S1024x5632 .f32) (wo : FVec Ideal S2816x1024 .f32) (b : Fin 16) (s : Fin 2048) (d : Fin 1024) :
    resid x mo g wi wo (ix3 b s d) = x (ix3 b s d) + Ideal.ofBits FTy.f32 1056964608#32 * mo (ix3 b 8 d) * ∑ e, hidden (inner x mo g wi) (ix3 b s e) * wo (ix2 e d) := by
  pointwise [resid]

end Cert.FfnRefIdeal.Stage

namespace Cert.FfnIdeal.Part

open Cert.FfnIdeal Cert.FfnIdeal.Gen Idealize.ShloMosaic Idealize.ShloMosaic.TcCoe Idealize.SL.Sem

/-- One of the eleven column chunks of the joined inner weight. -/
def chunk (w : FVec Ideal S11x1024x512 .bf16) (k : Fin 11) : FVec Ideal S1x1024x512 .bf16 := fun i => w (ix3 k (i 1) (i 2))

/-- Eleven column chunks side by side. -/
def cat (g : Fin 11 → FVec Ideal S256x256 .bf16) : FVec Ideal S256x2816 .bf16 :=
  fun j => g ⟨(j 1 : ℕ) / 256, by have := (j 1).isLt; simp at this; omega⟩ (ix2 (j 0) ⟨(j 1 : ℕ) % 256, Nat.mod_lt _ (by decide)⟩)

open Cert.FfnRefIdeal.Stage (rowNorm)

theorem xn_at (x1 : FVec Ideal S1x9x1024 .f32) (xr : FVec Ideal S1x256x1024 .f32) (x2 : FVec Ideal S1x1024 .f32) (p : Fin 256) (d : Fin 1024) :
    k0_pay4 (F := Ideal) x1 xr x2 (ix2 p d) = rowNorm (fun e => xr (ix3 0 p e)) d * x2 (ix2 0 d) * (1 + x1 (ix3 0 7 d)) + x1 (ix3 0 6 d) := by
  pointwise [k0_pay4, k0_pay3, k0_pay1, rowNorm]

theorem gate_at (xb : FVec Ideal S256x1024 .bf16) (w : FVec Ideal S1x1024x512 .bf16) (p : Fin 256) (d : Fin 256) :
    k0_pay9 (F := Ideal) xb w (ix2 p d)
      = (∑ e, xb (ix2 p e) * w (ix3 0 e ⟨(d : ℕ), by omega⟩)) * Ideal.logistic (∑ e, xb (ix2 p e) * w (ix3 0 e ⟨(d : ℕ), by omega⟩))
        * ∑ e, xb (ix2 p e) * w (ix3 0 e ⟨256 + (d : ℕ), by omega⟩) := by
  pointwise [k0_pay9]

/-- A part's rows over any hidden layer. -/
def rows (x1 : FVec Ideal S1x9x1024 .f32) (xr : FVec Ideal S1x256x1024 .f32) (hm : FVec Ideal S256x2816 .bf16) (wo : FVec Ideal S2816x1024 .bf16) (gf : FVec Ideal S1x1024 .f32) : FVec Ideal S1x256x1024 .f32 :=
  k0_pay21 (F := Ideal) (k0_pay2 x1) (k0_pay3 xr) (k0_pay20 hm wo) (Scalar.ofBits .f32 0x3F000000#32) gf

theorem rows_at (x1 : FVec Ideal S1x9x1024 .f32) (xr : FVec Ideal S1x256x1024 .f32) (hm : FVec Ideal S256x2816 .bf16) (wo : FVec Ideal S2816x1024 .bf16) (gf : FVec Ideal S1x1024 .f32) (p : Fin 256) (d : Fin 1024) :
    rows x1 xr hm wo gf (ix3 0 p d)
      = rowNorm (fun d => xr (ix3 0 p d) + Ideal.ofBits FTy.f32 1056964608#32 * x1 (ix3 0 8 d) * ∑ k, hm (ix2 p k) * wo (ix2 k d)) d * gf (ix2 0 d) := by
  pointwise [rows, k0_pay21, k0_pay2, k0_pay3, k0_pay20, k0_pay1, rowNorm]

/-- A part's rows over the hidden layer its own gates make. -/
def part (x1 : FVec Ideal S1x9x1024 .f32) (xr : FVec Ideal S1x256x1024 .f32) (x2 : FVec Ideal S1x1024 .f32) (w : FVec Ideal S11x1024x512 .bf16) (wo : FVec Ideal S2816x1024 .bf16) (gf : FVec Ideal S1x1024 .f32) : FVec Ideal S1x256x1024 .f32 :=
  rows x1 xr (cat fun k => k0_pay9 (F := Ideal) (k0_pay4 (F := Ideal) x1 xr x2) (chunk w k)) wo gf

/-- The part's rows are the reference's, for any block contents that are the arguments' at row `s` of batch entry `b`. -/
theorem part_eq (x1 : FVec Ideal S1x9x1024 .f32) (xr : FVec Ideal S1x256x1024 .f32) (x2 : FVec Ideal S1x1024 .f32) (w : FVec Ideal S11x1024x512 .bf16) (wo : FVec Ideal S2816x1024 .bf16) (gf : FVec Ideal S1x1024 .f32)
    (X : FVec Ideal S16x2048x1024 .f32) (M : FVec Ideal S16x9x1024 .f32) (G : FVec Ideal S1024 .f32) (Wi : FVec Ideal S1024x5632 .f32) (Wo : FVec Ideal S2816x1024 .f32) (Gf : FVec Ideal S1024 .f32)
    (b : Fin 16) (s : Fin 2048) (p : Fin 256)
    (hx : ∀ d : Fin 1024, xr (ix3 0 p d) = X (ix3 b s d)) (hm : ∀ (a : Fin 9) (d : Fin 1024), x1 (ix3 0 a d) = M (ix3 b a d))
    (hg : ∀ d : Fin 1024, x2 (ix2 0 d) = G (ix1 d)) (hgf : ∀ d : Fin 1024, gf (ix2 0 d) = Gf (ix1 d))
    (hwo : ∀ (k : Fin 2816) (d : Fin 1024), wo (ix2 k d) = Wo (ix2 k d))
    (hwa : ∀ (k : Fin 11) (e : Fin 1024) (j : Fin 256), w (ix3 k e ⟨(j : ℕ), by omega⟩) = Wi (ix2 e ⟨256 * (k : ℕ) + (j : ℕ), by omega⟩))
    (hwb : ∀ (k : Fin 11) (e : Fin 1024) (j : Fin 256), w (ix3 k e ⟨256 + (j : ℕ), by omega⟩) = Wi (ix2 e ⟨2816 + (256 * (k : ℕ) + (j : ℕ)), by omega⟩))
    (d : Fin 1024) :
    part x1 xr x2 w wo gf (ix3 0 p d) = Cert.FfnRefIdeal.Stage.result X M G Wi Wo Gf (ix3 b s d) := by
  have hn : ∀ e : Fin 1024, k0_pay4 (F := Ideal) x1 xr x2 (ix2 p e) = Cert.FfnRefIdeal.Stage.norm X G (ix3 b s e) * (1 + M (ix3 b 7 e)) + M (ix3 b 6 e) := fun e => by
    rw [xn_at, Cert.FfnRefIdeal.Stage.norm_at]; simp only [hx, hm, hg]
  have hh : ∀ k : Fin 2816, (cat fun k => k0_pay9 (F := Ideal) (k0_pay4 (F := Ideal) x1 xr x2) (chunk w k)) (ix2 p k)
      = Cert.FfnRefIdeal.Stage.hidden (Cert.FfnRefIdeal.Stage.inner X M G Wi) (ix3 b s k) := fun k => by
    have e : 256 * ((k : ℕ) / 256) + (k : ℕ) % 256 = k := Nat.div_add_mod _ _
    have hk : (k : ℕ) / 256 < 11 := by omega
    have hj : (k : ℕ) % 256 < 256 := Nat.mod_lt _ (by decide)
    have ha := fun e => hwa ⟨(k : ℕ) / 256, hk⟩ e ⟨(k : ℕ) % 256, hj⟩
    have hb := fun e => hwb ⟨(k : ℕ) / 256, hk⟩ e ⟨(k : ℕ) % 256, hj⟩
    simp only [e] at ha hb
    rw [Cert.FfnRefIdeal.Stage.hidden_at, Cert.FfnRefIdeal.Stage.inner_at, Cert.FfnRefIdeal.Stage.inner_at]
    refine (gate_at _ _ p ⟨(k : ℕ) % 256, hj⟩).trans ?_
    simp only [hn]
    have ca : ∀ e : Fin 1024, chunk w ⟨(k : ℕ) / 256, hk⟩ (ix3 0 e ⟨(k : ℕ) % 256, by omega⟩) = Wi (ix2 e ⟨(k : ℕ), by omega⟩) := ha
    have cb : ∀ e : Fin 1024, chunk w ⟨(k : ℕ) / 256, hk⟩ (ix3 0 e ⟨256 + (k : ℕ) % 256, by omega⟩) = Wi (ix2 e ⟨2816 + (k : ℕ), by omega⟩) := hb
    show (∑ e, _ * chunk w ⟨(k : ℕ) / 256, hk⟩ (ix3 0 e ⟨(k : ℕ) % 256, _⟩)) * Ideal.logistic (∑ e, _ * chunk w ⟨(k : ℕ) / 256, hk⟩ (ix3 0 e ⟨(k : ℕ) % 256, _⟩)) * (∑ e, _ * chunk w ⟨(k : ℕ) / 256, hk⟩ (ix3 0 e ⟨256 + (k : ℕ) % 256, _⟩)) = _
    simp only [ca, cb]
  refine (rows_at x1 xr _ wo gf p d).trans ?_
  show _ = Cert.FfnRefIdeal.Stage.norm _ Gf (ix3 b s d)
  rw [Cert.FfnRefIdeal.Stage.norm_at]
  simp only [Cert.FfnRefIdeal.Stage.resid_at, hh, hx, hm, hwo, hgf]

end Cert.FfnIdeal.Part
-- ==== Proof.FfnPoint.lean ====
module

public import proofs.«01_k».proof.Proof.FfnMath

@[expose] public section

set_option maxRecDepth 16384

noncomputable section

/-! The kernel's result array: each point's four stored parts are the reference's rows. -/

namespace Cert.FfnIdeal.Part

open Cert.FfnIdeal Cert.FfnIdeal.Gen Idealize.ShloMosaic Idealize.ShloMosaic.TcCoe Idealize.SL.Sem

variable (m : (ℓ : Loc nD τ sig) → Buf (Elt Ideal) ℓ)

/-- The chunks as one function of the scratch's index, from row `o` on. -/
def catAt (g : Fin 11 → FVec Ideal S256x256 .bf16) (o : ℕ) : S1024x2816.Idx → EReal :=
  fun y => g ⟨(y 1 : ℕ) / 256, by have := (y 1).isLt; simp at this; omega⟩ (ix2 ⟨((y 0 : ℕ) - o) % 256, Nat.mod_lt _ (by decide)⟩ ⟨(y 1 : ℕ) % 256, Nat.mod_lt _ (by decide)⟩)

theorem piece_eq (g : Fin 11 → FVec Ideal S256x256 .bf16) (o k : ℕ) (i : Fin 11) (hk : k = 256 * (i : ℕ))
    (inb : ∀ a, (![o, k] : Fin 2 → ℕ) a + (![256, 256] : Fin 2 → ℕ) a ≤ S1024x2816.size a) (x : S256x256.Idx) :
    g i x = catAt g o ((Rect.unit (s := S1024x2816) ![o, k] ![256, 256] inb).emb x) := by
  subst hk
  have h0 : (((Rect.unit (s := S1024x2816) ![o, 256 * (i : ℕ)] ![256, 256] inb).emb x) 0 : ℕ) = o + 1 * (x 0 : ℕ) := rfl
  have h1 : (((Rect.unit (s := S1024x2816) ![o, 256 * (i : ℕ)] ![256, 256] inb).emb x) 1 : ℕ) = 256 * (i : ℕ) + 1 * (x 1 : ℕ) := rfl
  have b0 : (x 0 : ℕ) < 256 := (x 0).isLt
  have b1 : (x 1 : ℕ) < 256 := (x 1).isLt
  have e : (⟨(((Rect.unit (s := S1024x2816) ![o, 256 * (i : ℕ)] ![256, 256] inb).emb x) 1 : ℕ) / 256, by rw [h1]; have := i.isLt; omega⟩ : Fin 11) = i := Fin.ext (by
    show (((Rect.unit (s := S1024x2816) ![o, 256 * (i : ℕ)] ![256, 256] inb).emb x) 1 : ℕ) / 256 = _
    rw [h1]; omega)
  unfold catAt
  rw [e]
  congr 1
  funext a
  refine Fin.ext ?_
  match a with
  | ⟨0, _⟩ => show (x 0 : ℕ) = (_ - o) % 256; rw [h0]; omega
  | ⟨1, _⟩ => show (x 1 : ℕ) = _ % 256; rw [h1]; omega

theorem mem_piece (o k : ℕ) (io : ∀ a, (![o, 0] : Fin 2 → ℕ) a + (![256, 2816] : Fin 2 → ℕ) a ≤ S1024x2816.size a)
    (inb : ∀ a, (![o, k] : Fin 2 → ℕ) a + (![256, 256] : Fin 2 → ℕ) a ≤ S1024x2816.size a) (j : S256x2816.Idx) (h : k ≤ (j 1 : ℕ) ∧ (j 1 : ℕ) < k + 256) :
    (Rect.unit (s := S1024x2816) ![o, 0] ![256, 2816] io).toLoadRect.idx j ∈ (Rect.unit (s := S1024x2816) ![o, k] ![256, 256] inb).set := by
  refine Finset.mem_coe.mp ?_
  rw [Finset.mem_coe, Rect.mem_set_unit]
  have b0 : (j 0 : ℕ) < 256 := (j 0).isLt
  have h0 : (((Rect.unit (s := S1024x2816) ![o, 0] ![256, 2816] io).toLoadRect.idx j) 0 : ℕ) = o + 1 * (j 0 : ℕ) := rfl
  have h1 : (((Rect.unit (s := S1024x2816) ![o, 0] ![256, 2816] io).toLoadRect.idx j) 1 : ℕ) = 0 + 1 * (j 1 : ℕ) := rfl
  intro a
  match a with
  | ⟨0, _⟩ => exact ⟨by show o ≤ (((Rect.unit (s := S1024x2816) ![o, 0] ![256, 2816] io).toLoadRect.idx j) 0 : ℕ); omega, by show (((Rect.unit (s := S1024x2816) ![o, 0] ![256, 2816] io).toLoadRect.idx j) 0 : ℕ) < o + 256; omega⟩
  | ⟨1, _⟩ => exact ⟨by show k ≤ (((Rect.unit (s := S1024x2816) ![o, 0] ![256, 2816] io).toLoadRect.idx j) 1 : ℕ); omega, by show (((Rect.unit (s := S1024x2816) ![o, 0] ![256, 2816] io).toLoadRect.idx j) 1 : ℕ) < k + 256; omega⟩

theorem cat_read_fam {σ : RefSig} (v : View σ .tc .vmem S1024x2816 .bf16) (o : ℕ) (g : Fin 11 → FVec Ideal S256x256 .bf16)
    (i0 : ∀ a, (![o, 0] : Fin 2 → ℕ) a + (![256, 256] : Fin 2 → ℕ) a ≤ S1024x2816.size a) (i1 : ∀ a, (![o, 256] : Fin 2 → ℕ) a + (![256, 256] : Fin 2 → ℕ) a ≤ S1024x2816.size a) (i2 : ∀ a, (![o, 512] : Fin 2 → ℕ) a + (![256, 256] : Fin 2 → ℕ) a ≤ S1024x2816.size a) (i3 : ∀ a, (![o, 768] : Fin 2 → ℕ) a + (![256, 256] : Fin 2 → ℕ) a ≤ S1024x2816.size a) (i4 : ∀ a, (![o, 1024] : Fin 2 → ℕ) a + (![256, 256] : Fin 2 → ℕ) a ≤ S1024x2816.size a) (i5 : ∀ a, (![o, 1280] : Fin 2 → ℕ) a + (![256, 256] : Fin 2 → ℕ) a ≤ S1024x2816.size a) (i6 : ∀ a, (![o, 1536] : Fin 2 → ℕ) a + (![256, 256] : Fin 2 → ℕ) a ≤ S1024x2816.size a) (i7 : ∀ a, (![o, 1792] : Fin 2 → ℕ) a + (![256, 256] : Fin 2 → ℕ) a ≤ S1024x2816.size a) (i8 : ∀ a, (![o, 2048] : Fin 2 → ℕ) a + (![256, 256] : Fin 2 → ℕ) a ≤ S1024x2816.size a) (i9 : ∀ a, (![o, 2304] : Fin 2 → ℕ) a + (![256, 256] : Fin 2 → ℕ) a ≤ S1024x2816.size a) (i10 : ∀ a, (![o, 2560] : Fin 2 → ℕ) a + (![256, 256] : Fin 2 → ℕ) a ≤ S1024x2816.size a)
    (L' : List (View.Piece (Elt Ideal) S1024x2816 .bf16)) (io : ∀ a, (![o, 0] : Fin 2 → ℕ) a + (![256, 2816] : Fin 2 → ℕ) a ≤ S1024x2816.size a) :
    v.readCov (⟨Rect.unit ![o, 2560] ![256, 256] i10, g 10⟩ :: ⟨Rect.unit ![o, 2304] ![256, 256] i9, g 9⟩ :: ⟨Rect.unit ![o, 2048] ![256, 256] i8, g 8⟩ :: ⟨Rect.unit ![o, 1792] ![256, 256] i7, g 7⟩ :: ⟨Rect.unit ![o, 1536] ![256, 256] i6, g 6⟩ :: ⟨Rect.unit ![o, 1280] ![256, 256] i5, g 5⟩ :: ⟨Rect.unit ![o, 1024] ![256, 256] i4, g 4⟩ :: ⟨Rect.unit ![o, 768] ![256, 256] i3, g 3⟩ :: ⟨Rect.unit ![o, 512] ![256, 256] i2, g 2⟩ :: ⟨Rect.unit ![o, 256] ![256, 256] i1, g 1⟩ :: ⟨Rect.unit ![o, 0] ![256, 256] i0, g 0⟩ :: L') (Rect.unit ![o, 0] ![256, 2816] io).toLoadRect = cat g := by
  rw [View.readCov_eq_canon']
  funext j
  have b1 : (j 1 : ℕ) < 2816 := (j 1).isLt
  have b0 : (j 0 : ℕ) < 256 := (j 0).isLt
  refine (View.canon_append_of_piecesOf (Val := Elt Ideal) (e := .bf16) (catAt g o) L'
    [⟨Rect.unit ![o, 2560] ![256, 256] i10, g 10⟩, ⟨Rect.unit ![o, 2304] ![256, 256] i9, g 9⟩, ⟨Rect.unit ![o, 2048] ![256, 256] i8, g 8⟩, ⟨Rect.unit ![o, 1792] ![256, 256] i7, g 7⟩, ⟨Rect.unit ![o, 1536] ![256, 256] i6, g 6⟩, ⟨Rect.unit ![o, 1280] ![256, 256] i5, g 5⟩, ⟨Rect.unit ![o, 1024] ![256, 256] i4, g 4⟩, ⟨Rect.unit ![o, 768] ![256, 256] i3, g 3⟩, ⟨Rect.unit ![o, 512] ![256, 256] i2, g 2⟩, ⟨Rect.unit ![o, 256] ![256, 256] i1, g 1⟩, ⟨Rect.unit ![o, 0] ![256, 256] i0, g 0⟩] ⟨piece_eq g o 2560 10 rfl i10, piece_eq g o 2304 9 rfl i9, piece_eq g o 2048 8 rfl i8, piece_eq g o 1792 7 rfl i7, piece_eq g o 1536 6 rfl i6, piece_eq g o 1280 5 rfl i5, piece_eq g o 1024 4 rfl i4, piece_eq g o 768 3 rfl i3, piece_eq g o 512 2 rfl i2, piece_eq g o 256 1 rfl i1, piece_eq g o 0 0 rfl i0, trivial⟩ _ ?_).trans ?_
  · show ∃ p ∈ ([⟨Rect.unit ![o, 2560] ![256, 256] i10, g 10⟩, ⟨Rect.unit ![o, 2304] ![256, 256] i9, g 9⟩, ⟨Rect.unit ![o, 2048] ![256, 256] i8, g 8⟩, ⟨Rect.unit ![o, 1792] ![256, 256] i7, g 7⟩, ⟨Rect.unit ![o, 1536] ![256, 256] i6, g 6⟩, ⟨Rect.unit ![o, 1280] ![256, 256] i5, g 5⟩, ⟨Rect.unit ![o, 1024] ![256, 256] i4, g 4⟩, ⟨Rect.unit ![o, 768] ![256, 256] i3, g 3⟩, ⟨Rect.unit ![o, 512] ![256, 256] i2, g 2⟩, ⟨Rect.unit ![o, 256] ![256, 256] i1, g 1⟩, ⟨Rect.unit ![o, 0] ![256, 256] i0, g 0⟩] : List (View.Piece (Elt Ideal) S1024x2816 .bf16)), (Rect.unit (s := S1024x2816) ![o, 0] ![256, 2816] io).toLoadRect.idx j ∈ p.1.set
    by_cases c0 : (j 1 : ℕ) < 256
    · exact ⟨⟨Rect.unit ![o, 0] ![256, 256] i0, g 0⟩, by simp only [List.mem_cons, true_or, or_true], mem_piece o 0 io i0 j ⟨by omega, by omega⟩⟩
    by_cases c1 : (j 1 : ℕ) < 512
    · exact ⟨⟨Rect.unit ![o, 256] ![256, 256] i1, g 1⟩, by simp only [List.mem_cons, true_or, or_true], mem_piece o 256 io i1 j ⟨by omega, by omega⟩⟩
    by_cases c2 : (j 1 : ℕ) < 768
    · exact ⟨⟨Rect.unit ![o, 512] ![256, 256] i2, g 2⟩, by simp only [List.mem_cons, true_or, or_true], mem_piece o 512 io i2 j ⟨by omega, by omega⟩⟩
    by_cases c3 : (j 1 : ℕ) < 1024
    · exact ⟨⟨Rect.unit ![o, 768] ![256, 256] i3, g 3⟩, by simp only [List.mem_cons, true_or, or_true], mem_piece o 768 io i3 j ⟨by omega, by omega⟩⟩
    by_cases c4 : (j 1 : ℕ) < 1280
    · exact ⟨⟨Rect.unit ![o, 1024] ![256, 256] i4, g 4⟩, by simp only [List.mem_cons, true_or, or_true], mem_piece o 1024 io i4 j ⟨by omega, by omega⟩⟩
    by_cases c5 : (j 1 : ℕ) < 1536
    · exact ⟨⟨Rect.unit ![o, 1280] ![256, 256] i5, g 5⟩, by simp only [List.mem_cons, true_or, or_true], mem_piece o 1280 io i5 j ⟨by omega, by omega⟩⟩
    by_cases c6 : (j 1 : ℕ) < 1792
    · exact ⟨⟨Rect.unit ![o, 1536] ![256, 256] i6, g 6⟩, by simp only [List.mem_cons, true_or, or_true], mem_piece o 1536 io i6 j ⟨by omega, by omega⟩⟩
    by_cases c7 : (j 1 : ℕ) < 2048
    · exact ⟨⟨Rect.unit ![o, 1792] ![256, 256] i7, g 7⟩, by simp only [List.mem_cons, true_or, or_true], mem_piece o 1792 io i7 j ⟨by omega, by omega⟩⟩
    by_cases c8 : (j 1 : ℕ) < 2304
    · exact ⟨⟨Rect.unit ![o, 2048] ![256, 256] i8, g 8⟩, by simp only [List.mem_cons, true_or, or_true], mem_piece o 2048 io i8 j ⟨by omega, by omega⟩⟩
    by_cases c9 : (j 1 : ℕ) < 2560
    · exact ⟨⟨Rect.unit ![o, 2304] ![256, 256] i9, g 9⟩, by simp only [List.mem_cons, true_or, or_true], mem_piece o 2304 io i9 j ⟨by omega, by omega⟩⟩
    by_cases c10 : (j 1 : ℕ) < 2816
    · exact ⟨⟨Rect.unit ![o, 2560] ![256, 256] i10, g 10⟩, by simp only [List.mem_cons, true_or, or_true], mem_piece o 2560 io i10 j ⟨by omega, by omega⟩⟩
    omega
  · have h0 : (((Rect.unit (s := S1024x2816) ![o, 0] ![256, 2816] io).toLoadRect.idx j) 0 : ℕ) = o + 1 * (j 0 : ℕ) := rfl
    have h1 : (((Rect.unit (s := S1024x2816) ![o, 0] ![256, 2816] io).toLoadRect.idx j) 1 : ℕ) = 0 + 1 * (j 1 : ℕ) := rfl
    unfold catAt cat
    simp only [h0, h1]
    congr 1
    · refine Fin.ext ?_; show (0 + 1 * (j 1 : ℕ)) / 256 = (j 1 : ℕ) / 256; omega
    · funext a
      refine Fin.ext ?_
      match a with
      | ⟨0, _⟩ => show (o + 1 * (j 0 : ℕ) - o) % 256 = (j 0 : ℕ); omega
      | ⟨1, _⟩ => show (0 + 1 * (j 1 : ℕ)) % 256 = (j 1 : ℕ) % 256; omega

/-- Eleven column chunks stored over 256 rows of the scratch, read back as those rows. -/
theorem cat_read {σ : RefSig} (v : View σ .tc .vmem S1024x2816 .bf16) (o : ℕ) (g0 g1 g2 g3 g4 g5 g6 g7 g8 g9 g10 : FVec Ideal S256x256 .bf16)
    (i0 : ∀ a, (![o, 0] : Fin 2 → ℕ) a + (![256, 256] : Fin 2 → ℕ) a ≤ S1024x2816.size a) (i1 : ∀ a, (![o, 256] : Fin 2 → ℕ) a + (![256, 256] : Fin 2 → ℕ) a ≤ S1024x2816.size a) (i2 : ∀ a, (![o, 512] : Fin 2 → ℕ) a + (![256, 256] : Fin 2 → ℕ) a ≤ S1024x2816.size a) (i3 : ∀ a, (![o, 768] : Fin 2 → ℕ) a + (![256, 256] : Fin 2 → ℕ) a ≤ S1024x2816.size a) (i4 : ∀ a, (![o, 1024] : Fin 2 → ℕ) a + (![256, 256] : Fin 2 → ℕ) a ≤ S1024x2816.size a) (i5 : ∀ a, (![o, 1280] : Fin 2 → ℕ) a + (![256, 256] : Fin 2 → ℕ) a ≤ S1024x2816.size a) (i6 : ∀ a, (![o, 1536] : Fin 2 → ℕ) a + (![256, 256] : Fin 2 → ℕ) a ≤ S1024x2816.size a) (i7 : ∀ a, (![o, 1792] : Fin 2 → ℕ) a + (![256, 256] : Fin 2 → ℕ) a ≤ S1024x2816.size a) (i8 : ∀ a, (![o, 2048] : Fin 2 → ℕ) a + (![256, 256] : Fin 2 → ℕ) a ≤ S1024x2816.size a) (i9 : ∀ a, (![o, 2304] : Fin 2 → ℕ) a + (![256, 256] : Fin 2 → ℕ) a ≤ S1024x2816.size a) (i10 : ∀ a, (![o, 2560] : Fin 2 → ℕ) a + (![256, 256] : Fin 2 → ℕ) a ≤ S1024x2816.size a)
    (L' : List (View.Piece (Elt Ideal) S1024x2816 .bf16)) (io : ∀ a, (![o, 0] : Fin 2 → ℕ) a + (![256, 2816] : Fin 2 → ℕ) a ≤ S1024x2816.size a) :
    v.readCov (⟨Rect.unit ![o, 2560] ![256, 256] i10, g10⟩ :: ⟨Rect.unit ![o, 2304] ![256, 256] i9, g9⟩ :: ⟨Rect.unit ![o, 2048] ![256, 256] i8, g8⟩ :: ⟨Rect.unit ![o, 1792] ![256, 256] i7, g7⟩ :: ⟨Rect.unit ![o, 1536] ![256, 256] i6, g6⟩ :: ⟨Rect.unit ![o, 1280] ![256, 256] i5, g5⟩ :: ⟨Rect.unit ![o, 1024] ![256, 256] i4, g4⟩ :: ⟨Rect.unit ![o, 768] ![256, 256] i3, g3⟩ :: ⟨Rect.unit ![o, 512] ![256, 256] i2, g2⟩ :: ⟨Rect.unit ![o, 256] ![256, 256] i1, g1⟩ :: ⟨Rect.unit ![o, 0] ![256, 256] i0, g0⟩ :: L') (Rect.unit ![o, 0] ![256, 2816] io).toLoadRect = cat ![g0, g1, g2, g3, g4, g5, g6, g7, g8, g9, g10] :=
  cat_read_fam v o ![g0, g1, g2, g3, g4, g5, g6, g7, g8, g9, g10] i0 i1 i2 i3 i4 i5 i6 i7 i8 i9 i10 L' io

theorem ld_chunk (w : FVec Ideal S11x1024x512 .bf16) (k : Fin 11) (inb : ∀ a, (![(k : ℕ), 0, 0] : Fin 3 → ℕ) a + (![1, 1024, 512] : Fin 3 → ℕ) a ≤ S11x1024x512.size a) :
    (View.ld (Val := Elt Ideal) (e' := .bf16) w (Rect.unit (s := S11x1024x512) ![(k : ℕ), 0, 0] ![1, 1024, 512] inb) : FVec Ideal S1x1024x512 .bf16) = chunk w k := by
  funext i
  rw [View.ld_apply]
  unfold chunk
  congr 1
  funext a
  refine Fin.ext ?_
  have b0 : (i 0 : ℕ) < 1 := (i 0).isLt
  match a with
  | ⟨0, _⟩ => show (k : ℕ) + 1 * (i 0 : ℕ) = k; omega
  | ⟨1, _⟩ => show 0 + 1 * (i 1 : ℕ) = (i 1 : ℕ); omega
  | ⟨2, _⟩ => show 0 + 1 * (i 2 : ℕ) = (i 2 : ℕ); omega

/-- The eleven gates of the loaded chunks, as one family. -/
theorem gates_eq (xb : FVec Ideal S256x1024 .bf16) (w : FVec Ideal S11x1024x512 .bf16) :
    (![k0_pay9 (F := Ideal) xb (View.ld (Val := Elt Ideal) (e' := .bf16) w (Rect.unit (s := S11x1024x512) ![0, 0, 0] ![1, 1024, 512] inb_S11x1024x512_S1x1024x512_0_0_0)),
      k0_pay9 (F := Ideal) xb (View.ld (Val := Elt Ideal) (e' := .bf16) w (Rect.unit (s := S11x1024x512) ![1, 0, 0] ![1, 1024, 512] inb_S11x1024x512_S1x1024x512_1_0_0)),
      k0_pay9 (F := Ideal) xb (View.ld (Val := Elt Ideal) (e' := .bf16) w (Rect.unit (s := S11x1024x512) ![2, 0, 0] ![1, 1024, 512] inb_S11x1024x512_S1x1024x512_2_0_0)),
      k0_pay9 (F := Ideal) xb (View.ld (Val := Elt Ideal) (e' := .bf16) w (Rect.unit (s := S11x1024x512) ![3, 0, 0] ![1, 1024, 512] inb_S11x1024x512_S1x1024x512_3_0_0)),
      k0_pay9 (F := Ideal) xb (View.ld (Val := Elt Ideal) (e' := .bf16) w (Rect.unit (s := S11x1024x512) ![4, 0, 0] ![1, 1024, 512] inb_S11x1024x512_S1x1024x512_4_0_0)),
      k0_pay9 (F := Ideal) xb (View.ld (Val := Elt Ideal) (e' := .bf16) w (Rect.unit (s := S11x1024x512) ![5, 0, 0] ![1, 1024, 512] inb_S11x1024x512_S1x1024x512_5_0_0)),
      k0_pay9 (F := Ideal) xb (View.ld (Val := Elt Ideal) (e' := .bf16) w (Rect.unit (s := S11x1024x512) ![6, 0, 0] ![1, 1024, 512] inb_S11x1024x512_S1x1024x512_6_0_0)),
      k0_pay9 (F := Ideal) xb (View.ld (Val := Elt Ideal) (e' := .bf16) w (Rect.unit (s := S11x1024x512) ![7, 0, 0] ![1, 1024, 512] inb_S11x1024x512_S1x1024x512_7_0_0)),
      k0_pay9 (F := Ideal) xb (View.ld (Val := Elt Ideal) (e' := .bf16) w (Rect.unit (s := S11x1024x512) ![8, 0, 0] ![1, 1024, 512] inb_S11x1024x512_S1x1024x512_8_0_0)),
      k0_pay9 (F := Ideal) xb (View.ld (Val := Elt Ideal) (e' := .bf16) w (Rect.unit (s := S11x1024x512) ![9, 0, 0] ![1, 1024, 512] inb_S11x1024x512_S1x1024x512_9_0_0)),
      k0_pay9 (F := Ideal) xb (View.ld (Val := Elt Ideal) (e' := .bf16) w (Rect.unit (s := S11x1024x512) ![10, 0, 0] ![1, 1024, 512] inb_S11x1024x512_S1x1024x512_10_0_0))] : Fin 11 → FVec Ideal S256x256 .bf16) = fun k => k0_pay9 (F := Ideal) xb (chunk w k) := by
  funext k
  refine Eq.trans ?_ (congrArg (k0_pay9 (F := Ideal) xb) (ld_chunk w k (by
    intro a; have := k.isLt
    match a with
    | ⟨0, _⟩ => show (k : ℕ) + 1 ≤ 11; omega
    | ⟨1, _⟩ => show 0 + 1024 ≤ 1024; omega
    | ⟨2, _⟩ => show 0 + 512 ≤ 512; omega)))
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl

/-- A part over the chunks as the body loads them. -/
def partLd (x1 : FVec Ideal S1x9x1024 .f32) (xr : FVec Ideal S1x256x1024 .f32) (x2 : FVec Ideal S1x1024 .f32) (w : FVec Ideal S11x1024x512 .bf16) (wo : FVec Ideal S2816x1024 .bf16) (gf : FVec Ideal S1x1024 .f32) : FVec Ideal S1x256x1024 .f32 :=
  rows x1 xr (cat ![k0_pay9 (F := Ideal) (k0_pay4 (F := Ideal) x1 xr x2) (View.ld (Val := Elt Ideal) (e' := .bf16) w (Rect.unit (s := S11x1024x512) ![0, 0, 0] ![1, 1024, 512] inb_S11x1024x512_S1x1024x512_0_0_0)),
      k0_pay9 (F := Ideal) (k0_pay4 (F := Ideal) x1 xr x2) (View.ld (Val := Elt Ideal) (e' := .bf16) w (Rect.unit (s := S11x1024x512) ![1, 0, 0] ![1, 1024, 512] inb_S11x1024x512_S1x1024x512_1_0_0)),
      k0_pay9 (F := Ideal) (k0_pay4 (F := Ideal) x1 xr x2) (View.ld (Val := Elt Ideal) (e' := .bf16) w (Rect.unit (s := S11x1024x512) ![2, 0, 0] ![1, 1024, 512] inb_S11x1024x512_S1x1024x512_2_0_0)),
      k0_pay9 (F := Ideal) (k0_pay4 (F := Ideal) x1 xr x2) (View.ld (Val := Elt Ideal) (e' := .bf16) w (Rect.unit (s := S11x1024x512) ![3, 0, 0] ![1, 1024, 512] inb_S11x1024x512_S1x1024x512_3_0_0)),
      k0_pay9 (F := Ideal) (k0_pay4 (F := Ideal) x1 xr x2) (View.ld (Val := Elt Ideal) (e' := .bf16) w (Rect.unit (s := S11x1024x512) ![4, 0, 0] ![1, 1024, 512] inb_S11x1024x512_S1x1024x512_4_0_0)),
      k0_pay9 (F := Ideal) (k0_pay4 (F := Ideal) x1 xr x2) (View.ld (Val := Elt Ideal) (e' := .bf16) w (Rect.unit (s := S11x1024x512) ![5, 0, 0] ![1, 1024, 512] inb_S11x1024x512_S1x1024x512_5_0_0)),
      k0_pay9 (F := Ideal) (k0_pay4 (F := Ideal) x1 xr x2) (View.ld (Val := Elt Ideal) (e' := .bf16) w (Rect.unit (s := S11x1024x512) ![6, 0, 0] ![1, 1024, 512] inb_S11x1024x512_S1x1024x512_6_0_0)),
      k0_pay9 (F := Ideal) (k0_pay4 (F := Ideal) x1 xr x2) (View.ld (Val := Elt Ideal) (e' := .bf16) w (Rect.unit (s := S11x1024x512) ![7, 0, 0] ![1, 1024, 512] inb_S11x1024x512_S1x1024x512_7_0_0)),
      k0_pay9 (F := Ideal) (k0_pay4 (F := Ideal) x1 xr x2) (View.ld (Val := Elt Ideal) (e' := .bf16) w (Rect.unit (s := S11x1024x512) ![8, 0, 0] ![1, 1024, 512] inb_S11x1024x512_S1x1024x512_8_0_0)),
      k0_pay9 (F := Ideal) (k0_pay4 (F := Ideal) x1 xr x2) (View.ld (Val := Elt Ideal) (e' := .bf16) w (Rect.unit (s := S11x1024x512) ![9, 0, 0] ![1, 1024, 512] inb_S11x1024x512_S1x1024x512_9_0_0)),
      k0_pay9 (F := Ideal) (k0_pay4 (F := Ideal) x1 xr x2) (View.ld (Val := Elt Ideal) (e' := .bf16) w (Rect.unit (s := S11x1024x512) ![10, 0, 0] ![1, 1024, 512] inb_S11x1024x512_S1x1024x512_10_0_0))]) wo gf

theorem partLd_eq (x1 : FVec Ideal S1x9x1024 .f32) (xr : FVec Ideal S1x256x1024 .f32) (x2 : FVec Ideal S1x1024 .f32) (w : FVec Ideal S11x1024x512 .bf16) (wo : FVec Ideal S2816x1024 .bf16) (gf : FVec Ideal S1x1024 .f32) :
    partLd x1 xr x2 w wo gf = part x1 xr x2 w wo gf := by
  unfold partLd part
  rw [gates_eq]

theorem idx : ∀ t : Fin cfg0.N, win0_0.index t = ![t.val / 2, t.val % 2, 0] ∧ win0_1.index t = ![t.val / 2, 0, 0] ∧ win0_2.index t = ![0, 0]
    ∧ win0_3.index t = ![0, 0, 0] ∧ win0_4.index t = ![0, 0] ∧ win0_5.index t = ![0, 0] ∧ win0_6.index t = ![t.val / 2, t.val % 2, 0] ∧ t.val < 32 :=
  (by decide +kernel : ∀ t : Fin grid0.N, _)

theorem gain_at (c : Dev nD) (d : Fin 1024) : V m c main_v8 (ix2 0 d) = m ((c : Thread nD τ).loc main_arg2) (ix1 d) := by
  entry_read; pointwise

theorem last_gain_at (c : Dev nD) (d : Fin 1024) : V m c main_v9 (ix2 0 d) = m ((c : Thread nD τ).loc main_arg5) (ix1 d) := by
  entry_read; pointwise

theorem outer_at (c : Dev nD) (k : Fin 2816) (d : Fin 1024) : V m c main_v7 (ix2 k d) = m ((c : Thread nD τ).loc main_arg4) (ix2 k d) := by
  entry_read; pointwise

theorem first_half_at (c : Dev nD) (k : Fin 11) (e : Fin 1024) (j : Fin 256) :
    V m c main_v6 (ix3 k e ⟨(j : ℕ), by omega⟩) = m ((c : Thread nD τ).loc main_arg3) (ix2 e ⟨256 * (k : ℕ) + (j : ℕ), by omega⟩) := by
  entry_read; pointwise
  blk_ext

theorem second_half_at (c : Dev nD) (k : Fin 11) (e : Fin 1024) (j : Fin 256) :
    V m c main_v6 (ix3 k e ⟨256 + (j : ℕ), by omega⟩) = m ((c : Thread nD τ).loc main_arg3) (ix2 e ⟨2816 + (256 * (k : ℕ) + (j : ℕ)), by omega⟩) := by
  entry_read; pointwise
  blk_ext

/-- What a point's part stores at its own row `p`, placed at row `o + p` of the block: the reference's result there. -/
theorem point (c : Dev nD) (t : Fin cfg0.N) (o : ℕ) (inb : ∀ a, (![0, o, 0] : Fin 3 → ℕ) a + (![1, 256, 1024] : Fin 3 → ℕ) a ≤ S1x1024x1024.size a)
    (x : S1x256x1024.Idx) (j : S16x2048x1024.Idx) (h0 : (j 0 : ℕ) = t.val / 2) (h1 : (j 1 : ℕ) = t.val % 2 * 1024 + (o + x 1)) (h2 : (j 2 : ℕ) = x 2) :
    partLd (iblk m c 1 t) (View.ld (Val := Elt Ideal) (e' := .f32) (iblk m c 0 t) (Rect.unit (s := S1x1024x1024) ![0, o, 0] ![1, 256, 1024] inb)) (iblk m c 2 t) (iblk m c 3 t) (iblk m c 4 t) (iblk m c 5 t) x
      = Cert.FfnRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [partLd_eq]
  obtain ⟨z, p, d, rfl⟩ : ∃ (z : Fin 1) (p : Fin 256) (d : Fin 1024), x = ix3 z p d := ⟨x 0, x 1, x 2, by idx_ext⟩
  obtain ⟨b, s, d', rfl⟩ : ∃ (b : Fin 16) (s : Fin 2048) (d' : Fin 1024), j = ix3 b s d' := ⟨j 0, j 1, j 2, by idx_ext⟩
  obtain rfl : z = 0 := Subsingleton.elim _ _
  obtain rfl : d' = d := Fin.ext h2
  replace h0 : (b : ℕ) = t.val / 2 := h0
  replace h1 : (s : ℕ) = t.val % 2 * 1024 + (o + p) := h1
  refine part_eq _ _ _ _ _ _ _ _ _ _ _ _ b s p ?_ ?_ ?_ ?_ ?_ ?_ ?_ d'
  · intro d
    have hp : o + (p : ℕ) < 1024 := by have := inb 1; have e : (![0, o, 0] : Fin 3 → ℕ) 1 + (![1, 256, 1024] : Fin 3 → ℕ) 1 = o + 256 := rfl; have e' : S1x1024x1024.size 1 = 1024 := rfl; omega
    refine (View.ld_unit_apply_of (Val := Elt Ideal) (e := .f32) (iblk m c 0 t) ![0, o, 0] ![1, 256, 1024] inb (ix3 0 p d) (ix3 0 ⟨o + (p : ℕ), hp⟩ d) ?_).trans ?_
    · intro a
      match a with
      | ⟨0, _⟩ => rfl
      | ⟨1, _⟩ => rfl
      | ⟨2, _⟩ => show (d : ℕ) = 0 + d; omega
    · blk_ext [iblk, V, idx t]
  · intro a d; blk_ext [iblk, V, idx t]
  · intro d; refine Eq.trans ?_ (gain_at m c d); blk_ext [iblk, idx t]
  · intro d; refine Eq.trans ?_ (last_gain_at m c d); blk_ext [iblk, idx t]
  · intro k d; refine Eq.trans ?_ (outer_at m c k d); blk_ext [iblk, idx t]
  · intro k e j; refine Eq.trans ?_ (first_half_at m c k e j); blk_ext [iblk, idx t]
  · intro k e j; refine Eq.trans ?_ (second_half_at m c k e j); blk_ext [iblk, idx t]

set_option maxHeartbeats 2000000 in
theorem final (c : Dev nD) : (dats m 0 c).arrAt 6 cfg0.N = Cert.FfnRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  frame_open
  simp (disch := decide) only [↓ View.readCov_skip, ↓ View.readCov_cons_toLoadRect, ↓ View.readCov_fill, cat_read]
  frame_out
  canon_tiles x h
  · refine Eq.trans ?_ (point m c t 768 inb_S1x1024x1024_S1x256x1024_0_768_0 x _ ?_ ?_ ?_)
    · rfl
    all_goals (blk_simp [idx t] <;> try omega)
  · refine Eq.trans ?_ (point m c t 512 inb_S1x1024x1024_S1x256x1024_0_512_0 x _ ?_ ?_ ?_)
    · rfl
    all_goals (blk_simp [idx t] <;> try omega)
  · refine Eq.trans ?_ (point m c t 256 inb_S1x1024x1024_S1x256x1024_0_256_0 x _ ?_ ?_ ?_)
    · rfl
    all_goals (blk_simp [idx t] <;> try omega)
  · refine Eq.trans ?_ (point m c t 0 inb_S1x1024x1024_S1x256x1024_0_0_0 x _ ?_ ?_ ?_)
    · rfl
    all_goals (blk_simp [idx t] <;> try omega)

end Cert.FfnIdeal.Part
-- ==== Proof.FfnClaims.lean ====
module

public import proofs.«01_k».proof.Defs
public import proofs.«01_k».proof.Proof.FfnPoint
public import proofs.«01_k».proof.Proof.Gen.Ffn.Frame
public import Idealize.ShloMosaic.Lib.Quiescent

@[expose] public section

noncomputable section

/-! The feed-forward's claims. -/

namespace Cert.Proof.FfnClaims

open Idealize.ShloMosaic Idealize.ShloMosaic.TcCoe Idealize.SL.Sem

theorem frame_kernel : Cert.quiescent_Ffn := fun m ρ _ => Cert.Ffn.Gen.frame m ρ

theorem frame_ideal : Cert.quiescent_FfnIdeal := fun m ρ _ => Cert.FfnIdeal.Gen.frame m ρ

theorem frame_reference : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem same_results : Cert.algebraic_FfnIdeal_FfnRefIdeal := by
  pair_intro
  · run_from Cert.FfnIdeal.Gen.run_main m g
  · run_from Cert.FfnRefIdeal.Value.run m' g'
    refine (Cert.FfnRefIdeal.Stage.result_eq m' c).trans ?_
    obtain ⟨h0, h1, h2, h3, h4, h5⟩ := hagree c
    rw [h0, h1, h2, h3, h4, h5]
    exact (Cert.FfnIdeal.Part.final m c).symm

end Cert.Proof.FfnClaims

end
-- ==== Proof.FfnHalf.lean ====
module

public import proofs.«01_k».proof.Proof.FfnPoint

@[expose] public section

set_option maxRecDepth 16384

noncomputable section

/-! A feed-forward half-step without a last norm, for any three rows of the modulation: what the reference computes, and
what the kernel's gates make of a row. -/

namespace Cert.FfnHalf

open Cert.FfnRefIdeal Cert.FfnRefIdeal.Gen Idealize.ShloMosaic Idealize.ShloMosaic.TcCoe Idealize.SL.Sem
open Cert.FfnRefIdeal.Stage (norm hidden rowNorm norm_at hidden_at)

/-- The gated product of two sums. -/
def gated (a b : EReal) : EReal := a * Ideal.logistic a * b

/-- The two halves' common product, for the rows `sh` (shift) and `sc` (scale) of the modulation. -/
def inner (x : FVec Ideal S16x2048x1024 .f32) (sh sc : FVec Ideal S16x1x1024 .f32) (g : FVec Ideal S1024 .f32) (wi : FVec Ideal S1024x5632 .f32) : FVec Ideal S16x2048x5632 .f32 :=
  Host.dotGeneral (φ₁ := .f32) (φ₂ := .f32) dot_S16x2048x1024_S1024x5632_S16x2048x5632_2_0_01_1_n_n none (addf (mulf (norm x g) (broadcastInDim S16x2048x1024 ![0, 1, 2] bcast_S16x1x1024_S16x2048x1024_0_1_2 (addf (broadcastInDim S16x1x1024 ![] bcast_S_S16x1x1024 (constant S_ .f32 0x3F800000#32)) sc))) (broadcastInDim S16x2048x1024 ![0, 1, 2] bcast_S16x1x1024_S16x2048x1024_0_1_2 sh)) wi

/-- The half-step's result, `ga` the modulation's gate. -/
def result (x : FVec Ideal S16x2048x1024 .f32) (sh sc ga : FVec Ideal S16x1x1024 .f32) (g : FVec Ideal S1024 .f32) (wi : FVec Ideal S1024x5632 .f32) (wo : FVec Ideal S2816x1024 .f32) : FVec Ideal S16x2048x1024 .f32 :=
  addf x (mulf (broadcastInDim S16x2048x1024 ![0, 1, 2] bcast_S16x1x1024_S16x2048x1024_0_1_2 (mulf (broadcastInDim S16x1x1024 ![] bcast_S_S16x1x1024 (constant S_ .f32 0x3F000000#32)) ga)) (Host.dotGeneral (φ₁ := .f32) (φ₂ := .f32) dot_S16x2048x2816_S2816x1024_S16x2048x1024_2_0_01_1_n_n none (hidden (inner x sh sc g wi)) wo))

theorem inner_at (x : FVec Ideal S16x2048x1024 .f32) (sh sc : FVec Ideal S16x1x1024 .f32) (g : FVec Ideal S1024 .f32) (wi : FVec Ideal S1024x5632 .f32) (b : Fin 16) (s : Fin 2048) (d : Fin 5632) :
    inner x sh sc g wi (ix3 b s d) = ∑ e, (norm x g (ix3 b s e) * (1 + sc (ix3 b 0 e)) + sh (ix3 b 0 e)) * wi (ix2 e d) := by
  pointwise [inner]

theorem result_sum (x : FVec Ideal S16x2048x1024 .f32) (sh sc ga : FVec Ideal S16x1x1024 .f32) (g : FVec Ideal S1024 .f32) (wi : FVec Ideal S1024x5632 .f32) (wo : FVec Ideal S2816x1024 .f32) (b : Fin 16) (s : Fin 2048) (d : Fin 1024) :
    result x sh sc ga g wi wo (ix3 b s d) = x (ix3 b s d) + Ideal.ofBits FTy.f32 1056964608#32 * ga (ix3 b 0 d) * ∑ e, hidden (inner x sh sc g wi) (ix3 b s e) * wo (ix2 e d) := by
  pointwise [result]

/-- A row after norm, gain, scale and shift. -/
def modRow (r g sc sh : Fin 1024 → EReal) (e : Fin 1024) : EReal := rowNorm r e * g e * (1 + sc e) + sh e

/-- The hidden layer's entry that a row makes. -/
def hid (row : Fin 1024 → EReal) (wi : FVec Ideal S1024x5632 .f32) (k : Fin 2816) : EReal :=
  gated (∑ e, row e * wi (ix2 e ⟨(k : ℕ), by omega⟩)) (∑ e, row e * wi (ix2 e ⟨2816 + (k : ℕ), by omega⟩))

/-- The half-step's result as one formula of a row. -/
theorem result_at (x : FVec Ideal S16x2048x1024 .f32) (sh sc ga : FVec Ideal S16x1x1024 .f32) (g : FVec Ideal S1024 .f32) (wi : FVec Ideal S1024x5632 .f32) (wo : FVec Ideal S2816x1024 .f32) (b : Fin 16) (s : Fin 2048) (d : Fin 1024) :
    result x sh sc ga g wi wo (ix3 b s d) = x (ix3 b s d) + Ideal.ofBits FTy.f32 1056964608#32 * ga (ix3 b 0 d)
      * ∑ k, hid (modRow (fun e => x (ix3 b s e)) (fun e => g (ix1 e)) (fun e => sc (ix3 b 0 e)) (fun e => sh (ix3 b 0 e))) wi k * wo (ix2 k d) := by
  rw [result_sum]
  simp only [hidden_at, inner_at, norm_at, hid, gated, modRow]

end Cert.FfnHalf

namespace Cert.FfnHalf

open Cert.FfnIdeal Cert.FfnIdeal.Gen Cert.FfnIdeal.Part Idealize.ShloMosaic Idealize.ShloMosaic.TcCoe Idealize.SL.Sem

/-- The hidden layer that the gates of the loaded chunks store, for normalised rows `xb`. -/
def store (xb : FVec Ideal S256x1024 .bf16) (w : FVec Ideal S11x1024x512 .bf16) : FVec Ideal S256x2816 .bf16 :=
  cat ![k0_pay9 (F := Ideal) xb (View.ld (Val := Elt Ideal) (e' := .bf16) w (Rect.unit (s := S11x1024x512) ![0, 0, 0] ![1, 1024, 512] inb_S11x1024x512_S1x1024x512_0_0_0)),
      k0_pay9 (F := Ideal) xb (View.ld (Val := Elt Ideal) (e' := .bf16) w (Rect.unit (s := S11x1024x512) ![1, 0, 0] ![1, 1024, 512] inb_S11x1024x512_S1x1024x512_1_0_0)),
      k0_pay9 (F := Ideal) xb (View.ld (Val := Elt Ideal) (e' := .bf16) w (Rect.unit (s := S11x1024x512) ![2, 0, 0] ![1, 1024, 512] inb_S11x1024x512_S1x1024x512_2_0_0)),
      k0_pay9 (F := Ideal) xb (View.ld (Val := Elt Ideal) (e' := .bf16) w (Rect.unit (s := S11x1024x512) ![3, 0, 0] ![1, 1024, 512] inb_S11x1024x512_S1x1024x512_3_0_0)),
      k0_pay9 (F := Ideal) xb (View.ld (Val := Elt Ideal) (e' := .bf16) w (Rect.unit (s := S11x1024x512) ![4, 0, 0] ![1, 1024, 512] inb_S11x1024x512_S1x1024x512_4_0_0)),
      k0_pay9 (F := Ideal) xb (View.ld (Val := Elt Ideal) (e' := .bf16) w (Rect.unit (s := S11x1024x512) ![5, 0, 0] ![1, 1024, 512] inb_S11x1024x512_S1x1024x512_5_0_0)),
      k0_pay9 (F := Ideal) xb (View.ld (Val := Elt Ideal) (e' := .bf16) w (Rect.unit (s := S11x1024x512) ![6, 0, 0] ![1, 1024, 512] inb_S11x1024x512_S1x1024x512_6_0_0)),
      k0_pay9 (F := Ideal) xb (View.ld (Val := Elt Ideal) (e' := .bf16) w (Rect.unit (s := S11x1024x512) ![7, 0, 0] ![1, 1024, 512] inb_S11x1024x512_S1x1024x512_7_0_0)),
      k0_pay9 (F := Ideal) xb (View.ld (Val := Elt Ideal) (e' := .bf16) w (Rect.unit (s := S11x1024x512) ![8, 0, 0] ![1, 1024, 512] inb_S11x1024x512_S1x1024x512_8_0_0)),
      k0_pay9 (F := Ideal) xb (View.ld (Val := Elt Ideal) (e' := .bf16) w (Rect.unit (s := S11x1024x512) ![9, 0, 0] ![1, 1024, 512] inb_S11x1024x512_S1x1024x512_9_0_0)),
      k0_pay9 (F := Ideal) xb (View.ld (Val := Elt Ideal) (e' := .bf16) w (Rect.unit (s := S11x1024x512) ![10, 0, 0] ![1, 1024, 512] inb_S11x1024x512_S1x1024x512_10_0_0))]

/-- Entry `k` of the stored hidden layer, from the row and the weight's columns. -/
theorem store_at (xb : FVec Ideal S256x1024 .bf16) (w : FVec Ideal S11x1024x512 .bf16) (Wi : FVec Ideal Cert.FfnRefIdeal.S1024x5632 .f32) (row : Fin 1024 → EReal) (p : Fin 256)
    (hn : ∀ e : Fin 1024, xb (ix2 p e) = row e)
    (hwa : ∀ (k : Fin 11) (e : Fin 1024) (j : Fin 256), w (ix3 k e ⟨(j : ℕ), by omega⟩) = Wi (ix2 e ⟨256 * (k : ℕ) + (j : ℕ), by omega⟩))
    (hwb : ∀ (k : Fin 11) (e : Fin 1024) (j : Fin 256), w (ix3 k e ⟨256 + (j : ℕ), by omega⟩) = Wi (ix2 e ⟨2816 + (256 * (k : ℕ) + (j : ℕ)), by omega⟩))
    (k : Fin 2816) : store xb w (ix2 p k) = hid row Wi k := by
  have e : 256 * ((k : ℕ) / 256) + (k : ℕ) % 256 = k := Nat.div_add_mod _ _
  have hk : (k : ℕ) / 256 < 11 := by omega
  have hj : (k : ℕ) % 256 < 256 := Nat.mod_lt _ (by decide)
  have ha := fun e => hwa ⟨(k : ℕ) / 256, hk⟩ e ⟨(k : ℕ) % 256, hj⟩
  have hb := fun e => hwb ⟨(k : ℕ) / 256, hk⟩ e ⟨(k : ℕ) % 256, hj⟩
  simp only [e] at ha hb
  unfold store
  rw [gates_eq]
  refine (gate_at xb (chunk w ⟨(k : ℕ) / 256, hk⟩) p ⟨(k : ℕ) % 256, hj⟩).trans ?_
  simp only [hn]
  have ca : ∀ e : Fin 1024, chunk w ⟨(k : ℕ) / 256, hk⟩ (ix3 0 e ⟨(k : ℕ) % 256, by omega⟩) = Wi (ix2 e ⟨(k : ℕ), by omega⟩) := ha
  have cb : ∀ e : Fin 1024, chunk w ⟨(k : ℕ) / 256, hk⟩ (ix3 0 e ⟨256 + (k : ℕ) % 256, by omega⟩) = Wi (ix2 e ⟨2816 + (k : ℕ), by omega⟩) := hb
  show (∑ e, _ * chunk w ⟨(k : ℕ) / 256, hk⟩ (ix3 0 e ⟨(k : ℕ) % 256, _⟩)) * Ideal.logistic (∑ e, _ * chunk w ⟨(k : ℕ) / 256, hk⟩ (ix3 0 e ⟨(k : ℕ) % 256, _⟩)) * (∑ e, _ * chunk w ⟨(k : ℕ) / 256, hk⟩ (ix3 0 e ⟨256 + (k : ℕ) % 256, _⟩)) = _
  simp only [ca, cb, hid, gated]

/-- A stored entry is the reference's result, for any block contents that are the arguments' at row `s` of batch entry `b`. -/
theorem part_at (xr : FVec Ideal S1x256x1024 .f32) (x2 : FVec Ideal S1x1024 .f32) (w : FVec Ideal S11x1024x512 .bf16) (wo : FVec Ideal S2816x1024 .bf16) (xb : FVec Ideal S256x1024 .bf16) (sh sc ga : Fin 1024 → EReal)
    (X : FVec Ideal Cert.FfnRefIdeal.S16x2048x1024 .f32) (SH SC GA : FVec Ideal Cert.FfnRefIdeal.S16x1x1024 .f32) (G : FVec Ideal Cert.FfnRefIdeal.S1024 .f32) (Wi : FVec Ideal Cert.FfnRefIdeal.S1024x5632 .f32) (Wo : FVec Ideal Cert.FfnRefIdeal.S2816x1024 .f32)
    (b : Fin 16) (s : Fin 2048) (p : Fin 256)
    (hb : ∀ e : Fin 1024, xb (ix2 p e) = modRow (fun e => xr (ix3 0 p e)) (fun e => x2 (ix2 0 e)) sc sh e)
    (hsh : ∀ e, sh e = SH (ix3 b 0 e)) (hsc : ∀ e, sc e = SC (ix3 b 0 e)) (hga : ∀ e, ga e = GA (ix3 b 0 e))
    (hx : ∀ d : Fin 1024, xr (ix3 0 p d) = X (ix3 b s d)) (hg : ∀ d : Fin 1024, x2 (ix2 0 d) = G (ix1 d))
    (hwo : ∀ (k : Fin 2816) (d : Fin 1024), wo (ix2 k d) = Wo (ix2 k d))
    (hwa : ∀ (k : Fin 11) (e : Fin 1024) (j : Fin 256), w (ix3 k e ⟨(j : ℕ), by omega⟩) = Wi (ix2 e ⟨256 * (k : ℕ) + (j : ℕ), by omega⟩))
    (hwb : ∀ (k : Fin 11) (e : Fin 1024) (j : Fin 256), w (ix3 k e ⟨256 + (j : ℕ), by omega⟩) = Wi (ix2 e ⟨2816 + (256 * (k : ℕ) + (j : ℕ)), by omega⟩))
    (d : Fin 1024) :
    xr (ix3 0 p d) + Ideal.ofBits FTy.f32 1056964608#32 * ga d * ∑ k, store xb w (ix2 p k) * wo (ix2 k d) = result X SH SC GA G Wi Wo (ix3 b s d) := by
  rw [result_at]
  simp only [store_at xb w Wi _ p hb hwa hwb, hx, hg, hwo, hga, hsh, hsc, modRow, hid]

theorem row_lt (o : ℕ) (inb : ∀ a, (![0, o, 0] : Fin 3 → ℕ) a + (![1, 256, 1024] : Fin 3 → ℕ) a ≤ S1x1024x1024.size a) (p : Fin 256) : o + (p : ℕ) < 1024 := by
  have := inb 1
  have e : (![0, o, 0] : Fin 3 → ℕ) 1 + (![1, 256, 1024] : Fin 3 → ℕ) 1 = o + 256 := rfl
  have e' : S1x1024x1024.size 1 = 1024 := rfl
  omega

/-- Row `p` of the 256 rows loaded from row `o` on. -/
theorem ld_at (v : FVec Ideal S1x1024x1024 .f32) (o : ℕ) (inb : ∀ a, (![0, o, 0] : Fin 3 → ℕ) a + (![1, 256, 1024] : Fin 3 → ℕ) a ≤ S1x1024x1024.size a) (p : Fin 256) (d : Fin 1024) :
    (View.ld (Val := Elt Ideal) (e' := .f32) v (Rect.unit (s := S1x1024x1024) ![0, o, 0] ![1, 256, 1024] inb) : FVec Ideal S1x256x1024 .f32) (ix3 0 p d) = v (ix3 0 ⟨o + (p : ℕ), row_lt o inb p⟩ d) := by
  refine View.ld_unit_apply_of (Val := Elt Ideal) (e := .f32) v ![0, o, 0] ![1, 256, 1024] inb (ix3 0 p d) (ix3 0 ⟨o + (p : ℕ), row_lt o inb p⟩ d) ?_
  intro a
  match a with
  | ⟨0, _⟩ => rfl
  | ⟨1, _⟩ => rfl
  | ⟨2, _⟩ => show (d : ℕ) = 0 + d; omega

end Cert.FfnHalf
-- ==== Proof.FirstPoint.lean ====
module

public import proofs.«01_k».proof.Proof.Gen.FirstIdeal.Value
public import proofs.«01_k».proof.Proof.Gen.FirstRefIdeal.Run
public import proofs.«01_k».proof.Proof.FfnHalf

@[expose] public section

set_option maxRecDepth 16384

noncomputable section

/-! A layer's first feed-forward half-step: the kernel's result array is the reference's. -/

namespace Cert.FirstRefIdeal.Stage

open Cert.FirstRefIdeal Cert.FirstRefIdeal.Gen Idealize.ShloMosaic Idealize.ShloMosaic.TcCoe Idealize.SL.Sem

/-- The result: the half-step at rows 0, 1, 2 of the modulation. -/
def result (x : FVec Ideal S16x2048x1024 .f32) (mo : FVec Ideal S16x9x1024 .f32) (g : FVec Ideal S1024 .f32) (wi : FVec Ideal S1024x5632 .f32) (wo : FVec Ideal S2816x1024 .f32) : FVec Ideal S16x2048x1024 .f32 :=
  Cert.FfnHalf.result x (extractStridedSlice S16x1x1024 ![0, 0, 0] mo slices_S16x9x1024_S16x1x1024_0_0_0) (extractStridedSlice S16x1x1024 ![0, 1, 0] mo slices_S16x9x1024_S16x1x1024_0_1_0) (extractStridedSlice S16x1x1024 ![0, 2, 0] mo slices_S16x9x1024_S16x1x1024_0_2_0) g wi wo

set_option maxHeartbeats 2000000 in
/-- The run's composed term is that. -/
theorem result_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_out0 Value.res_main_v32 result Cert.FfnHalf.result Cert.FfnHalf.inner Cert.FfnRefIdeal.Stage.hidden Cert.FfnRefIdeal.Stage.norm
  rfl

end Cert.FirstRefIdeal.Stage

namespace Cert.FirstIdeal.Part

open Cert.FirstIdeal Cert.FirstIdeal.Gen Idealize.ShloMosaic Idealize.ShloMosaic.TcCoe Idealize.SL.Sem
open Cert.FfnIdeal.Part (cat_read)
open Cert.FfnHalf (store modRow part_at ld_at)
open Cert.FfnRefIdeal.Stage (rowNorm)

variable (m : (ℓ : Loc nD τ sig) → Buf (Elt Ideal) ℓ)

theorem xn_at (x1 : FVec Ideal S1x9x1024 .f32) (xr : FVec Ideal S1x256x1024 .f32) (x2 : FVec Ideal S1x1024 .f32) (p : Fin 256) (d : Fin 1024) :
    k0_pay6 (F := Ideal) x1 xr x2 (ix2 p d) = modRow (fun e => xr (ix3 0 p e)) (fun e => x2 (ix2 0 e)) (fun e => x1 (ix3 0 1 e)) (fun e => x1 (ix3 0 0 e)) d := by
  pointwise [k0_pay6, k0_pay5, k0_pay3, modRow, rowNorm]

/-- A part's rows over the hidden layer its own gates make. -/
def part (x1 : FVec Ideal S1x9x1024 .f32) (xr : FVec Ideal S1x256x1024 .f32) (x2 : FVec Ideal S1x1024 .f32) (w : FVec Ideal S11x1024x512 .bf16) (wo : FVec Ideal S2816x1024 .bf16) : FVec Ideal S1x256x1024 .f32 :=
  k0_pay2 (F := Ideal) (k0_pay4 x1) (k0_pay5 xr) (store (k0_pay6 (F := Ideal) x1 xr x2) w) wo

theorem rows_at (x1 : FVec Ideal S1x9x1024 .f32) (xr : FVec Ideal S1x256x1024 .f32) (hm : FVec Ideal S256x2816 .bf16) (wo : FVec Ideal S2816x1024 .bf16) (p : Fin 256) (d : Fin 1024) :
    k0_pay2 (F := Ideal) (k0_pay4 x1) (k0_pay5 xr) hm wo (ix3 0 p d) = xr (ix3 0 p d) + Ideal.ofBits FTy.f32 1056964608#32 * x1 (ix3 0 2 d) * ∑ k, hm (ix2 p k) * wo (ix2 k d) := by
  pointwise [k0_pay2, k0_pay4, k0_pay5, k0_pay3]

theorem idx : ∀ t : Fin cfg0.N, win0_0.index t = ![t.val / 2, t.val % 2, 0] ∧ win0_1.index t = ![t.val / 2, 0, 0] ∧ win0_2.index t = ![0, 0]
    ∧ win0_3.index t = ![0, 0, 0] ∧ win0_4.index t = ![0, 0] ∧ win0_5.index t = ![t.val / 2, t.val % 2, 0] ∧ t.val < 32 :=
  (by decide +kernel : ∀ t : Fin grid0.N, _)

theorem gain_at (c : Dev nD) (d : Fin 1024) : V m c main_v8 (ix2 0 d) = m ((c : Thread nD τ).loc main_arg2) (ix1 d) := by
  entry_read; pointwise

theorem outer_at (c : Dev nD) (k : Fin 2816) (d : Fin 1024) : V m c main_v7 (ix2 k d) = m ((c : Thread nD τ).loc main_arg4) (ix2 k d) := by
  entry_read; pointwise

theorem first_half_at (c : Dev nD) (k : Fin 11) (e : Fin 1024) (j : Fin 256) :
    V m c main_v6 (ix3 k e ⟨(j : ℕ), by omega⟩) = m ((c : Thread nD τ).loc main_arg3) (ix2 e ⟨256 * (k : ℕ) + (j : ℕ), by omega⟩) := by
  entry_read; pointwise
  blk_ext

theorem second_half_at (c : Dev nD) (k : Fin 11) (e : Fin 1024) (j : Fin 256) :
    V m c main_v6 (ix3 k e ⟨256 + (j : ℕ), by omega⟩) = m ((c : Thread nD τ).loc main_arg3) (ix2 e ⟨2816 + (256 * (k : ℕ) + (j : ℕ)), by omega⟩) := by
  entry_read; pointwise
  blk_ext

set_option maxHeartbeats 2000000 in
/-- What a point's part stores at its own row `p`, placed at row `o + p` of the block: the reference's result there. -/
theorem point (c : Dev nD) (t : Fin cfg0.N) (o : ℕ) (inb : ∀ a, (![0, o, 0] : Fin 3 → ℕ) a + (![1, 256, 1024] : Fin 3 → ℕ) a ≤ S1x1024x1024.size a)
    (x : S1x256x1024.Idx) (j : S16x2048x1024.Idx) (h0 : (j 0 : ℕ) = t.val / 2) (h1 : (j 1 : ℕ) = t.val % 2 * 1024 + (o + x 1)) (h2 : (j 2 : ℕ) = x 2) :
    part (iblk m c 1 t) (View.ld (Val := Elt Ideal) (e' := .f32) (iblk m c 0 t) (Rect.unit (s := S1x1024x1024) ![0, o, 0] ![1, 256, 1024] inb)) (iblk m c 2 t) (iblk m c 3 t) (iblk m c 4 t) x
      = Cert.FirstRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨z, p, d, rfl⟩ : ∃ (z : Fin 1) (p : Fin 256) (d : Fin 1024), x = ix3 z p d := ⟨x 0, x 1, x 2, by idx_ext⟩
  obtain ⟨b, s, d', rfl⟩ : ∃ (b : Fin 16) (s : Fin 2048) (d' : Fin 1024), j = ix3 b s d' := ⟨j 0, j 1, j 2, by idx_ext⟩
  obtain rfl : z = 0 := Subsingleton.elim _ _
  obtain rfl : d' = d := Fin.ext h2
  replace h0 : (b : ℕ) = t.val / 2 := h0
  replace h1 : (s : ℕ) = t.val % 2 * 1024 + (o + p) := h1
  have hm : ∀ (a : Fin 9) (d : Fin 1024), iblk m c 1 t (ix3 0 a d) = m ((c : Thread nD τ).loc main_arg1) (ix3 b a d) := fun a d => by blk_ext [iblk, V, idx t]
  unfold part Cert.FirstRefIdeal.Stage.result
  refine (rows_at _ _ _ _ p d').trans (part_at _ _ _ _ _ _ _ _ _ _ _ _ _ _ _ b s p (fun e => xn_at _ _ _ p e) (fun e => (hm 0 e).trans ?_) (fun e => (hm 1 e).trans ?_) (fun e => (hm 2 e).trans ?_) ?_ ?_ ?_ ?_ ?_ d')
  · pointwise
  · pointwise
  · pointwise
  · intro d; refine (ld_at (iblk m c 0 t) o inb p d).trans ?_; blk_ext [iblk, V, idx t]
  · intro d; refine Eq.trans ?_ (gain_at m c d); blk_ext [iblk, idx t]
  · intro k d; refine Eq.trans ?_ (outer_at m c k d); blk_ext [iblk, idx t]
  · intro k e j; refine Eq.trans ?_ (first_half_at m c k e j); blk_ext [iblk, idx t]
  · intro k e j; refine Eq.trans ?_ (second_half_at m c k e j); blk_ext [iblk, idx t]

set_option maxHeartbeats 2000000 in
theorem final (c : Dev nD) : (dats m 0 c).arrAt 5 cfg0.N = Cert.FirstRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill, cat_read]
  frame_out
  canon_tiles x h
  · refine Eq.trans ?_ (point m c t 768 inb_S1x1024x1024_S1x256x1024_0_768_0 x _ ?_ ?_ ?_)
    · rfl
    all_goals (blk_simp [idx t] <;> try omega)
  · refine Eq.trans ?_ (point m c t 512 inb_S1x1024x1024_S1x256x1024_0_512_0 x _ ?_ ?_ ?_)
    · rfl
    all_goals (blk_simp [idx t] <;> try omega)
  · refine Eq.trans ?_ (point m c t 256 inb_S1x1024x1024_S1x256x1024_0_256_0 x _ ?_ ?_ ?_)
    · rfl
    all_goals (blk_simp [idx t] <;> try omega)
  · refine Eq.trans ?_ (point m c t 0 inb_S1x1024x1024_S1x256x1024_0_0_0 x _ ?_ ?_ ?_)
    · rfl
    all_goals (blk_simp [idx t] <;> try omega)

end Cert.FirstIdeal.Part
-- ==== Proof.SecondPoint.lean ====
module

public import proofs.«01_k».proof.Proof.Gen.SecondIdeal.Value
public import proofs.«01_k».proof.Proof.Gen.SecondRefIdeal.Run
public import proofs.«01_k».proof.Proof.FfnHalf

@[expose] public section

set_option maxRecDepth 16384

noncomputable section

/-! A layer's second feed-forward half-step, where no last norm follows: the kernel's result array is the reference's. -/

namespace Cert.SecondRefIdeal.Stage

open Cert.SecondRefIdeal Cert.SecondRefIdeal.Gen Idealize.ShloMosaic Idealize.ShloMosaic.TcCoe Idealize.SL.Sem

/-- The result: the half-step at rows 6, 7, 8 of the modulation. -/
def result (x : FVec Ideal S16x2048x1024 .f32) (mo : FVec Ideal S16x9x1024 .f32) (g : FVec Ideal S1024 .f32) (wi : FVec Ideal S1024x5632 .f32) (wo : FVec Ideal S2816x1024 .f32) : FVec Ideal S16x2048x1024 .f32 :=
  Cert.FfnHalf.result x (extractStridedSlice S16x1x1024 ![0, 6, 0] mo slices_S16x9x1024_S16x1x1024_0_6_0) (extractStridedSlice S16x1x1024 ![0, 7, 0] mo slices_S16x9x1024_S16x1x1024_0_7_0) (extractStridedSlice S16x1x1024 ![0, 8, 0] mo slices_S16x9x1024_S16x1x1024_0_8_0) g wi wo

set_option maxHeartbeats 2000000 in
/-- The run's composed term is that. -/
theorem result_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_out0 Value.res_main_v32 result Cert.FfnHalf.result Cert.FfnHalf.inner Cert.FfnRefIdeal.Stage.hidden Cert.FfnRefIdeal.Stage.norm
  rfl

end Cert.SecondRefIdeal.Stage

namespace Cert.SecondIdeal.Part

open Cert.SecondIdeal Cert.SecondIdeal.Gen Idealize.ShloMosaic Idealize.ShloMosaic.TcCoe Idealize.SL.Sem
open Cert.FfnIdeal.Part (cat_read)
open Cert.FfnHalf (store modRow part_at ld_at)
open Cert.FfnRefIdeal.Stage (rowNorm)

variable (m : (ℓ : Loc nD τ sig) → Buf (Elt Ideal) ℓ)

theorem xn_at (x1 : FVec Ideal S1x9x1024 .f32) (xr : FVec Ideal S1x256x1024 .f32) (x2 : FVec Ideal S1x1024 .f32) (p : Fin 256) (d : Fin 1024) :
    k0_pay6 (F := Ideal) x1 xr x2 (ix2 p d) = modRow (fun e => xr (ix3 0 p e)) (fun e => x2 (ix2 0 e)) (fun e => x1 (ix3 0 7 e)) (fun e => x1 (ix3 0 6 e)) d := by
  pointwise [k0_pay6, k0_pay5, k0_pay3, modRow, rowNorm]

/-- A part's rows over the hidden layer its own gates make. -/
def part (x1 : FVec Ideal S1x9x1024 .f32) (xr : FVec Ideal S1x256x1024 .f32) (x2 : FVec Ideal S1x1024 .f32) (w : FVec Ideal S11x1024x512 .bf16) (wo : FVec Ideal S2816x1024 .bf16) : FVec Ideal S1x256x1024 .f32 :=
  k0_pay2 (F := Ideal) (k0_pay4 x1) (k0_pay5 xr) (store (k0_pay6 (F := Ideal) x1 xr x2) w) wo

theorem rows_at (x1 : FVec Ideal S1x9x1024 .f32) (xr : FVec Ideal S1x256x1024 .f32) (hm : FVec Ideal S256x2816 .bf16) (wo : FVec Ideal S2816x1024 .bf16) (p : Fin 256) (d : Fin 1024) :
    k0_pay2 (F := Ideal) (k0_pay4 x1) (k0_pay5 xr) hm wo (ix3 0 p d) = xr (ix3 0 p d) + Ideal.ofBits FTy.f32 1056964608#32 * x1 (ix3 0 8 d) * ∑ k, hm (ix2 p k) * wo (ix2 k d) := by
  pointwise [k0_pay2, k0_pay4, k0_pay5, k0_pay3]

theorem idx : ∀ t : Fin cfg0.N, win0_0.index t = ![t.val / 2, t.val % 2, 0] ∧ win0_1.index t = ![t.val / 2, 0, 0] ∧ win0_2.index t = ![0, 0]
    ∧ win0_3.index t = ![0, 0, 0] ∧ win0_4.index t = ![0, 0] ∧ win0_5.index t = ![t.val / 2, t.val % 2, 0] ∧ t.val < 32 :=
  (by decide +kernel : ∀ t : Fin grid0.N, _)

theorem gain_at (c : Dev nD) (d : Fin 1024) : V m c main_v8 (ix2 0 d) = m ((c : Thread nD τ).loc main_arg2) (ix1 d) := by
  entry_read; pointwise

theorem outer_at (c : Dev nD) (k : Fin 2816) (d : Fin 1024) : V m c main_v7 (ix2 k d) = m ((c : Thread nD τ).loc main_arg4) (ix2 k d) := by
  entry_read; pointwise

theorem first_half_at (c : Dev nD) (k : Fin 11) (e : Fin 1024) (j : Fin 256) :
    V m c main_v6 (ix3 k e ⟨(j : ℕ), by omega⟩) = m ((c : Thread nD τ).loc main_arg3) (ix2 e ⟨256 * (k : ℕ) + (j : ℕ), by omega⟩) := by
  entry_read; pointwise
  blk_ext

theorem second_half_at (c : Dev nD) (k : Fin 11) (e : Fin 1024) (j : Fin 256) :
    V m c main_v6 (ix3 k e ⟨256 + (j : ℕ), by omega⟩) = m ((c : Thread nD τ).loc main_arg3) (ix2 e ⟨2816 + (256 * (k : ℕ) + (j : ℕ)), by omega⟩) := by
  entry_read; pointwise
  blk_ext

set_option maxHeartbeats 2000000 in
/-- What a point's part stores at its own row `p`, placed at row `o + p` of the block: the reference's result there. -/
theorem point (c : Dev nD) (t : Fin cfg0.N) (o : ℕ) (inb : ∀ a, (![0, o, 0] : Fin 3 → ℕ) a + (![1, 256, 1024] : Fin 3 → ℕ) a ≤ S1x1024x1024.size a)
    (x : S1x256x1024.Idx) (j : S16x2048x1024.Idx) (h0 : (j 0 : ℕ) = t.val / 2) (h1 : (j 1 : ℕ) = t.val % 2 * 1024 + (o + x 1)) (h2 : (j 2 : ℕ) = x 2) :
    part (iblk m c 1 t) (View.ld (Val := Elt Ideal) (e' := .f32) (iblk m c 0 t) (Rect.unit (s := S1x1024x1024) ![0, o, 0] ![1, 256, 1024] inb)) (iblk m c 2 t) (iblk m c 3 t) (iblk m c 4 t) x
      = Cert.SecondRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨z, p, d, rfl⟩ : ∃ (z : Fin 1) (p : Fin 256) (d : Fin 1024), x = ix3 z p d := ⟨x 0, x 1, x 2, by idx_ext⟩
  obtain ⟨b, s, d', rfl⟩ : ∃ (b : Fin 16) (s : Fin 2048) (d' : Fin 1024), j = ix3 b s d' := ⟨j 0, j 1, j 2, by idx_ext⟩
  obtain rfl : z = 0 := Subsingleton.elim _ _
  obtain rfl : d' = d := Fin.ext h2
  replace h0 : (b : ℕ) = t.val / 2 := h0
  replace h1 : (s : ℕ) = t.val % 2 * 1024 + (o + p) := h1
  have hm : ∀ (a : Fin 9) (d : Fin 1024), iblk m c 1 t (ix3 0 a d) = m ((c : Thread nD τ).loc main_arg1) (ix3 b a d) := fun a d => by blk_ext [iblk, V, idx t]
  unfold part Cert.SecondRefIdeal.Stage.result
  refine (rows_at _ _ _ _ p d').trans (part_at _ _ _ _ _ _ _ _ _ _ _ _ _ _ _ b s p (fun e => xn_at _ _ _ p e) (fun e => (hm 6 e).trans ?_) (fun e => (hm 7 e).trans ?_) (fun e => (hm 8 e).trans ?_) ?_ ?_ ?_ ?_ ?_ d')
  · pointwise
  · pointwise
  · pointwise
  · intro d; refine (ld_at (iblk m c 0 t) o inb p d).trans ?_; blk_ext [iblk, V, idx t]
  · intro d; refine Eq.trans ?_ (gain_at m c d); blk_ext [iblk, idx t]
  · intro k d; refine Eq.trans ?_ (outer_at m c k d); blk_ext [iblk, idx t]
  · intro k e j; refine Eq.trans ?_ (first_half_at m c k e j); blk_ext [iblk, idx t]
  · intro k e j; refine Eq.trans ?_ (second_half_at m c k e j); blk_ext [iblk, idx t]

set_option maxHeartbeats 2000000 in
theorem final (c : Dev nD) : (dats m 0 c).arrAt 5 cfg0.N = Cert.SecondRefIdeal.Stage.result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill, cat_read]
  frame_out
  canon_tiles x h
  · refine Eq.trans ?_ (point m c t 768 inb_S1x1024x1024_S1x256x1024_0_768_0 x _ ?_ ?_ ?_)
    · rfl
    all_goals (blk_simp [idx t] <;> try omega)
  · refine Eq.trans ?_ (point m c t 512 inb_S1x1024x1024_S1x256x1024_0_512_0 x _ ?_ ?_ ?_)
    · rfl
    all_goals (blk_simp [idx t] <;> try omega)
  · refine Eq.trans ?_ (point m c t 256 inb_S1x1024x1024_S1x256x1024_0_256_0 x _ ?_ ?_ ?_)
    · rfl
    all_goals (blk_simp [idx t] <;> try omega)
  · refine Eq.trans ?_ (point m c t 0 inb_S1x1024x1024_S1x256x1024_0_0_0 x _ ?_ ?_ ?_)
    · rfl
    all_goals (blk_simp [idx t] <;> try omega)

end Cert.SecondIdeal.Part
-- ==== Proof.HalfClaims.lean ====
module

public import proofs.«01_k».proof.Defs
public import proofs.«01_k».proof.Proof.FirstPoint
public import proofs.«01_k».proof.Proof.SecondPoint
public import proofs.«01_k».proof.Proof.Gen.First.Frame
public import proofs.«01_k».proof.Proof.Gen.Second.Frame
public import Idealize.ShloMosaic.Lib.Quiescent

@[expose] public section

noncomputable section

/-! The claims of the two half-steps without a last norm. -/

namespace Cert.Proof.FirstClaims

open Idealize.ShloMosaic Idealize.ShloMosaic.TcCoe Idealize.SL.Sem

theorem frame_kernel : Cert.quiescent_First := fun m ρ _ => Cert.First.Gen.frame m ρ

theorem frame_ideal : Cert.quiescent_FirstIdeal := fun m ρ _ => Cert.FirstIdeal.Gen.frame m ρ

theorem frame_reference : Cert.quiescent_FirstRefIdeal := fun m ρ _ =>
  (θ_run Cert.FirstRefIdeal.defs _ _).mono
    (fun r h => ⟨fun c => (h c).2, Idealize.ShloMosaic.sem_eq_zero_of_no_sems (by decide) r.2⟩)
    (Cert.FirstRefIdeal.Value.run (F := Ideal) m ρ)

theorem same_results : Cert.algebraic_FirstIdeal_FirstRefIdeal := by
  pair_intro
  · run_from Cert.FirstIdeal.Gen.run_main m g
  · run_from Cert.FirstRefIdeal.Value.run m' g'
    refine (Cert.FirstRefIdeal.Stage.result_eq m' c).trans ?_
    obtain ⟨h0, h1, h2, h3, h4⟩ := hagree c
    rw [h0, h1, h2, h3, h4]
    exact (Cert.FirstIdeal.Part.final m c).symm

end Cert.Proof.FirstClaims

namespace Cert.Proof.SecondClaims

open Idealize.ShloMosaic Idealize.ShloMosaic.TcCoe Idealize.SL.Sem

theorem frame_kernel : Cert.quiescent_Second := fun m ρ _ => Cert.Second.Gen.frame m ρ

theorem frame_ideal : Cert.quiescent_SecondIdeal := fun m ρ _ => Cert.SecondIdeal.Gen.frame m ρ

theorem frame_reference : Cert.quiescent_SecondRefIdeal := fun m ρ _ =>
  (θ_run Cert.SecondRefIdeal.defs _ _).mono
    (fun r h => ⟨fun c => (h c).2, Idealize.ShloMosaic.sem_eq_zero_of_no_sems (by decide) r.2⟩)
    (Cert.SecondRefIdeal.Value.run (F := Ideal) m ρ)

theorem same_results : Cert.algebraic_SecondIdeal_SecondRefIdeal := by
  pair_intro
  · run_from Cert.SecondIdeal.Gen.run_main m g
  · run_from Cert.SecondRefIdeal.Value.run m' g'
    refine (Cert.SecondRefIdeal.Stage.result_eq m' c).trans ?_
    obtain ⟨h0, h1, h2, h3, h4⟩ := hagree c
    rw [h0, h1, h2, h3, h4]
    exact (Cert.SecondIdeal.Part.final m c).symm

end Cert.Proof.SecondClaims
-- ==== Proof.MixReal.lean ====
module

public import Idealize.ShloMosaic.Lib.Pointwise

@[expose] public section

noncomputable section

/-! Extended-real arithmetic of the attention: softmax over real scores, in the reference's form and in the kernel's. -/

namespace Cert.MixReal

open Idealize.ShloMosaic

/-- An extended real that is a real number. -/
def IsReal (x : EReal) : Prop := ∃ r : ℝ, x = (r : EReal)

theorem isReal_coe (r : ℝ) : IsReal (r : EReal) := ⟨r, rfl⟩

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.max {x y : EReal} (hx : IsReal x) (hy : IsReal y) : IsReal (max x y) := by
  rcases max_choice x y with h | h <;> rw [h] <;> assumption

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type*} (s : Finset ι) (f : ι → EReal) (h : ∀ i, IsReal (f i)) : IsReal (∑ i ∈ s, f i) := by
  choose g hg using h
  refine ⟨∑ i ∈ s, g i, ?_⟩
  rw [← coe_sum]; exact Finset.sum_congr rfl fun i _ => hg i

/-- The largest of a nonempty family of reals, folded from the bottom, is real. -/
theorem IsReal.fold_max {ι : Type*} (s : Finset ι) (f : ι → EReal) (h : ∀ i, IsReal (f i)) (hs : s.Nonempty) :
    IsReal (s.fold Max.max ⊥ f) := by
  classical
  have key : ∀ s : Finset ι, s = ∅ ∨ IsReal (s.fold Max.max ⊥ f) := by
    intro s
    induction s using Finset.induction_on with
    | empty => exact Or.inl rfl
    | insert a s ha ih =>
      right
      rw [Finset.fold_insert ha]
      rcases ih with rfl | ih
      · rw [Finset.fold_empty, max_eq_left bot_le]; exact h a
      · exact (h a).max ih
  exact (key s).resolve_left hs.ne_empty

theorem isReal_of_abs_lt_top {x : EReal} (h : max x (-x) < ⊤) : IsReal x := by
  induction x with
  | bot => simp at h
  | coe r => exact ⟨r, rfl⟩
  | top => simp at h

/-- Softmax of real scores `r`, weighting the values `w`. -/
def soft {n : ℕ} (r : Fin n → ℝ) (w : Fin n → EReal) : EReal :=
  ∑ k, ((Real.exp (r k) / ∑ j, Real.exp (r j) : ℝ) : EReal) * w k

theorem sum_exp_pos {n : ℕ} (hn : 0 < n) (r : Fin n → ℝ) : 0 < ∑ j, Real.exp (r j) :=
  Finset.sum_pos (fun _ _ => Real.exp_pos _) ⟨⟨0, hn⟩, Finset.mem_univ _⟩

theorem div_coe_coe {a b : ℝ} (hb : b ≠ 0) : Ideal.div (a : EReal) (b : EReal) = ((a / b : ℝ) : EReal) := by
  rw [Ideal.div_coe hb, ← EReal.coe_mul, mul_one_div]

/-- One weight of the shifted softmax: the shift cancels. -/
theorem weight_eq {n : ℕ} (hn : 0 < n) (r : Fin n → ℝ) (s : Fin n → EReal) (hs : ∀ k, s k = (r k : EReal)) (M : EReal)
    (hM : IsReal M) (k : Fin n) :
    Ideal.div (Ideal.exp (s k - M)) (∑ j, Ideal.exp (s j - M)) = ((Real.exp (r k) / ∑ j, Real.exp (r j) : ℝ) : EReal) := by
  obtain ⟨μ, rfl⟩ := hM
  have e : ∀ j, Ideal.exp (s j - (μ : EReal)) = ((Real.exp (r j) * Real.exp (-μ) : ℝ) : EReal) := fun j => by
    rw [hs, ← EReal.coe_sub, Ideal.exp_coe, ← Real.exp_add, sub_eq_add_neg]
  have hp := sum_exp_pos hn r
  simp only [e]
  rw [coe_sum, ← Finset.sum_mul, div_coe_coe (mul_pos hp (Real.exp_pos _)).ne', mul_div_mul_right _ _ (Real.exp_pos _).ne']

theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.2 hc) (EReal.coe_ne_top c), ih]

/-- The kernel's form: values times powers of two of scores in units of `log 2`, shifted by any real, over the powers' sum. -/
theorem soft_of_pow {n : ℕ} (hn : 0 < n) (r : Fin n → ℝ) (s : Fin n → EReal) (hs : ∀ k, s k = ((r k / Real.log 2 : ℝ) : EReal))
    (M : EReal) (hM : IsReal M) (w : Fin n → EReal) :
    Ideal.div (∑ k, w k * Ideal.exp2 (s k - M)) (∑ k, 1 * Ideal.exp2 (s k - M)) = soft r w := by
  obtain ⟨μ, rfl⟩ := hM
  have h2 : Real.log 2 ≠ 0 := (Real.log_pos one_lt_two).ne'
  have e : ∀ j, Ideal.exp2 (s j - (μ : EReal)) = ((Real.exp (r j) * Real.exp (-(μ * Real.log 2)) : ℝ) : EReal) := fun j => by
    rw [hs, ← EReal.coe_sub, Ideal.exp2_coe, ← Real.exp_add]
    congr 1
    show (2 : ℝ) ^ (r j / Real.log 2 - μ) = _
    rw [Real.rpow_def_of_pos two_pos]
    congr 1
    field_simp
    ring
  have hp := sum_exp_pos hn r
  have hq := Real.exp_pos (-(μ * Real.log 2))
  simp only [e, one_mul]
  rw [coe_sum, ← Finset.sum_mul, Ideal.div_coe (mul_pos hp hq).ne', sum_mul_real _ _ (one_div_nonneg.2 (mul_pos hp hq).le)]
  unfold soft
  refine Finset.sum_congr rfl fun k _ => ?_
  rw [mul_assoc, ← EReal.coe_mul, mul_comm]
  congr 2
  field_simp

theorem sum_split {M : Type*} [AddCommMonoid M] (f : Fin 2304 → M) :
    ∑ k, f k = (∑ k : Fin 2048, f ⟨(k : ℕ), by omega⟩) + ∑ k : Fin 256, f ⟨2048 + (k : ℕ), by omega⟩ :=
  Fin.sum_univ_add (a := 2048) (b := 256) f

theorem soft_isReal {n : ℕ} (r : Fin n → ℝ) (w : Fin n → EReal) (hw : ∀ k, IsReal (w k)) : IsReal (soft r w) :=
  IsReal.sum _ _ fun k => (isReal_coe _).mul (hw k)

/-- The difference of two softmaxes' weights, applied to real values, is the difference of the two applications. -/
theorem soft_sub {n : ℕ} (r r' : Fin n → ℝ) (l : EReal) (hl : IsReal l) (w : Fin n → EReal) (hw : ∀ k, IsReal (w k)) :
    ∑ k, (((Real.exp (r k) / ∑ j, Real.exp (r j) : ℝ) : EReal) - l * ((Real.exp (r' k) / ∑ j, Real.exp (r' j) : ℝ) : EReal)) * w k
      = soft r w - l * soft r' w := by
  obtain ⟨lm', rfl⟩ := hl
  choose v hv using hw
  unfold soft
  simp only [hv, ← EReal.coe_mul, ← EReal.coe_sub, coe_sum]
  congr 1
  rw [Finset.mul_sum, ← Finset.sum_sub_distrib]
  exact Finset.sum_congr rfl fun k _ => by ring

/-- A product sum against a masked factor is the sum over the mask. -/
theorem sum_masked {n w : ℕ} (lo : ℕ) (h : lo + w ≤ n) (f g : Fin n → EReal) (p : Fin n → Prop) [DecidablePred p]
    (hp : ∀ k, p k ↔ lo ≤ (k : ℕ) ∧ (k : ℕ) < lo + w) :
    ∑ k, f k * (if p k then g k else 0) = ∑ i : Fin w, f ⟨lo + (i : ℕ), by omega⟩ * g ⟨lo + (i : ℕ), by omega⟩ := by
  classical
  have e : ∀ k, f k * (if p k then g k else 0) = if p k then f k * g k else 0 := fun k => by
    split <;> simp
  simp only [e]
  rw [← Finset.sum_filter]
  refine (Finset.sum_nbij (fun i : Fin w => (⟨lo + (i : ℕ), by omega⟩ : Fin n)) ?_ ?_ ?_ ?_).symm
  · intro i _
    rw [Finset.mem_filter]
    exact ⟨Finset.mem_univ _, (hp _).2 ⟨Nat.le_add_right _ _, Nat.add_lt_add_left i.isLt _⟩⟩
  · intro i _ j _ hij
    have := congrArg Fin.val hij
    exact Fin.ext (by simpa using this)
  · intro k hk
    have hk' := (hp k).1 (Finset.mem_filter.1 (Finset.mem_coe.1 hk)).2
    exact ⟨⟨(k : ℕ) - lo, by omega⟩, Finset.mem_coe.2 (Finset.mem_univ _), Fin.ext (by simp; omega)⟩
  · intro i _; rfl

/-- Scaling one factor of a real product sum by `a / log 2` scales the sum. -/
theorem scaled_dot {n : ℕ} (x y : Fin n → EReal) (hx : ∀ k, IsReal (x k)) (hy : ∀ k, IsReal (y k)) (a : ℝ) (A : EReal) (hA : A = (a : EReal)) :
    ∃ r : ℝ, (∑ k, x k * y k) * A = (r : EReal)
      ∧ ∑ k, y k * (x k * Ideal.div A (Ideal.log 2)) = ((r / Real.log 2 : ℝ) : EReal) := by
  subst hA
  choose u hu using hx
  choose v hv using hy
  have h2 : Real.log 2 ≠ 0 := (Real.log_pos one_lt_two).ne'
  have hl : Ideal.log 2 = (Real.log 2 : EReal) := by
    rw [show (2 : EReal) = ((2 : ℝ) : EReal) from rfl, Ideal.log_coe, if_neg (by norm_num)]
  refine ⟨(∑ k, u k * v k) * a, ?_, ?_⟩
  · simp only [hu, hv, ← EReal.coe_mul, coe_sum]
  · simp only [hu, hv, hl, div_coe_coe h2, ← EReal.coe_mul, coe_sum]
    congr 1
    rw [mul_div_assoc, Finset.sum_mul]
    exact Finset.sum_congr rfl fun k _ => by ring

end Cert.MixReal

end
-- ==== Proof.MixRef.lean ====
module

public import proofs.«01_k».proof.Proof.Gen.MixRefIdeal.Run
public import proofs.«01_k».proof.Proof.MixReal
public import Idealize.ShloMosaic.Lib.Pipeline.ValueKit
public import Idealize.ShloMosaic.Lib.Pointwise

@[expose] public section

set_option maxRecDepth 16384

noncomputable section

/-! The mixer's reference result as a function of its twenty arguments, in named stages. -/

namespace Cert.MixRefIdeal.Stage

open Cert.MixRefIdeal Cert.MixRefIdeal.Gen Idealize.ShloMosaic Idealize.ShloMosaic.TcCoe Idealize.SL.Sem

/-- The first attention’s keys, latents before context. -/
def keysA (x4 : FVec Ideal S16x2048x128 .f32) (x8 : FVec Ideal S16x256x128 .f32) : FVec Ideal S16x2x2304x64 .f32 :=
  concatenate S16x2x2304x64 2 [⟨S16x2x2048x64, (transpose S16x2x2048x64 [0, 2, 1, 3] (shapeCast _ x4 shapeCasts_S16x2048x128_S16x2048x2x64) transposes_S16x2048x2x64_S16x2x2048x64_0_2_1_3)⟩, ⟨S16x2x256x64, (transpose S16x2x256x64 [0, 2, 1, 3] (shapeCast _ x8 shapeCasts_S16x256x128_S16x256x2x64) transposes_S16x256x2x64_S16x2x256x64_0_2_1_3)⟩] concatenates_S16x2x2048x64_S16x2x256x64_S16x2x2304x64_d2

/-- Its values. -/
def valsA (x5 : FVec Ideal S16x2048x128 .f32) (x9 : FVec Ideal S16x256x128 .f32) : FVec Ideal S16x2x2304x64 .f32 :=
  concatenate S16x2x2304x64 2 [⟨S16x2x2048x64, (transpose S16x2x2048x64 [0, 2, 1, 3] (shapeCast _ x5 shapeCasts_S16x2048x128_S16x2048x2x64) transposes_S16x2048x2x64_S16x2x2048x64_0_2_1_3)⟩, ⟨S16x2x256x64, (transpose S16x2x256x64 [0, 2, 1, 3] (shapeCast _ x9 shapeCasts_S16x256x128_S16x256x2x64) transposes_S16x256x2x64_S16x2x256x64_0_2_1_3)⟩] concatenates_S16x2x2048x64_S16x2x256x64_S16x2x2304x64_d2

/-- Its scores. -/
def scoresA (x2 : FVec Ideal S16x2048x256 .f32) (x4 : FVec Ideal S16x2048x128 .f32) (x8 : FVec Ideal S16x256x128 .f32) : FVec Ideal S16x2x2x2048x2304 .f32 :=
  mulf (Host.dotGeneral (φ₁ := .f32) (φ₂ := .f32) dot_S16x2x2x2048x64_S16x2x2304x64_S16x2x2x2048x2304_4_3_23_2_01_01 none (transpose S16x2x2x2048x64 [0, 2, 3, 1, 4] (shapeCast _ x2 shapeCasts_S16x2048x256_S16x2048x2x2x64) transposes_S16x2048x2x2x64_S16x2x2x2048x64_0_2_3_1_4) (keysA x4 x8)) (broadcastInDim S16x2x2x2048x2304 ![] bcast_S_S16x2x2x2048x2304 (constant S_ .f32 0x3E000000#32))

/-- Each row’s greatest score. -/
def maxA (s : FVec Ideal S16x2x2x2048x2304 .f32) : FVec Ideal S16x2x2x2048 .f32 :=
  Host.reduce FloatOps.maximumf s (constant S_ .f32 0xFF800000#32) reducesTo_S16x2x2x2048x2304_S16x2x2x2048_d4 h_S_

/-- The exponentials of scores shifted by a row value. -/
def expA (s : FVec Ideal S16x2x2x2048x2304 .f32) (m : FVec Ideal S16x2x2x2048 .f32) : FVec Ideal S16x2x2x2048x2304 .f32 :=
  Host.exp (subf s (broadcastInDim S16x2x2x2048x2304 ![0, 1, 2, 3, 4] bcast_S16x2x2x2048x1_S16x2x2x2048x2304_0_1_2_3_4 (broadcastInDim S16x2x2x2048x1 ![0, 1, 2, 3] bcast_S16x2x2x2048_S16x2x2x2048x1_0_1_2_3 (maximumf (broadcastInDim S16x2x2x2048 ![] bcast_S_S16x2x2x2048 (constant S_ .f32 0xFF800000#32)) m))))

/-- Exponentials over their sum. -/
def probA (e : FVec Ideal S16x2x2x2048x2304 .f32) : FVec Ideal S16x2x2x2048x2304 .f32 :=
  Host.divf e (broadcastInDim S16x2x2x2048x2304 ![0, 1, 2, 3, 4] bcast_S16x2x2x2048x1_S16x2x2x2048x2304_0_1_2_3_4 (broadcastInDim S16x2x2x2048x1 ![0, 1, 2, 3] bcast_S16x2x2x2048_S16x2x2x2048x1_0_1_2_3 (Host.reduceAdd e (constant S_ .f32 0x00000000#32) reducesTo_S16x2x2x2048x2304_S16x2x2x2048_d4 h_S_)))

/-- The weighted values, heads side by side. -/
def attA (p : FVec Ideal S16x2x2x2048x2304 .f32) (x5 : FVec Ideal S16x2048x128 .f32) (x9 : FVec Ideal S16x256x128 .f32) : FVec Ideal S16x2048x256 .f32 :=
  shapeCast _ (transpose S16x2048x2x2x64 [0, 3, 1, 2, 4] (Host.dotGeneral (φ₁ := .f32) (φ₂ := .f32) dot_S16x2x2x2048x2304_S16x2x2304x64_S16x2x2x2048x64_4_2_23_3_01_01 none p (valsA x5 x9)) transposes_S16x2x2x2048x64_S16x2048x2x2x64_0_3_1_2_4) shapeCasts_S16x2048x2x2x64_S16x2048x256

/-- The differential attention’s keys. -/
def keysC (x6 : FVec Ideal S16x2048x256 .f32) (x10 : FVec Ideal S16x256x256 .f32) : FVec Ideal S16x4x2x2304x32 .f32 :=
  concatenate S16x4x2x2304x32 3 [⟨S16x4x2x2048x32, (transpose S16x4x2x2048x32 [0, 2, 3, 1, 4] (shapeCast _ x6 shapeCasts_S16x2048x256_S16x2048x4x2x32) transposes_S16x2048x4x2x32_S16x4x2x2048x32_0_2_3_1_4)⟩, ⟨S16x4x2x256x32, (transpose S16x4x2x256x32 [0, 2, 3, 1, 4] (shapeCast _ x10 shapeCasts_S16x256x256_S16x256x4x2x32) transposes_S16x256x4x2x32_S16x4x2x256x32_0_2_3_1_4)⟩] concatenates_S16x4x2x2048x32_S16x4x2x256x32_S16x4x2x2304x32_d3

/-- Its values. -/
def valsC (x7 : FVec Ideal S16x2048x256 .f32) (x11 : FVec Ideal S16x256x256 .f32) : FVec Ideal S16x4x2304x64 .f32 :=
  concatenate S16x4x2304x64 2 [⟨S16x4x2048x64, (transpose S16x4x2048x64 [0, 2, 1, 3] (shapeCast _ x7 shapeCasts_S16x2048x256_S16x2048x4x64) transposes_S16x2048x4x64_S16x4x2048x64_0_2_1_3)⟩, ⟨S16x4x256x64, (transpose S16x4x256x64 [0, 2, 1, 3] (shapeCast _ x11 shapeCasts_S16x256x256_S16x256x4x64) transposes_S16x256x4x64_S16x4x256x64_0_2_1_3)⟩] concatenates_S16x4x2048x64_S16x4x256x64_S16x4x2304x64_d2

/-- Its scores. -/
def scoresC (x3 : FVec Ideal S16x2048x256 .f32) (x6 : FVec Ideal S16x2048x256 .f32) (x10 : FVec Ideal S16x256x256 .f32) : FVec Ideal S16x4x2x2048x2304 .f32 :=
  mulf (Host.dotGeneral (φ₁ := .f32) (φ₂ := .f32) dot_S16x4x2x2048x32_S16x4x2x2304x32_S16x4x2x2048x2304_4_4_3_3_012_012 none (transpose S16x4x2x2048x32 [0, 2, 3, 1, 4] (shapeCast _ x3 shapeCasts_S16x2048x256_S16x2048x4x2x32) transposes_S16x2048x4x2x32_S16x4x2x2048x32_0_2_3_1_4) (keysC x6 x10)) (broadcastInDim S16x4x2x2048x2304 ![] bcast_S_S16x4x2x2048x2304 (constant S_ .f32 0x3E3504F3#32))

/-- Each row’s greatest score. -/
def maxC (s : FVec Ideal S16x4x2x2048x2304 .f32) : FVec Ideal S16x4x2x2048 .f32 :=
  Host.reduce FloatOps.maximumf s (constant S_ .f32 0xFF800000#32) reducesTo_S16x4x2x2048x2304_S16x4x2x2048_d4 h_S_

/-- The exponentials of scores shifted by a row value. -/
def expC (s : FVec Ideal S16x4x2x2048x2304 .f32) (m : FVec Ideal S16x4x2x2048 .f32) : FVec Ideal S16x4x2x2048x2304 .f32 :=
  Host.exp (subf s (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (maximumf (broadcastInDim S16x4x2x2048 ![] bcast_S_S16x4x2x2048 (constant S_ .f32 0xFF800000#32)) m))))

/-- Exponentials over their sum. -/
def probC (e : FVec Ideal S16x4x2x2048x2304 .f32) : FVec Ideal S16x4x2x2048x2304 .f32 :=
  Host.divf e (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (Host.reduceAdd e (constant S_ .f32 0x00000000#32) reducesTo_S16x4x2x2048x2304_S16x4x2x2048_d4 h_S_)))

/-- The weight of the second softmax. -/
def lam (x18 : FVec Ideal S4x32 .f32) : FVec Ideal S_ .f32 :=
  addf (subf (Host.exp (Host.reduceAdd (mulf (shapeCast _ (extractStridedSlice S1x32 ![0, 0] x18 slices_S4x32_S1x32_0_0) shapeCasts_S1x32_S32) (shapeCast _ (extractStridedSlice S1x32 ![1, 0] x18 slices_S4x32_S1x32_1_0) shapeCasts_S1x32_S32)) (constant S_ .f32 0x00000000#32) reducesTo_S32_S_d0 h_S_)) (Host.exp (Host.reduceAdd (mulf (shapeCast _ (extractStridedSlice S1x32 ![2, 0] x18 slices_S4x32_S1x32_2_0) shapeCasts_S1x32_S32) (shapeCast _ (extractStridedSlice S1x32 ![3, 0] x18 slices_S4x32_S1x32_3_0) shapeCasts_S1x32_S32)) (constant S_ .f32 0x00000000#32) reducesTo_S32_S_d0 h_S_))) (constant S_ .f32 0x3E4CCCCD#32)

/-- The difference of the two softmaxes applied to the values. -/
def diffC (p : FVec Ideal S16x4x2x2048x2304 .f32) (x7 : FVec Ideal S16x2048x256 .f32) (x11 : FVec Ideal S16x256x256 .f32) (x18 : FVec Ideal S4x32 .f32) : FVec Ideal S16x4x2048x64 .f32 :=
  Host.dotGeneral (φ₁ := .f32) (φ₂ := .f32) dot_S16x4x2048x2304_S16x4x2304x64_S16x4x2048x64_3_2_2_3_01_01 none (subf (shapeCast _ (extractStridedSlice S16x4x1x2048x2304 ![0, 0, 0, 0, 0] p slices_S16x4x2x2048x2304_S16x4x1x2048x2304_0_0_0_0_0) shapeCasts_S16x4x1x2048x2304_S16x4x2048x2304) (mulf (broadcastInDim S16x4x2048x2304 ![] bcast_S_S16x4x2048x2304 (lam x18)) (shapeCast _ (extractStridedSlice S16x4x1x2048x2304 ![0, 0, 1, 0, 0] p slices_S16x4x2x2048x2304_S16x4x1x2048x2304_0_0_1_0_0) shapeCasts_S16x4x1x2048x2304_S16x4x2048x2304))) (valsC x7 x11)

/-- Its root-mean-square norm per head, heads side by side. -/
def attC (d : FVec Ideal S16x4x2048x64 .f32) (x17 : FVec Ideal S64 .f32) : FVec Ideal S16x2048x256 .f32 :=
  shapeCast _ (transpose S16x2048x4x64 [0, 2, 1, 3] (mulf (mulf (mulf d (broadcastInDim S16x4x2048x64 ![0, 1, 2, 3] bcast_S16x4x2048x1_S16x4x2048x64_0_1_2_3 (Host.rsqrt (addf (Host.divf (broadcastInDim S16x4x2048x1 ![0, 1, 2] bcast_S16x4x2048_S16x4x2048x1_0_1_2 (Host.reduceAdd (mulf d d) (constant S_ .f32 0x00000000#32) reducesTo_S16x4x2048x64_S16x4x2048_d3 h_S_)) (broadcastInDim S16x4x2048x1 ![] bcast_S_S16x4x2048x1 (constant S_ .f32 0x42800000#32))) (broadcastInDim S16x4x2048x1 ![] bcast_S_S16x4x2048x1 (constant S_ .f32 0x358637BD#32)))))) (broadcastInDim S16x4x2048x64 ![0, 1, 2, 3] bcast_S1x1x1x64_S16x4x2048x64_0_1_2_3 (broadcastInDim S1x1x1x64 ![3] bcast_S64_S1x1x1x64_3 x17))) (broadcastInDim S16x4x2048x64 ![] bcast_S_S16x4x2048x64 (constant S_ .f32 0x3F4CCCCD#32))) transposes_S16x4x2048x64_S16x2048x4x64_0_2_1_3) shapeCasts_S16x2048x4x64_S16x2048x256

/-- The convolution’s padded rows. -/
def padded (x13 : FVec Ideal S16x2048x256 .f32) : FVec Ideal S16x2078x256 .f32 :=
  pad S16x2078x256 ![0, 15, 0] ![0, 15, 0] ![0, 0, 0] x13 (sitofp .f32 (constantI S_ 32 0#32)) pads_S16x2048x256_S16x2078x256_000_15150_000 h_S_

/-- The first eleven taps. -/
def taps1 (p : FVec Ideal S16x2078x256 .f32) (x14 : FVec Ideal S31x256 .f32) : FVec Ideal S16x2048x256 .f32 :=
  addf (addf (addf (addf (addf (addf (addf (addf (addf (addf (addf (broadcastInDim S16x2048x256 ![] bcast_S_S16x2048x256 (constant S_ .f32 0x00000000#32)) (mulf (extractStridedSlice S16x2048x256 ![0, 0, 0] p slices_S16x2078x256_S16x2048x256_0_0_0) (broadcastInDim S16x2048x256 ![0, 1, 2] bcast_S1x1x256_S16x2048x256_0_1_2 (broadcastInDim S1x1x256 ![2] bcast_S256_S1x1x256_2 (shapeCast _ (extractStridedSlice S1x256 ![0, 0] x14 slices_S31x256_S1x256_0_0) shapeCasts_S1x256_S256))))) (mulf (extractStridedSlice S16x2048x256 ![0, 1, 0] p slices_S16x2078x256_S16x2048x256_0_1_0) (broadcastInDim S16x2048x256 ![0, 1, 2] bcast_S1x1x256_S16x2048x256_0_1_2 (broadcastInDim S1x1x256 ![2] bcast_S256_S1x1x256_2 (shapeCast _ (extractStridedSlice S1x256 ![1, 0] x14 slices_S31x256_S1x256_1_0) shapeCasts_S1x256_S256))))) (mulf (extractStridedSlice S16x2048x256 ![0, 2, 0] p slices_S16x2078x256_S16x2048x256_0_2_0) (broadcastInDim S16x2048x256 ![0, 1, 2] bcast_S1x1x256_S16x2048x256_0_1_2 (broadcastInDim S1x1x256 ![2] bcast_S256_S1x1x256_2 (shapeCast _ (extractStridedSlice S1x256 ![2, 0] x14 slices_S31x256_S1x256_2_0) shapeCasts_S1x256_S256))))) (mulf (extractStridedSlice S16x2048x256 ![0, 3, 0] p slices_S16x2078x256_S16x2048x256_0_3_0) (broadcastInDim S16x2048x256 ![0, 1, 2] bcast_S1x1x256_S16x2048x256_0_1_2 (broadcastInDim S1x1x256 ![2] bcast_S256_S1x1x256_2 (shapeCast _ (extractStridedSlice S1x256 ![3, 0] x14 slices_S31x256_S1x256_3_0) shapeCasts_S1x256_S256))))) (mulf (extractStridedSlice S16x2048x256 ![0, 4, 0] p slices_S16x2078x256_S16x2048x256_0_4_0) (broadcastInDim S16x2048x256 ![0, 1, 2] bcast_S1x1x256_S16x2048x256_0_1_2 (broadcastInDim S1x1x256 ![2] bcast_S256_S1x1x256_2 (shapeCast _ (extractStridedSlice S1x256 ![4, 0] x14 slices_S31x256_S1x256_4_0) shapeCasts_S1x256_S256))))) (mulf (extractStridedSlice S16x2048x256 ![0, 5, 0] p slices_S16x2078x256_S16x2048x256_0_5_0) (broadcastInDim S16x2048x256 ![0, 1, 2] bcast_S1x1x256_S16x2048x256_0_1_2 (broadcastInDim S1x1x256 ![2] bcast_S256_S1x1x256_2 (shapeCast _ (extractStridedSlice S1x256 ![5, 0] x14 slices_S31x256_S1x256_5_0) shapeCasts_S1x256_S256))))) (mulf (extractStridedSlice S16x2048x256 ![0, 6, 0] p slices_S16x2078x256_S16x2048x256_0_6_0) (broadcastInDim S16x2048x256 ![0, 1, 2] bcast_S1x1x256_S16x2048x256_0_1_2 (broadcastInDim S1x1x256 ![2] bcast_S256_S1x1x256_2 (shapeCast _ (extractStridedSlice S1x256 ![6, 0] x14 slices_S31x256_S1x256_6_0) shapeCasts_S1x256_S256))))) (mulf (extractStridedSlice S16x2048x256 ![0, 7, 0] p slices_S16x2078x256_S16x2048x256_0_7_0) (broadcastInDim S16x2048x256 ![0, 1, 2] bcast_S1x1x256_S16x2048x256_0_1_2 (broadcastInDim S1x1x256 ![2] bcast_S256_S1x1x256_2 (shapeCast _ (extractStridedSlice S1x256 ![7, 0] x14 slices_S31x256_S1x256_7_0) shapeCasts_S1x256_S256))))) (mulf (extractStridedSlice S16x2048x256 ![0, 8, 0] p slices_S16x2078x256_S16x2048x256_0_8_0) (broadcastInDim S16x2048x256 ![0, 1, 2] bcast_S1x1x256_S16x2048x256_0_1_2 (broadcastInDim S1x1x256 ![2] bcast_S256_S1x1x256_2 (shapeCast _ (extractStridedSlice S1x256 ![8, 0] x14 slices_S31x256_S1x256_8_0) shapeCasts_S1x256_S256))))) (mulf (extractStridedSlice S16x2048x256 ![0, 9, 0] p slices_S16x2078x256_S16x2048x256_0_9_0) (broadcastInDim S16x2048x256 ![0, 1, 2] bcast_S1x1x256_S16x2048x256_0_1_2 (broadcastInDim S1x1x256 ![2] bcast_S256_S1x1x256_2 (shapeCast _ (extractStridedSlice S1x256 ![9, 0] x14 slices_S31x256_S1x256_9_0) shapeCasts_S1x256_S256))))) (mulf (extractStridedSlice S16x2048x256 ![0, 10, 0] p slices_S16x2078x256_S16x2048x256_0_10_0) (broadcastInDim S16x2048x256 ![0, 1, 2] bcast_S1x1x256_S16x2048x256_0_1_2 (broadcastInDim S1x1x256 ![2] bcast_S256_S1x1x256_2 (shapeCast _ (extractStridedSlice S1x256 ![10, 0] x14 slices_S31x256_S1x256_10_0) shapeCasts_S1x256_S256))))

/-- The next eleven. -/
def taps2 (a : FVec Ideal S16x2048x256 .f32) (p : FVec Ideal S16x2078x256 .f32) (x14 : FVec Ideal S31x256 .f32) : FVec Ideal S16x2048x256 .f32 :=
  addf (addf (addf (addf (addf (addf (addf (addf (addf (addf (addf a (mulf (extractStridedSlice S16x2048x256 ![0, 11, 0] p slices_S16x2078x256_S16x2048x256_0_11_0) (broadcastInDim S16x2048x256 ![0, 1, 2] bcast_S1x1x256_S16x2048x256_0_1_2 (broadcastInDim S1x1x256 ![2] bcast_S256_S1x1x256_2 (shapeCast _ (extractStridedSlice S1x256 ![11, 0] x14 slices_S31x256_S1x256_11_0) shapeCasts_S1x256_S256))))) (mulf (extractStridedSlice S16x2048x256 ![0, 12, 0] p slices_S16x2078x256_S16x2048x256_0_12_0) (broadcastInDim S16x2048x256 ![0, 1, 2] bcast_S1x1x256_S16x2048x256_0_1_2 (broadcastInDim S1x1x256 ![2] bcast_S256_S1x1x256_2 (shapeCast _ (extractStridedSlice S1x256 ![12, 0] x14 slices_S31x256_S1x256_12_0) shapeCasts_S1x256_S256))))) (mulf (extractStridedSlice S16x2048x256 ![0, 13, 0] p slices_S16x2078x256_S16x2048x256_0_13_0) (broadcastInDim S16x2048x256 ![0, 1, 2] bcast_S1x1x256_S16x2048x256_0_1_2 (broadcastInDim S1x1x256 ![2] bcast_S256_S1x1x256_2 (shapeCast _ (extractStridedSlice S1x256 ![13, 0] x14 slices_S31x256_S1x256_13_0) shapeCasts_S1x256_S256))))) (mulf (extractStridedSlice S16x2048x256 ![0, 14, 0] p slices_S16x2078x256_S16x2048x256_0_14_0) (broadcastInDim S16x2048x256 ![0, 1, 2] bcast_S1x1x256_S16x2048x256_0_1_2 (broadcastInDim S1x1x256 ![2] bcast_S256_S1x1x256_2 (shapeCast _ (extractStridedSlice S1x256 ![14, 0] x14 slices_S31x256_S1x256_14_0) shapeCasts_S1x256_S256))))) (mulf (extractStridedSlice S16x2048x256 ![0, 15, 0] p slices_S16x2078x256_S16x2048x256_0_15_0) (broadcastInDim S16x2048x256 ![0, 1, 2] bcast_S1x1x256_S16x2048x256_0_1_2 (broadcastInDim S1x1x256 ![2] bcast_S256_S1x1x256_2 (shapeCast _ (extractStridedSlice S1x256 ![15, 0] x14 slices_S31x256_S1x256_15_0) shapeCasts_S1x256_S256))))) (mulf (extractStridedSlice S16x2048x256 ![0, 16, 0] p slices_S16x2078x256_S16x2048x256_0_16_0) (broadcastInDim S16x2048x256 ![0, 1, 2] bcast_S1x1x256_S16x2048x256_0_1_2 (broadcastInDim S1x1x256 ![2] bcast_S256_S1x1x256_2 (shapeCast _ (extractStridedSlice S1x256 ![16, 0] x14 slices_S31x256_S1x256_16_0) shapeCasts_S1x256_S256))))) (mulf (extractStridedSlice S16x2048x256 ![0, 17, 0] p slices_S16x2078x256_S16x2048x256_0_17_0) (broadcastInDim S16x2048x256 ![0, 1, 2] bcast_S1x1x256_S16x2048x256_0_1_2 (broadcastInDim S1x1x256 ![2] bcast_S256_S1x1x256_2 (shapeCast _ (extractStridedSlice S1x256 ![17, 0] x14 slices_S31x256_S1x256_17_0) shapeCasts_S1x256_S256))))) (mulf (extractStridedSlice S16x2048x256 ![0, 18, 0] p slices_S16x2078x256_S16x2048x256_0_18_0) (broadcastInDim S16x2048x256 ![0, 1, 2] bcast_S1x1x256_S16x2048x256_0_1_2 (broadcastInDim S1x1x256 ![2] bcast_S256_S1x1x256_2 (shapeCast _ (extractStridedSlice S1x256 ![18, 0] x14 slices_S31x256_S1x256_18_0) shapeCasts_S1x256_S256))))) (mulf (extractStridedSlice S16x2048x256 ![0, 19, 0] p slices_S16x2078x256_S16x2048x256_0_19_0) (broadcastInDim S16x2048x256 ![0, 1, 2] bcast_S1x1x256_S16x2048x256_0_1_2 (broadcastInDim S1x1x256 ![2] bcast_S256_S1x1x256_2 (shapeCast _ (extractStridedSlice S1x256 ![19, 0] x14 slices_S31x256_S1x256_19_0) shapeCasts_S1x256_S256))))) (mulf (extractStridedSlice S16x2048x256 ![0, 20, 0] p slices_S16x2078x256_S16x2048x256_0_20_0) (broadcastInDim S16x2048x256 ![0, 1, 2] bcast_S1x1x256_S16x2048x256_0_1_2 (broadcastInDim S1x1x256 ![2] bcast_S256_S1x1x256_2 (shapeCast _ (extractStridedSlice S1x256 ![20, 0] x14 slices_S31x256_S1x256_20_0) shapeCasts_S1x256_S256))))) (mulf (extractStridedSlice S16x2048x256 ![0, 21, 0] p slices_S16x2078x256_S16x2048x256_0_21_0) (broadcastInDim S16x2048x256 ![0, 1, 2] bcast_S1x1x256_S16x2048x256_0_1_2 (broadcastInDim S1x1x256 ![2] bcast_S256_S1x1x256_2 (shapeCast _ (extractStridedSlice S1x256 ![21, 0] x14 slices_S31x256_S1x256_21_0) shapeCasts_S1x256_S256))))

/-- The last nine and the bias. -/
def taps3 (a : FVec Ideal S16x2048x256 .f32) (p : FVec Ideal S16x2078x256 .f32) (x14 : FVec Ideal S31x256 .f32) (x15 : FVec Ideal S256 .f32) : FVec Ideal S16x2048x256 .f32 :=
  addf (addf (addf (addf (addf (addf (addf (addf (addf (addf a (mulf (extractStridedSlice S16x2048x256 ![0, 22, 0] p slices_S16x2078x256_S16x2048x256_0_22_0) (broadcastInDim S16x2048x256 ![0, 1, 2] bcast_S1x1x256_S16x2048x256_0_1_2 (broadcastInDim S1x1x256 ![2] bcast_S256_S1x1x256_2 (shapeCast _ (extractStridedSlice S1x256 ![22, 0] x14 slices_S31x256_S1x256_22_0) shapeCasts_S1x256_S256))))) (mulf (extractStridedSlice S16x2048x256 ![0, 23, 0] p slices_S16x2078x256_S16x2048x256_0_23_0) (broadcastInDim S16x2048x256 ![0, 1, 2] bcast_S1x1x256_S16x2048x256_0_1_2 (broadcastInDim S1x1x256 ![2] bcast_S256_S1x1x256_2 (shapeCast _ (extractStridedSlice S1x256 ![23, 0] x14 slices_S31x256_S1x256_23_0) shapeCasts_S1x256_S256))))) (mulf (extractStridedSlice S16x2048x256 ![0, 24, 0] p slices_S16x2078x256_S16x2048x256_0_24_0) (broadcastInDim S16x2048x256 ![0, 1, 2] bcast_S1x1x256_S16x2048x256_0_1_2 (broadcastInDim S1x1x256 ![2] bcast_S256_S1x1x256_2 (shapeCast _ (extractStridedSlice S1x256 ![24, 0] x14 slices_S31x256_S1x256_24_0) shapeCasts_S1x256_S256))))) (mulf (extractStridedSlice S16x2048x256 ![0, 25, 0] p slices_S16x2078x256_S16x2048x256_0_25_0) (broadcastInDim S16x2048x256 ![0, 1, 2] bcast_S1x1x256_S16x2048x256_0_1_2 (broadcastInDim S1x1x256 ![2] bcast_S256_S1x1x256_2 (shapeCast _ (extractStridedSlice S1x256 ![25, 0] x14 slices_S31x256_S1x256_25_0) shapeCasts_S1x256_S256))))) (mulf (extractStridedSlice S16x2048x256 ![0, 26, 0] p slices_S16x2078x256_S16x2048x256_0_26_0) (broadcastInDim S16x2048x256 ![0, 1, 2] bcast_S1x1x256_S16x2048x256_0_1_2 (broadcastInDim S1x1x256 ![2] bcast_S256_S1x1x256_2 (shapeCast _ (extractStridedSlice S1x256 ![26, 0] x14 slices_S31x256_S1x256_26_0) shapeCasts_S1x256_S256))))) (mulf (extractStridedSlice S16x2048x256 ![0, 27, 0] p slices_S16x2078x256_S16x2048x256_0_27_0) (broadcastInDim S16x2048x256 ![0, 1, 2] bcast_S1x1x256_S16x2048x256_0_1_2 (broadcastInDim S1x1x256 ![2] bcast_S256_S1x1x256_2 (shapeCast _ (extractStridedSlice S1x256 ![27, 0] x14 slices_S31x256_S1x256_27_0) shapeCasts_S1x256_S256))))) (mulf (extractStridedSlice S16x2048x256 ![0, 28, 0] p slices_S16x2078x256_S16x2048x256_0_28_0) (broadcastInDim S16x2048x256 ![0, 1, 2] bcast_S1x1x256_S16x2048x256_0_1_2 (broadcastInDim S1x1x256 ![2] bcast_S256_S1x1x256_2 (shapeCast _ (extractStridedSlice S1x256 ![28, 0] x14 slices_S31x256_S1x256_28_0) shapeCasts_S1x256_S256))))) (mulf (extractStridedSlice S16x2048x256 ![0, 29, 0] p slices_S16x2078x256_S16x2048x256_0_29_0) (broadcastInDim S16x2048x256 ![0, 1, 2] bcast_S1x1x256_S16x2048x256_0_1_2 (broadcastInDim S1x1x256 ![2] bcast_S256_S1x1x256_2 (shapeCast _ (extractStridedSlice S1x256 ![29, 0] x14 slices_S31x256_S1x256_29_0) shapeCasts_S1x256_S256))))) (mulf (extractStridedSlice S16x2048x256 ![0, 30, 0] p slices_S16x2078x256_S16x2048x256_0_30_0) (broadcastInDim S16x2048x256 ![0, 1, 2] bcast_S1x1x256_S16x2048x256_0_1_2 (broadcastInDim S1x1x256 ![2] bcast_S256_S1x1x256_2 (shapeCast _ (extractStridedSlice S1x256 ![30, 0] x14 slices_S31x256_S1x256_30_0) shapeCasts_S1x256_S256))))) (broadcastInDim S16x2048x256 ![0, 1, 2] bcast_S1x1x256_S16x2048x256_0_1_2 (broadcastInDim S1x1x256 ![2] bcast_S256_S1x1x256_2 x15))

/-- The root-mean-square norm of the convolution. -/
def normD (y : FVec Ideal S16x2048x256 .f32) (x16 : FVec Ideal S256 .f32) : FVec Ideal S16x2048x256 .f32 :=
  mulf (mulf y (broadcastInDim S16x2048x256 ![0, 1, 2] bcast_S16x2048x1_S16x2048x256_0_1_2 (Host.rsqrt (addf (Host.divf (broadcastInDim S16x2048x1 ![0, 1] bcast_S16x2048_S16x2048x1_0_1 (Host.reduceAdd (mulf y y) (constant S_ .f32 0x00000000#32) reducesTo_S16x2048x256_S16x2048_d2 h_S_)) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 x16))

/-- A value times its logistic. -/
def silu (y : FVec Ideal S16x2048x256 .f32) : FVec Ideal S16x2048x256 .f32 :=
  mulf y (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf y))))

/-- The four branches side by side. -/
def joined (oa : FVec Ideal S16x2048x256 .f32) (oc : FVec Ideal S16x2048x256 .f32) (x12 : FVec Ideal S16x2048x256 .f32) (od : FVec Ideal S16x2048x256 .f32) : FVec Ideal S16x2048x1024 .f32 :=
  concatenate S16x2048x1024 2 [⟨S16x2048x256, (oa : (⟨S16x2048x256, .f32⟩ : BufTy).Contents (Elt Ideal))⟩, ⟨S16x2048x256, (oc : (⟨S16x2048x256, .f32⟩ : BufTy).Contents (Elt Ideal))⟩, ⟨S16x2048x256, (x12 : (⟨S16x2048x256, .f32⟩ : BufTy).Contents (Elt Ideal))⟩, ⟨S16x2048x256, (od : (⟨S16x2048x256, .f32⟩ : BufTy).Contents (Elt Ideal))⟩] concatenates_S16x2048x256_S16x2048x256_S16x2048x256_S16x2048x256_S16x2048x1024_d2

/-- The gated product, added to the input. -/
def gated (x0 : FVec Ideal S16x2048x1024 .f32) (x1 : FVec Ideal S16x9x1024 .f32) (xc : FVec Ideal S16x2048x1024 .f32) (x19 : FVec Ideal S1024x1024 .f32) : FVec Ideal S16x2048x1024 .f32 :=
  addf x0 (mulf (broadcastInDim S16x2048x1024 ![0, 1, 2] bcast_S16x1x1024_S16x2048x1024_0_1_2 (extractStridedSlice S16x1x1024 ![0, 5, 0] x1 slices_S16x9x1024_S16x1x1024_0_5_0)) (Host.dotGeneral (φ₁ := .f32) (φ₂ := .f32) dot_S16x2048x1024_S1024x1024_S16x2048x1024_2_0_01_1_n_n none xc x19))

/-- The result. -/
def result (x0 : FVec Ideal S16x2048x1024 .f32) (x1 : FVec Ideal S16x9x1024 .f32) (x2 : FVec Ideal S16x2048x256 .f32) (x3 : FVec Ideal S16x2048x256 .f32) (x4 : FVec Ideal S16x2048x128 .f32) (x5 : FVec Ideal S16x2048x128 .f32) (x6 : FVec Ideal S16x2048x256 .f32) (x7 : FVec Ideal S16x2048x256 .f32) (x8 : FVec Ideal S16x256x128 .f32) (x9 : FVec Ideal S16x256x128 .f32) (x10 : FVec Ideal S16x256x256 .f32) (x11 : FVec Ideal S16x256x256 .f32) (x12 : FVec Ideal S16x2048x256 .f32) (x13 : FVec Ideal S16x2048x256 .f32) (x14 : FVec Ideal S31x256 .f32) (x15 : FVec Ideal S256 .f32) (x16 : FVec Ideal S256 .f32) (x17 : FVec Ideal S64 .f32) (x18 : FVec Ideal S4x32 .f32) (x19 : FVec Ideal S1024x1024 .f32) : FVec Ideal S16x2048x1024 .f32 :=
  gated x0 x1 (joined (attA (probA (expA (scoresA x2 x4 x8) (maxA (scoresA x2 x4 x8)))) x5 x9) (attC (diffC (probC (expC (scoresC x3 x6 x10) (maxC (scoresC x3 x6 x10)))) x7 x11 x18) x17) x12 (silu (normD (taps3 (taps2 (taps1 (padded x13) x14) (padded x13) x14) (padded x13) x14 x15) x16))) x19

set_option maxHeartbeats 2000000 in
/-- The run's composed term is these stages. -/
theorem result_eq (V0 : Valuation τ sig (Elt Ideal)) :
    Value.val6 V0 (Proc.devRef .tc main_v337) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  refine (Value.val6_main_v337 V0).trans ?_
  unfold result gated joined silu normD taps3 taps2 taps1 padded attC diffC lam probC expC maxC scoresC valsC keysC attA probA expA maxA scoresA valsA keysA Value.res_main_v330 Value.res_main_v317 Value.res_main_v251 Value.res_main_v174 Value.res_main_v96 Value.res_main_v78 Value.res_main_v70 Value.res_main_v66 Value.res_main_v59 Value.res_main_v21 Value.res_main_v14
  rfl

end Cert.MixRefIdeal.Stage
-- ==== Proof.MixRefAt.lean ====
module

public import proofs.«01_k».proof.Proof.MixRef

@[expose] public section

set_option maxRecDepth 16384

noncomputable section

/-! The mixer's reference, entry by entry. -/

namespace Cert.MixReal

open Idealize.ShloMosaic

/-- Every entry is a real number. -/
def AllReal {s : Shape} {φ : FTy} (x : FVec Ideal s φ) : Prop := ∀ i, IsReal (x i)

/-- The greatest along the last of five axes is real when every entry is. -/
theorem reduce_max_real {n0 n1 n2 n3 n4 : Nat} {t u : Shape} (x : FVec Ideal ⟨5, ![n0, n1, n2, n3, n4]⟩ .f32) (init : FVec Ideal u .f32)
    (h : (⟨5, ![n0, n1, n2, n3, n4]⟩ : Shape).ReducesTo [4] t) (hu : 0 < u.numel) (hi : ∀ i, init i = ⊥) (hx : AllReal x) (hn : 0 < n4) (j : t.Idx) :
    IsReal (Host.reduce (FloatOps.maximumf (F := Ideal) (φ := .f32)) x init h hu j) := by
  rw [Host.reduce_eq_fold, Shape.ReducesTo.fold_fiber_r5_a4, hi]
  exact IsReal.fold_max _ _ (fun k => hx _) ⟨⟨0, hn⟩, Finset.mem_univ _⟩

theorem ofBits_bot : Ideal.ofBits FTy.f32 0xFF800000#32 = ⊥ := by simp [Ideal.ofBits, Ideal.ieee]

end Cert.MixReal

namespace Cert.MixRefIdeal.Stage

open Cert.MixRefIdeal Cert.MixRefIdeal.Gen Idealize.ShloMosaic Idealize.ShloMosaic.TcCoe Idealize.SL.Sem
open Cert.MixReal

/-! ### The first attention -/

theorem keysA_lo (x4 : FVec Ideal S16x2048x128 .f32) (x8 : FVec Ideal S16x256x128 .f32) (b : Fin 16) (g : Fin 2) (k : Fin 2048) (j : Fin 64) :
    keysA x4 x8 (ix4 b g ⟨(k : ℕ), by omega⟩ j) = x4 (ix3 b k ⟨64 * (g : ℕ) + (j : ℕ), by omega⟩) := by
  pointwise [keysA]
  blk_ext

theorem keysA_hi (x4 : FVec Ideal S16x2048x128 .f32) (x8 : FVec Ideal S16x256x128 .f32) (b : Fin 16) (g : Fin 2) (k : Fin 256) (j : Fin 64) :
    keysA x4 x8 (ix4 b g ⟨2048 + (k : ℕ), by omega⟩ j) = x8 (ix3 b k ⟨64 * (g : ℕ) + (j : ℕ), by omega⟩) := by
  pointwise [keysA]
  blk_ext

theorem valsA_lo (x5 : FVec Ideal S16x2048x128 .f32) (x9 : FVec Ideal S16x256x128 .f32) (b : Fin 16) (g : Fin 2) (k : Fin 2048) (j : Fin 64) :
    valsA x5 x9 (ix4 b g ⟨(k : ℕ), by omega⟩ j) = x5 (ix3 b k ⟨64 * (g : ℕ) + (j : ℕ), by omega⟩) := by
  pointwise [valsA]
  blk_ext

theorem valsA_hi (x5 : FVec Ideal S16x2048x128 .f32) (x9 : FVec Ideal S16x256x128 .f32) (b : Fin 16) (g : Fin 2) (k : Fin 256) (j : Fin 64) :
    valsA x5 x9 (ix4 b g ⟨2048 + (k : ℕ), by omega⟩ j) = x9 (ix3 b k ⟨64 * (g : ℕ) + (j : ℕ), by omega⟩) := by
  pointwise [valsA]
  blk_ext

theorem scoresA_at (x2 : FVec Ideal S16x2048x256 .f32) (x4 : FVec Ideal S16x2048x128 .f32) (x8 : FVec Ideal S16x256x128 .f32) (b : Fin 16) (g r : Fin 2) (s : Fin 2048) (k : Fin 2304) :
    scoresA x2 x4 x8 (ix5 b g r s k) = (∑ j : Fin 64, x2 (ix3 b s ⟨64 * (2 * (g : ℕ) + (r : ℕ)) + (j : ℕ), by omega⟩) * keysA x4 x8 (ix4 b g k j)) * Ideal.ofBits FTy.f32 0x3E000000#32 := by
  pointwise [scoresA]
  refine Ideal.mul_congr (Finset.sum_congr rfl fun j _ => Ideal.mul_congr ?_ rfl) rfl
  blk_ext

theorem probA_at (e : FVec Ideal S16x2x2x2048x2304 .f32) (b : Fin 16) (g r : Fin 2) (s : Fin 2048) (k : Fin 2304) :
    probA e (ix5 b g r s k) = Ideal.div (e (ix5 b g r s k)) (∑ j, e (ix5 b g r s j)) := by
  pointwise [probA]

theorem expA_at (sc : FVec Ideal S16x2x2x2048x2304 .f32) (mx : FVec Ideal S16x2x2x2048 .f32) (b : Fin 16) (g r : Fin 2) (s : Fin 2048) (k : Fin 2304) :
    expA sc mx (ix5 b g r s k) = Ideal.exp (sc (ix5 b g r s k) - max (Ideal.ofBits FTy.f32 0xFF800000#32) (mx (ix4 b g r s))) := by
  pointwise [expA]

theorem maxA_real (sc : FVec Ideal S16x2x2x2048x2304 .f32) (h : AllReal sc) (i : S16x2x2x2048.Idx) : IsReal (maxA sc i) :=
  reduce_max_real sc _ reducesTo_S16x2x2x2048x2304_S16x2x2x2048_d4 h_S_ (fun _ => ofBits_bot) h (by decide) i

theorem attA_at (p : FVec Ideal S16x2x2x2048x2304 .f32) (x5 : FVec Ideal S16x2048x128 .f32) (x9 : FVec Ideal S16x256x128 .f32) (b : Fin 16) (g r : Fin 2) (s : Fin 2048) (d : Fin 64) :
    attA p x5 x9 (ix3 b s ⟨64 * (2 * (g : ℕ) + (r : ℕ)) + (d : ℕ), by omega⟩) = ∑ k, p (ix5 b g r s k) * valsA x5 x9 (ix4 b g k d) := by
  pointwise [attA]

/-! ### The differential attention -/

theorem keysC_lo (x6 : FVec Ideal S16x2048x256 .f32) (x10 : FVec Ideal S16x256x256 .f32) (b : Fin 16) (h : Fin 4) (c : Fin 2) (k : Fin 2048) (j : Fin 32) :
    keysC x6 x10 (ix5 b h c ⟨(k : ℕ), by omega⟩ j) = x6 (ix3 b k ⟨32 * (2 * (h : ℕ) + (c : ℕ)) + (j : ℕ), by omega⟩) := by
  pointwise [keysC]
  blk_ext

theorem keysC_hi (x6 : FVec Ideal S16x2048x256 .f32) (x10 : FVec Ideal S16x256x256 .f32) (b : Fin 16) (h : Fin 4) (c : Fin 2) (k : Fin 256) (j : Fin 32) :
    keysC x6 x10 (ix5 b h c ⟨2048 + (k : ℕ), by omega⟩ j) = x10 (ix3 b k ⟨32 * (2 * (h : ℕ) + (c : ℕ)) + (j : ℕ), by omega⟩) := by
  pointwise [keysC]
  blk_ext

theorem valsC_lo (x7 : FVec Ideal S16x2048x256 .f32) (x11 : FVec Ideal S16x256x256 .f32) (b : Fin 16) (h : Fin 4) (k : Fin 2048) (j : Fin 64) :
    valsC x7 x11 (ix4 b h ⟨(k : ℕ), by omega⟩ j) = x7 (ix3 b k ⟨64 * (h : ℕ) + (j : ℕ), by omega⟩) := by
  pointwise [valsC]
  blk_ext

theorem valsC_hi (x7 : FVec Ideal S16x2048x256 .f32) (x11 : FVec Ideal S16x256x256 .f32) (b : Fin 16) (h : Fin 4) (k : Fin 256) (j : Fin 64) :
    valsC x7 x11 (ix4 b h ⟨2048 + (k : ℕ), by omega⟩ j) = x11 (ix3 b k ⟨64 * (h : ℕ) + (j : ℕ), by omega⟩) := by
  pointwise [valsC]
  blk_ext

theorem scoresC_at (x3 : FVec Ideal S16x2048x256 .f32) (x6 : FVec Ideal S16x2048x256 .f32) (x10 : FVec Ideal S16x256x256 .f32) (b : Fin 16) (h : Fin 4) (c : Fin 2) (s : Fin 2048) (k : Fin 2304) :
    scoresC x3 x6 x10 (ix5 b h c s k) = (∑ j : Fin 32, x3 (ix3 b s ⟨32 * (2 * (h : ℕ) + (c : ℕ)) + (j : ℕ), by omega⟩) * keysC x6 x10 (ix5 b h c k j)) * Ideal.ofBits FTy.f32 0x3E3504F3#32 := by
  pointwise [scoresC]
  refine Ideal.mul_congr (Finset.sum_congr rfl fun j _ => Ideal.mul_congr ?_ rfl) rfl
  blk_ext

theorem probC_at (e : FVec Ideal S16x4x2x2048x2304 .f32) (b : Fin 16) (h : Fin 4) (c : Fin 2) (s : Fin 2048) (k : Fin 2304) :
    probC e (ix5 b h c s k) = Ideal.div (e (ix5 b h c s k)) (∑ j, e (ix5 b h c s j)) := by
  pointwise [probC]

theorem expC_at (sc : FVec Ideal S16x4x2x2048x2304 .f32) (mx : FVec Ideal S16x4x2x2048 .f32) (b : Fin 16) (h : Fin 4) (c : Fin 2) (s : Fin 2048) (k : Fin 2304) :
    expC sc mx (ix5 b h c s k) = Ideal.exp (sc (ix5 b h c s k) - max (Ideal.ofBits FTy.f32 0xFF800000#32) (mx (ix4 b h c s))) := by
  pointwise [expC]

theorem maxC_real (sc : FVec Ideal S16x4x2x2048x2304 .f32) (h : AllReal sc) (i : S16x4x2x2048.Idx) : IsReal (maxC sc i) :=
  reduce_max_real sc _ reducesTo_S16x4x2x2048x2304_S16x4x2x2048_d4 h_S_ (fun _ => ofBits_bot) h (by decide) i

theorem lam_at (x18 : FVec Ideal S4x32 .f32) (i : S_.Idx) :
    lam x18 i = Ideal.exp (∑ j, x18 (ix2 0 j) * x18 (ix2 1 j)) - Ideal.exp (∑ j, x18 (ix2 2 j) * x18 (ix2 3 j)) + Ideal.ofBits FTy.f32 0x3E4CCCCD#32 := by
  pointwise [lam]

theorem diffC_at (p : FVec Ideal S16x4x2x2048x2304 .f32) (x7 : FVec Ideal S16x2048x256 .f32) (x11 : FVec Ideal S16x256x256 .f32) (x18 : FVec Ideal S4x32 .f32) (b : Fin 16) (h : Fin 4) (s : Fin 2048) (d : Fin 64) :
    diffC p x7 x11 x18 (ix4 b h s d) = ∑ k, (p (ix5 b h 0 s k) - lam x18 ix0 * p (ix5 b h 1 s k)) * valsC x7 x11 (ix4 b h k d) := by
  pointwise [diffC]

theorem attC_at (dc : FVec Ideal S16x4x2048x64 .f32) (x17 : FVec Ideal S64 .f32) (b : Fin 16) (h : Fin 4) (s : Fin 2048) (d : Fin 64) :
    attC dc x17 (ix3 b s ⟨64 * (h : ℕ) + (d : ℕ), by omega⟩) = dc (ix4 b h s d) *
      Ideal.rsqrt (Ideal.div (∑ x, dc (ix4 b h s x) * dc (ix4 b h s x)) (Ideal.ofBits FTy.f32 0x42800000#32) + Ideal.ofBits FTy.f32 0x358637BD#32)
      * x17 (ix1 d) * Ideal.ofBits FTy.f32 0x3F4CCCCD#32 := by
  pointwise [attC]

/-! ### The convolution -/

theorem padded_at (x13 : FVec Ideal S16x2048x256 .f32) (b : Fin 16) (r : Fin 2078) (d : Fin 256) :
    padded x13 (ix3 b r d) = if h : 15 ≤ (r : ℕ) ∧ (r : ℕ) - 15 < 2048 then x13 (ix3 b ⟨(r : ℕ) - 15, h.2⟩ d) else 0 := by
  pointwise [padded]
  split
  · rfl
  · show (((0#32 : BitVec 32).toInt : ℝ) : EReal) = 0
    simp

/-- One tap of the convolution. -/
def tap (p : FVec Ideal S16x2078x256 .f32) (x14 : FVec Ideal S31x256 .f32) (b : Fin 16) (s : Fin 2048) (d : Fin 256) (k : Fin 31) : EReal :=
  p (ix3 b ⟨(k : ℕ) + (s : ℕ), by omega⟩ d) * x14 (ix2 k d)

theorem taps1_at (p : FVec Ideal S16x2078x256 .f32) (x14 : FVec Ideal S31x256 .f32) (b : Fin 16) (s : Fin 2048) (d : Fin 256) :
    taps1 p x14 (ix3 b s d) = tap p x14 b s d 0 + tap p x14 b s d 1 + tap p x14 b s d 2 + tap p x14 b s d 3 + tap p x14 b s d 4 + tap p x14 b s d 5 + tap p x14 b s d 6 + tap p x14 b s d 7 + tap p x14 b s d 8 + tap p x14 b s d 9 + tap p x14 b s d 10 := by
  pointwise [taps1, tap]

theorem taps2_at (a : FVec Ideal S16x2048x256 .f32) (p : FVec Ideal S16x2078x256 .f32) (x14 : FVec Ideal S31x256 .f32) (b : Fin 16) (s : Fin 2048) (d : Fin 256) :
    taps2 a p x14 (ix3 b s d) = a (ix3 b s d) + tap p x14 b s d 11 + tap p x14 b s d 12 + tap p x14 b s d 13 + tap p x14 b s d 14 + tap p x14 b s d 15 + tap p x14 b s d 16 + tap p x14 b s d 17 + tap p x14 b s d 18 + tap p x14 b s d 19 + tap p x14 b s d 20 + tap p x14 b s d 21 := by
  pointwise [taps2, tap]

theorem taps3_at (a : FVec Ideal S16x2048x256 .f32) (p : FVec Ideal S16x2078x256 .f32) (x14 : FVec Ideal S31x256 .f32) (x15 : FVec Ideal S256 .f32) (b : Fin 16) (s : Fin 2048) (d : Fin 256) :
    taps3 a p x14 x15 (ix3 b s d) = a (ix3 b s d) + tap p x14 b s d 22 + tap p x14 b s d 23 + tap p x14 b s d 24 + tap p x14 b s d 25 + tap p x14 b s d 26 + tap p x14 b s d 27 + tap p x14 b s d 28 + tap p x14 b s d 29 + tap p x14 b s d 30 + x15 (ix1 d) := by
  pointwise [taps3, tap]

theorem normD_at (y : FVec Ideal S16x2048x256 .f32) (x16 : FVec Ideal S256 .f32) (b : Fin 16) (s : Fin 2048) (d : Fin 256) :
    normD y x16 (ix3 b s d) = y (ix3 b s d) *
      Ideal.rsqrt (Ideal.div (∑ x, y (ix3 b s x) * y (ix3 b s x)) (Ideal.ofBits FTy.f32 0x43800000#32) + Ideal.ofBits FTy.f32 0x358637BD#32) * x16 (ix1 d) := by
  pointwise [normD]

theorem silu_at (y : FVec Ideal S16x2048x256 .f32) (b : Fin 16) (s : Fin 2048) (d : Fin 256) :
    silu y (ix3 b s d) = y (ix3 b s d) * Ideal.logistic (y (ix3 b s d)) := by
  pointwise [silu]
  rfl

/-! ### The four branches and the product -/

theorem joined_0 (oa oc x12 od : FVec Ideal S16x2048x256 .f32) (b : Fin 16) (s : Fin 2048) (e : Fin 256) :
    joined oa oc x12 od (ix3 b s ⟨(e : ℕ), by omega⟩) = oa (ix3 b s e) := by
  pointwise [joined]

theorem joined_1 (oa oc x12 od : FVec Ideal S16x2048x256 .f32) (b : Fin 16) (s : Fin 2048) (e : Fin 256) :
    joined oa oc x12 od (ix3 b s ⟨256 + (e : ℕ), by omega⟩) = oc (ix3 b s e) := by
  pointwise [joined]

theorem joined_2 (oa oc x12 od : FVec Ideal S16x2048x256 .f32) (b : Fin 16) (s : Fin 2048) (e : Fin 256) :
    joined oa oc x12 od (ix3 b s ⟨512 + (e : ℕ), by omega⟩) = x12 (ix3 b s e) := by
  pointwise [joined]
  rw [dif_neg (by omega), dif_neg (by omega), dif_pos (by omega)]
  blk_ext

theorem joined_3 (oa oc x12 od : FVec Ideal S16x2048x256 .f32) (b : Fin 16) (s : Fin 2048) (e : Fin 256) :
    joined oa oc x12 od (ix3 b s ⟨768 + (e : ℕ), by omega⟩) = od (ix3 b s e) := by
  pointwise [joined]
  rw [dif_neg (by omega), dif_neg (by omega), dif_neg (by omega)]
  blk_ext

theorem gated_at (x0 : FVec Ideal S16x2048x1024 .f32) (x1 : FVec Ideal S16x9x1024 .f32) (xc : FVec Ideal S16x2048x1024 .f32) (x19 : FVec Ideal S1024x1024 .f32) (b : Fin 16) (s : Fin 2048) (d : Fin 1024) :
    gated x0 x1 xc x19 (ix3 b s d) = x0 (ix3 b s d) + x1 (ix3 b 5 d) * ∑ e, xc (ix3 b s e) * x19 (ix2 e d) := by
  pointwise [gated]

end Cert.MixRefIdeal.Stage
-- ==== Proof.MixUnit.lean ====
module

public import proofs.«01_k».proof.Proof.Gen.MixIdeal.Value
public import proofs.«01_k».proof.Proof.MixRefAt
public import Idealize.ShloMosaic.Lib.Pipeline.ValueKit
public import Idealize.ShloMosaic.Lib.Pipeline.ReadBack
public import Idealize.ShloMosaic.Lib.Pointwise

@[expose] public section

set_option maxRecDepth 16384

noncomputable section

/-! One attention unit of the mixer's kernel: scores of 2304 keys against 1024 queries, their greatest per query,
powers of two, and the product with the values and a row of ones. -/

namespace Cert.MixIdeal.Part

open Cert.MixIdeal Cert.MixIdeal.Gen Idealize.ShloMosaic Idealize.ShloMosaic.TcCoe Idealize.SL.Sem
open Cert.MixReal

theorem real_maximumf {s : Shape} {φ : FTy} {x y : FVec Ideal s φ} (hx : AllReal x) (hy : AllReal y) : AllReal (maximumf x y) :=
  fun i => (hx i).max (hy i)

theorem real_slice {s t : Shape} {φ : FTy} {x : FVec Ideal s φ} (off : Fin s.rank → ℕ) (h) (hx : AllReal x) :
    AllReal (extractStridedSlice t off x h : FVec Ideal t φ) := fun i => hx _

/-- The greatest of the thirty-six 64-row slices. -/
def folded (s : FVec Ideal S2304x1024 .f32) : FVec Ideal S64x1024 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (extractStridedSlice S64x1024 ![0, 0] s slices_S2304x1024_o0_0_S64x1024) (extractStridedSlice S64x1024 ![64, 0] s slices_S2304x1024_o64_0_S64x1024)) (extractStridedSlice S64x1024 ![128, 0] s slices_S2304x1024_o128_0_S64x1024)) (extractStridedSlice S64x1024 ![192, 0] s slices_S2304x1024_o192_0_S64x1024)) (extractStridedSlice S64x1024 ![256, 0] s slices_S2304x1024_o256_0_S64x1024)) (extractStridedSlice S64x1024 ![320, 0] s slices_S2304x1024_o320_0_S64x1024)) (extractStridedSlice S64x1024 ![384, 0] s slices_S2304x1024_o384_0_S64x1024)) (extractStridedSlice S64x1024 ![448, 0] s slices_S2304x1024_o448_0_S64x1024)) (extractStridedSlice S64x1024 ![512, 0] s slices_S2304x1024_o512_0_S64x1024)) (extractStridedSlice S64x1024 ![576, 0] s slices_S2304x1024_o576_0_S64x1024)) (extractStridedSlice S64x1024 ![640, 0] s slices_S2304x1024_o640_0_S64x1024)) (extractStridedSlice S64x1024 ![704, 0] s slices_S2304x1024_o704_0_S64x1024)) (extractStridedSlice S64x1024 ![768, 0] s slices_S2304x1024_o768_0_S64x1024)) (extractStridedSlice S64x1024 ![832, 0] s slices_S2304x1024_o832_0_S64x1024)) (extractStridedSlice S64x1024 ![896, 0] s slices_S2304x1024_o896_0_S64x1024)) (extractStridedSlice S64x1024 ![960, 0] s slices_S2304x1024_o960_0_S64x1024)) (extractStridedSlice S64x1024 ![1024, 0] s slices_S2304x1024_o1024_0_S64x1024)) (extractStridedSlice S64x1024 ![1088, 0] s slices_S2304x1024_o1088_0_S64x1024)) (extractStridedSlice S64x1024 ![1152, 0] s slices_S2304x1024_o1152_0_S64x1024)) (extractStridedSlice S64x1024 ![1216, 0] s slices_S2304x1024_o1216_0_S64x1024)) (extractStridedSlice S64x1024 ![1280, 0] s slices_S2304x1024_o1280_0_S64x1024)) (extractStridedSlice S64x1024 ![1344, 0] s slices_S2304x1024_o1344_0_S64x1024)) (extractStridedSlice S64x1024 ![1408, 0] s slices_S2304x1024_o1408_0_S64x1024)) (extractStridedSlice S64x1024 ![1472, 0] s slices_S2304x1024_o1472_0_S64x1024)) (extractStridedSlice S64x1024 ![1536, 0] s slices_S2304x1024_o1536_0_S64x1024)) (extractStridedSlice S64x1024 ![1600, 0] s slices_S2304x1024_o1600_0_S64x1024)) (extractStridedSlice S64x1024 ![1664, 0] s slices_S2304x1024_o1664_0_S64x1024)) (extractStridedSlice S64x1024 ![1728, 0] s slices_S2304x1024_o1728_0_S64x1024)) (extractStridedSlice S64x1024 ![1792, 0] s slices_S2304x1024_o1792_0_S64x1024)) (extractStridedSlice S64x1024 ![1856, 0] s slices_S2304x1024_o1856_0_S64x1024)) (extractStridedSlice S64x1024 ![1920, 0] s slices_S2304x1024_o1920_0_S64x1024)) (extractStridedSlice S64x1024 ![1984, 0] s slices_S2304x1024_o1984_0_S64x1024)) (extractStridedSlice S64x1024 ![2048, 0] s slices_S2304x1024_o2048_0_S64x1024)) (extractStridedSlice S64x1024 ![2112, 0] s slices_S2304x1024_o2112_0_S64x1024)) (extractStridedSlice S64x1024 ![2176, 0] s slices_S2304x1024_o2176_0_S64x1024)) (extractStridedSlice S64x1024 ![2240, 0] s slices_S2304x1024_o2240_0_S64x1024)

/-- Its 64 rows halved three times. -/
def halved (x : FVec Ideal S64x1024 .f32) : FVec Ideal S8x1024 .f32 :=
  maximumf (extractStridedSlice S8x1024 ![0, 0] (maximumf (extractStridedSlice S16x1024 ![0, 0] (maximumf (extractStridedSlice S32x1024 ![0, 0] x slices_S64x1024_o0_0_S32x1024) (extractStridedSlice S32x1024 ![32, 0] x slices_S64x1024_o32_0_S32x1024)) slices_S32x1024_o0_0_S16x1024) (extractStridedSlice S16x1024 ![16, 0] (maximumf (extractStridedSlice S32x1024 ![0, 0] x slices_S64x1024_o0_0_S32x1024) (extractStridedSlice S32x1024 ![32, 0] x slices_S64x1024_o32_0_S32x1024)) slices_S32x1024_o16_0_S16x1024)) slices_S16x1024_o0_0_S8x1024)
    (extractStridedSlice S8x1024 ![8, 0] (maximumf (extractStridedSlice S16x1024 ![0, 0] (maximumf (extractStridedSlice S32x1024 ![0, 0] x slices_S64x1024_o0_0_S32x1024) (extractStridedSlice S32x1024 ![32, 0] x slices_S64x1024_o32_0_S32x1024)) slices_S32x1024_o0_0_S16x1024) (extractStridedSlice S16x1024 ![16, 0] (maximumf (extractStridedSlice S32x1024 ![0, 0] x slices_S64x1024_o0_0_S32x1024) (extractStridedSlice S32x1024 ![32, 0] x slices_S64x1024_o32_0_S32x1024)) slices_S32x1024_o16_0_S16x1024)) slices_S16x1024_o8_0_S8x1024)

/-- The greatest of eight rows. -/
def topOf (x : FVec Ideal S8x1024 .f32) : FVec Ideal S1x1024 .f32 :=
  shapeCast S1x1024 (multiReduction .maximumf [0] S1024 x 0xFF800000#32 reduces_S8x1024_S1024 (.inl rfl) rfl : FVec Ideal S1024 .f32) shapeCasts_S1024_S1x1024

/-- Powers of two of scores less a row. -/
def powers (s : FVec Ideal S2304x1024 .f32) (mx : FVec Ideal S1x1024 .f32) : FVec Ideal S2304x1024 .bf16 :=
  truncf .bf16 (exp2 (subf s (broadcastTo S2304x1024 mx broadcasts_S1x1024_S2304x1024))) bitsLt_bf16_f32

/-- Values with a row of ones times the powers, over both groups of keys. -/
def product (v : FVec Ideal S80x2048 .bf16) (v' : FVec Ideal S80x256 .bf16) (p : FVec Ideal S2304x1024 .bf16) : FVec Ideal S80x1024 .f32 :=
  addf (matmul dot_S80x2048_S2048x1024_S80x1024_1_0_0_1_n_n none v (extractStridedSlice S2048x1024 ![0, 0] p slices_S2304x1024_o0_0_S2048x1024) (constant S80x1024 .f32 0x00000000#32))
    (matmul dot_S80x256_S256x1024_S80x1024_1_0_0_1_n_n none v' (extractStridedSlice S256x1024 ![2048, 0] p slices_S2304x1024_o2048_0_S256x1024) (constant S80x1024 .f32 0x00000000#32))

/-- The unit. -/
def unit (v : FVec Ideal S80x2048 .bf16) (v' : FVec Ideal S80x256 .bf16) (s : FVec Ideal S2304x1024 .f32) : FVec Ideal S80x1024 .f32 :=
  product v v' (powers s (topOf (halved (folded s))))

/-- Its first 64 rows. -/
def rowsOf (u : FVec Ideal S80x1024 .f32) : FVec Ideal S64x1024 .f32 :=
  extractStridedSlice S64x1024 ![0, 0] u slices_S80x1024_o0_0_S64x1024

/-- Its row of sums. -/
def sumsOf (u : FVec Ideal S80x1024 .f32) : FVec Ideal S1x1024 .f32 :=
  extractStridedSlice S1x1024 ![64, 0] u slices_S80x1024_o64_0_S1x1024

/-- Its rows over its sums. -/
def quot (u : FVec Ideal S80x1024 .f32) : FVec Ideal S64x1024 .f32 :=
  divf (rowsOf u) (broadcastTo S64x1024 (sumsOf u) broadcasts_S1x1024_S64x1024)

theorem folded_real {s : FVec Ideal S2304x1024 .f32} (h : AllReal s) : AllReal (folded s) := by
  unfold folded
  repeat first | exact real_slice _ _ h | refine real_maximumf ?_ (real_slice _ _ h)

theorem halved_real {x : FVec Ideal S64x1024 .f32} (h : AllReal x) : AllReal (halved x) := by
  unfold halved
  have a := real_maximumf (real_slice (t := S32x1024) ![0, 0] slices_S64x1024_o0_0_S32x1024 h) (real_slice (t := S32x1024) ![32, 0] slices_S64x1024_o32_0_S32x1024 h)
  have b := real_maximumf (real_slice (t := S16x1024) ![0, 0] slices_S32x1024_o0_0_S16x1024 a) (real_slice (t := S16x1024) ![16, 0] slices_S32x1024_o16_0_S16x1024 a)
  exact real_maximumf (real_slice (t := S8x1024) ![0, 0] slices_S16x1024_o0_0_S8x1024 b) (real_slice (t := S8x1024) ![8, 0] slices_S16x1024_o8_0_S8x1024 b)

theorem topOf_at (x : FVec Ideal S8x1024 .f32) (q : Fin 1024) :
    topOf x (ix2 0 q) = Finset.univ.fold max (Ideal.ofBits FTy.f32 0xFF800000#32) fun k : Fin 8 => x (ix2 k q) := by
  pointwise [topOf]

theorem top_real {s : FVec Ideal S2304x1024 .f32} (h : AllReal s) (q : Fin 1024) : IsReal (topOf (halved (folded s)) (ix2 0 q)) := by
  rw [topOf_at, ofBits_bot]
  exact IsReal.fold_max _ _ (fun k => halved_real (folded_real h) _) ⟨0, Finset.mem_univ _⟩

theorem powers_at (s : FVec Ideal S2304x1024 .f32) (mx : FVec Ideal S1x1024 .f32) (k : Fin 2304) (q : Fin 1024) :
    powers s mx (ix2 k q) = Ideal.exp2 (s (ix2 k q) - mx (ix2 0 q)) := by
  pointwise [powers]
  rfl

theorem product_at (v : FVec Ideal S80x2048 .bf16) (v' : FVec Ideal S80x256 .bf16) (p : FVec Ideal S2304x1024 .bf16) (d : Fin 80) (q : Fin 1024) :
    product v v' p (ix2 d q) = (∑ k : Fin 2048, v (ix2 d k) * p (ix2 ⟨(k : ℕ), by omega⟩ q)) + ∑ k : Fin 256, v' (ix2 d k) * p (ix2 ⟨2048 + (k : ℕ), by omega⟩ q) := by
  pointwise [product]

theorem quot_at (u : FVec Ideal S80x1024 .f32) (d : Fin 64) (q : Fin 1024) :
    quot u (ix2 d q) = Ideal.div (u (ix2 ⟨(d : ℕ), by omega⟩ q)) (u (ix2 64 q)) := by
  pointwise [quot, rowsOf, sumsOf]

/-- A unit's quotient is the softmax of its scores, taken in units of `log 2`, applied to its values. -/
theorem quot_unit (v : FVec Ideal S80x2048 .bf16) (v' : FVec Ideal S80x256 .bf16) (s : FVec Ideal S2304x1024 .f32) (hs : AllReal s)
    (d : Fin 64) (q : Fin 1024) (r : Fin 2304 → ℝ) (hr : ∀ k, s (ix2 k q) = ((r k / Real.log 2 : ℝ) : EReal)) (w : Fin 2304 → EReal)
    (hv : ∀ k : Fin 2048, v (ix2 ⟨(d : ℕ), by omega⟩ k) = w ⟨(k : ℕ), by omega⟩) (hv' : ∀ k : Fin 256, v' (ix2 ⟨(d : ℕ), by omega⟩ k) = w ⟨2048 + (k : ℕ), by omega⟩)
    (h1 : ∀ k : Fin 2048, v (ix2 64 k) = 1) (h1' : ∀ k : Fin 256, v' (ix2 64 k) = 1) :
    quot (unit v v' s) (ix2 d q) = soft r w := by
  rw [quot_at]
  unfold unit
  rw [product_at, product_at, ← soft_of_pow (by decide) r (fun k => s (ix2 k q)) hr _ (top_real hs q) w, sum_split, sum_split (f := fun k => 1 * _)]
  simp only [powers_at, hv, hv', h1, h1']

end Cert.MixIdeal.Part
-- ==== Proof.MixHeads.lean ====
module

public import proofs.«01_k».proof.Proof.MixUnit

@[expose] public section

set_option maxRecDepth 16384

noncomputable section

/-! The mixer's attention heads in the kernel: masked queries, scores, values with a row of ones, and the
difference of two heads with its norm. -/

namespace Cert.MixIdeal.Part

open Cert.MixIdeal Cert.MixIdeal.Gen Idealize.ShloMosaic Idealize.ShloMosaic.TcCoe Idealize.SL.Sem
open Cert.MixReal

theorem two_groups (k : Fin 2304) : (∃ k' : Fin 2048, k = ⟨(k' : ℕ), by omega⟩) ∨ ∃ k' : Fin 256, k = ⟨2048 + (k' : ℕ), by omega⟩ := by
  rcases lt_or_ge (k : ℕ) 2048 with h | h
  · exact .inl ⟨⟨k, h⟩, rfl⟩
  · exact .inr ⟨⟨(k : ℕ) - 2048, by omega⟩, Fin.ext (by show (k : ℕ) = 2048 + ((k : ℕ) - 2048); omega)⟩

/-- An entry kept inside a run of `w` columns from `lo` on. -/
def keep (lo w j : ℕ) (x : EReal) : EReal := if lo ≤ j ∧ j < lo + w then x else 0

theorem sel_keep (j lo w hi : ℕ) (hj : j < 1000) (hl : lo < 1000) (hh : hi < 1000) (e : hi = lo + w) (x : EReal) :
    Scalar.select (IntOp.andi (IntOp.cmpi CmpIPredicate.sge (BitVec.ofNat 32 j) (BitVec.ofNat 32 lo))
      (IntOp.cmpi CmpIPredicate.slt (BitVec.ofNat 32 j) (BitVec.ofNat 32 hi))) x 0 = keep lo w j x := by
  subst e
  rw [WordCmp.cmpi_sge_ofNat (by omega) (by omega), WordCmp.cmpi_slt_ofNat (by omega) (by omega)]
  unfold keep Scalar.select IntOp.andi
  by_cases h1 : lo ≤ j <;> by_cases h2 : j < lo + w <;> simp [h1, h2]

/-- The queries of wide head 0. -/
def qA0 (x : FVec Ideal S1x1024x256 .bf16) : FVec Ideal S1024x128 .bf16 := k0_pay12 (k0_pay10 (F := Ideal) x) k0_pay11 (Scalar.ofBits .f32 0x00000000#32)

theorem qA0_at (x : FVec Ideal S1x1024x256 .bf16) (p : Fin 1024) (j : Fin 128) :
    qA0 x (ix2 p j) = keep 0 64 j (x (ix3 0 p ⟨(j : ℕ), by omega⟩)) := by
  pointwise [qA0, k0_pay12, k0_pay10, k0_pay2, k0_pay11]
  exact sel_keep _ 0 64 64 (by omega) (by omega) (by omega) rfl _

/-- The queries of wide head 1. -/
def qA1 (x : FVec Ideal S1x1024x256 .bf16) : FVec Ideal S1024x128 .bf16 := k0_pay15 (k0_pay2 (F := Ideal) x)

theorem qA1_at (x : FVec Ideal S1x1024x256 .bf16) (p : Fin 1024) (j : Fin 128) :
    qA1 x (ix2 p j) = keep 0 64 j (x (ix3 0 p ⟨128 + (j : ℕ), by omega⟩)) := by
  pointwise [qA1, k0_pay15, k0_pay2]
  exact sel_keep _ 0 64 64 (by omega) (by omega) (by omega) rfl _

/-- The queries of wide head 2. -/
def qA2 (x : FVec Ideal S1x1024x256 .bf16) : FVec Ideal S1024x128 .bf16 := k0_pay19 (k0_pay18 (k0_pay2 (F := Ideal) x))

theorem qA2_at (x : FVec Ideal S1x1024x256 .bf16) (p : Fin 1024) (j : Fin 128) :
    qA2 x (ix2 p j) = keep 64 64 j (x (ix3 0 p ⟨(j : ℕ), by omega⟩)) := by
  pointwise [qA2, k0_pay19, k0_pay18, k0_pay2]
  exact sel_keep _ 64 64 128 (by omega) (by omega) (by omega) rfl _

/-- The queries of wide head 3. -/
def qA3 (x : FVec Ideal S1x1024x256 .bf16) : FVec Ideal S1024x128 .bf16 := k0_pay22 (k0_pay2 (F := Ideal) x)

theorem qA3_at (x : FVec Ideal S1x1024x256 .bf16) (p : Fin 1024) (j : Fin 128) :
    qA3 x (ix2 p j) = keep 64 64 j (x (ix3 0 p ⟨128 + (j : ℕ), by omega⟩)) := by
  pointwise [qA3, k0_pay22, k0_pay2]
  exact sel_keep _ 64 64 128 (by omega) (by omega) (by omega) rfl _

/-- The queries of narrow head 0. -/
def qC0 (x : FVec Ideal S1x1024x256 .bf16) : FVec Ideal S1024x256 .bf16 := k0_pay25 (k0_pay3 (F := Ideal) x)

theorem qC0_at (x : FVec Ideal S1x1024x256 .bf16) (p : Fin 1024) (j : Fin 256) :
    qC0 x (ix2 p j) = keep 0 32 j (x (ix3 0 p j)) := by
  pointwise [qC0, k0_pay25, k0_pay3]
  exact sel_keep _ 0 32 32 (by omega) (by omega) (by omega) rfl _

/-- The queries of narrow head 1. -/
def qC1 (x : FVec Ideal S1x1024x256 .bf16) : FVec Ideal S1024x256 .bf16 := k0_pay26 (k0_pay3 (F := Ideal) x) (iota Kind.tc S1024x256 32 [1] iota_S1024x256_d1_w32) 32#32

theorem qC1_at (x : FVec Ideal S1x1024x256 .bf16) (p : Fin 1024) (j : Fin 256) :
    qC1 x (ix2 p j) = keep 32 32 j (x (ix3 0 p j)) := by
  pointwise [qC1, k0_pay26, k0_pay3]
  exact sel_keep _ 32 32 64 (by omega) (by omega) (by omega) rfl _

/-- The queries of narrow head 2. -/
def qC2 (x : FVec Ideal S1x1024x256 .bf16) : FVec Ideal S1024x256 .bf16 := k0_pay29 (k0_pay3 (F := Ideal) x)

theorem qC2_at (x : FVec Ideal S1x1024x256 .bf16) (p : Fin 1024) (j : Fin 256) :
    qC2 x (ix2 p j) = keep 64 32 j (x (ix3 0 p j)) := by
  pointwise [qC2, k0_pay29, k0_pay3]
  exact sel_keep _ 64 32 96 (by omega) (by omega) (by omega) rfl _

/-- The queries of narrow head 3. -/
def qC3 (x : FVec Ideal S1x1024x256 .bf16) : FVec Ideal S1024x256 .bf16 := k0_pay30 (k0_pay3 (F := Ideal) x)

theorem qC3_at (x : FVec Ideal S1x1024x256 .bf16) (p : Fin 1024) (j : Fin 256) :
    qC3 x (ix2 p j) = keep 96 32 j (x (ix3 0 p j)) := by
  pointwise [qC3, k0_pay30, k0_pay3]
  exact sel_keep _ 96 32 128 (by omega) (by omega) (by omega) rfl _

/-- The queries of narrow head 4. -/
def qC4 (x : FVec Ideal S1x1024x256 .bf16) : FVec Ideal S1024x256 .bf16 := k0_pay33 (k0_pay3 (F := Ideal) x)

theorem qC4_at (x : FVec Ideal S1x1024x256 .bf16) (p : Fin 1024) (j : Fin 256) :
    qC4 x (ix2 p j) = keep 128 32 j (x (ix3 0 p j)) := by
  pointwise [qC4, k0_pay33, k0_pay3]
  exact sel_keep _ 128 32 160 (by omega) (by omega) (by omega) rfl _

/-- The queries of narrow head 5. -/
def qC5 (x : FVec Ideal S1x1024x256 .bf16) : FVec Ideal S1024x256 .bf16 := k0_pay34 (k0_pay3 (F := Ideal) x)

theorem qC5_at (x : FVec Ideal S1x1024x256 .bf16) (p : Fin 1024) (j : Fin 256) :
    qC5 x (ix2 p j) = keep 160 32 j (x (ix3 0 p j)) := by
  pointwise [qC5, k0_pay34, k0_pay3]
  exact sel_keep _ 160 32 192 (by omega) (by omega) (by omega) rfl _

/-- The queries of narrow head 6. -/
def qC6 (x : FVec Ideal S1x1024x256 .bf16) : FVec Ideal S1024x256 .bf16 := k0_pay37 (k0_pay3 (F := Ideal) x)

theorem qC6_at (x : FVec Ideal S1x1024x256 .bf16) (p : Fin 1024) (j : Fin 256) :
    qC6 x (ix2 p j) = keep 192 32 j (x (ix3 0 p j)) := by
  pointwise [qC6, k0_pay37, k0_pay3]
  exact sel_keep _ 192 32 224 (by omega) (by omega) (by omega) rfl _

/-- The queries of narrow head 7. -/
def qC7 (x : FVec Ideal S1x1024x256 .bf16) : FVec Ideal S1024x256 .bf16 := k0_pay38 (k0_pay3 (F := Ideal) x) (iota Kind.tc S1024x256 32 [1] iota_S1024x256_d1_w32) 224#32

theorem qC7_at (x : FVec Ideal S1x1024x256 .bf16) (p : Fin 1024) (j : Fin 256) :
    qC7 x (ix2 p j) = keep 224 32 j (x (ix3 0 p j)) := by
  pointwise [qC7, k0_pay38, k0_pay3]
  exact sel_keep _ 224 32 256 (by omega) (by omega) (by omega) rfl _

/-- Scores of both groups of keys. -/
def scA (K : FVec Ideal S1x2048x128 .bf16) (K' : FVec Ideal S1x256x128 .bf16) (q : FVec Ideal S1024x128 .bf16) : FVec Ideal S2304x1024 .f32 :=
  k0_pay39 (k0_pay4 (F := Ideal) K) (k0_pay5 (F := Ideal) K') q

theorem scA_lo (K : FVec Ideal S1x2048x128 .bf16) (K' : FVec Ideal S1x256x128 .bf16) (q : FVec Ideal S1024x128 .bf16) (k : Fin 2048) (p : Fin 1024) :
    scA K K' q (ix2 ⟨(k : ℕ), by omega⟩ p) = ∑ e : Fin 128, K (ix3 0 k e) * q (ix2 p e) := by
  pointwise [scA, k0_pay39, k0_pay4, k0_pay5]

theorem scA_hi (K : FVec Ideal S1x2048x128 .bf16) (K' : FVec Ideal S1x256x128 .bf16) (q : FVec Ideal S1024x128 .bf16) (k : Fin 256) (p : Fin 1024) :
    scA K K' q (ix2 ⟨2048 + (k : ℕ), by omega⟩ p) = ∑ e : Fin 128, K' (ix3 0 k e) * q (ix2 p e) := by
  pointwise [scA, k0_pay39, k0_pay4, k0_pay5]

/-- A score is the product over the head's own columns. -/
theorem scA_at (K : FVec Ideal S1x2048x128 .bf16) (K' : FVec Ideal S1x256x128 .bf16) (q : FVec Ideal S1024x128 .bf16) (lo : ℕ) (hlo : lo + 64 ≤ 128) (g : Fin 1024 → Fin 128 → EReal)
    (hq : ∀ p j, q (ix2 p j) = keep lo 64 j (g p j)) (y : Fin 2304 → Fin 64 → EReal)
    (hK : ∀ (k : Fin 2048) (i : Fin 64), K (ix3 0 k ⟨lo + (i : ℕ), by omega⟩) = y ⟨(k : ℕ), by omega⟩ i)
    (hK' : ∀ (k : Fin 256) (i : Fin 64), K' (ix3 0 k ⟨lo + (i : ℕ), by omega⟩) = y ⟨2048 + (k : ℕ), by omega⟩ i) (k : Fin 2304) (p : Fin 1024) :
    scA K K' q (ix2 k p) = ∑ i, y k i * g p ⟨lo + (i : ℕ), by omega⟩ := by
  rcases two_groups k with ⟨k', rfl⟩ | ⟨k', rfl⟩
  · rw [scA_lo]
    simp only [hq, keep]
    rw [sum_masked lo hlo (fun e => K (ix3 0 k' e)) (fun e => g p e) (fun e => lo ≤ (e : ℕ) ∧ (e : ℕ) < lo + 64) (fun _ => Iff.rfl)]
    exact Finset.sum_congr rfl fun i _ => by rw [hK]
  · rw [scA_hi]
    simp only [hq, keep]
    rw [sum_masked lo hlo (fun e => K' (ix3 0 k' e)) (fun e => g p e) (fun e => lo ≤ (e : ℕ) ∧ (e : ℕ) < lo + 64) (fun _ => Iff.rfl)]
    exact Finset.sum_congr rfl fun i _ => by rw [hK']

/-- Scores of both groups of keys. -/
def scC (K : FVec Ideal S1x2048x256 .bf16) (K' : FVec Ideal S1x256x256 .bf16) (q : FVec Ideal S1024x256 .bf16) : FVec Ideal S2304x1024 .f32 :=
  k0_pay61 (k0_pay6 (F := Ideal) K) (k0_pay7 (F := Ideal) K') q

theorem scC_lo (K : FVec Ideal S1x2048x256 .bf16) (K' : FVec Ideal S1x256x256 .bf16) (q : FVec Ideal S1024x256 .bf16) (k : Fin 2048) (p : Fin 1024) :
    scC K K' q (ix2 ⟨(k : ℕ), by omega⟩ p) = ∑ e : Fin 256, K (ix3 0 k e) * q (ix2 p e) := by
  pointwise [scC, k0_pay61, k0_pay6, k0_pay7]

theorem scC_hi (K : FVec Ideal S1x2048x256 .bf16) (K' : FVec Ideal S1x256x256 .bf16) (q : FVec Ideal S1024x256 .bf16) (k : Fin 256) (p : Fin 1024) :
    scC K K' q (ix2 ⟨2048 + (k : ℕ), by omega⟩ p) = ∑ e : Fin 256, K' (ix3 0 k e) * q (ix2 p e) := by
  pointwise [scC, k0_pay61, k0_pay6, k0_pay7]

/-- A score is the product over the head's own columns. -/
theorem scC_at (K : FVec Ideal S1x2048x256 .bf16) (K' : FVec Ideal S1x256x256 .bf16) (q : FVec Ideal S1024x256 .bf16) (lo : ℕ) (hlo : lo + 32 ≤ 256) (g : Fin 1024 → Fin 256 → EReal)
    (hq : ∀ p j, q (ix2 p j) = keep lo 32 j (g p j)) (y : Fin 2304 → Fin 32 → EReal)
    (hK : ∀ (k : Fin 2048) (i : Fin 32), K (ix3 0 k ⟨lo + (i : ℕ), by omega⟩) = y ⟨(k : ℕ), by omega⟩ i)
    (hK' : ∀ (k : Fin 256) (i : Fin 32), K' (ix3 0 k ⟨lo + (i : ℕ), by omega⟩) = y ⟨2048 + (k : ℕ), by omega⟩ i) (k : Fin 2304) (p : Fin 1024) :
    scC K K' q (ix2 k p) = ∑ i, y k i * g p ⟨lo + (i : ℕ), by omega⟩ := by
  rcases two_groups k with ⟨k', rfl⟩ | ⟨k', rfl⟩
  · rw [scC_lo]
    simp only [hq, keep]
    rw [sum_masked lo hlo (fun e => K (ix3 0 k' e)) (fun e => g p e) (fun e => lo ≤ (e : ℕ) ∧ (e : ℕ) < lo + 32) (fun _ => Iff.rfl)]
    exact Finset.sum_congr rfl fun i _ => by rw [hK]
  · rw [scC_hi]
    simp only [hq, keep]
    rw [sum_masked lo hlo (fun e => K' (ix3 0 k' e)) (fun e => g p e) (fun e => lo ≤ (e : ℕ) ∧ (e : ℕ) < lo + 32) (fun _ => Iff.rfl)]
    exact Finset.sum_congr rfl fun i _ => by rw [hK']

/-- Values with a row of ones, the first group. -/
def vals (v : FVec Ideal S1x64x2048 .bf16) : FVec Ideal S80x2048 .bf16 := k0_pay8 (F := Ideal) v

/-- The second group. -/
def vals' (v : FVec Ideal S1x64x256 .bf16) : FVec Ideal S80x256 .bf16 := k0_pay9 (F := Ideal) v

theorem vals_at (v : FVec Ideal S1x64x2048 .bf16) (d : Fin 64) (k : Fin 2048) : vals v (ix2 ⟨(d : ℕ), by omega⟩ k) = v (ix3 0 d k) := by
  pointwise [vals, k0_pay8]

theorem vals_one (v : FVec Ideal S1x64x2048 .bf16) (k : Fin 2048) : vals v (ix2 64 k) = 1 := by
  pointwise [vals, k0_pay8]

theorem vals'_at (v : FVec Ideal S1x64x256 .bf16) (d : Fin 64) (k : Fin 256) : vals' v (ix2 ⟨(d : ℕ), by omega⟩ k) = v (ix3 0 d k) := by
  pointwise [vals', k0_pay9]

theorem vals'_one (v : FVec Ideal S1x64x256 .bf16) (k : Fin 256) : vals' v (ix2 64 k) = 1 := by
  pointwise [vals', k0_pay9]

/-- A head's quotient is the softmax of its scores applied to its values. -/
theorem headA (K : FVec Ideal S1x2048x128 .bf16) (K' : FVec Ideal S1x256x128 .bf16) (q : FVec Ideal S1024x128 .bf16) (lo : ℕ) (hlo : lo + 64 ≤ 128) (g : Fin 1024 → Fin 128 → EReal)
    (hq : ∀ p j, q (ix2 p j) = keep lo 64 j (g p j)) (y : Fin 2304 → Fin 64 → EReal) (hy : ∀ k i, IsReal (y k i))
    (hK : ∀ (k : Fin 2048) (i : Fin 64), K (ix3 0 k ⟨lo + (i : ℕ), by omega⟩) = y ⟨(k : ℕ), by omega⟩ i)
    (hK' : ∀ (k : Fin 256) (i : Fin 64), K' (ix3 0 k ⟨lo + (i : ℕ), by omega⟩) = y ⟨2048 + (k : ℕ), by omega⟩ i)
    (x : Fin 1024 → Fin 64 → EReal) (hx : ∀ p i, IsReal (x p i)) (A : EReal) (a : ℝ) (hA : A = (a : EReal))
    (hg : ∀ p (i : Fin 64), g p ⟨lo + (i : ℕ), by omega⟩ = x p i * Ideal.div A (Ideal.log 2))
    (v : FVec Ideal S1x64x2048 .bf16) (v' : FVec Ideal S1x64x256 .bf16) (d : Fin 64) (p : Fin 1024) (w : Fin 2304 → EReal)
    (hv : ∀ k : Fin 2048, v (ix3 0 d k) = w ⟨(k : ℕ), by omega⟩) (hv' : ∀ k : Fin 256, v' (ix3 0 d k) = w ⟨2048 + (k : ℕ), by omega⟩)
    (r : Fin 2304 → ℝ) (hr : ∀ k, (∑ i, x p i * y k i) * A = (r k : EReal)) :
    quot (unit (vals v) (vals' v') (scA K K' q)) (ix2 d p) = soft r w := by
  have key : ∀ k p, ∃ r : ℝ, (∑ i, x p i * y k i) * A = (r : EReal) ∧ scA K K' q (ix2 k p) = ((r / Real.log 2 : ℝ) : EReal) := fun k p => by
    obtain ⟨r, h1, h2⟩ := scaled_dot (x p) (y k) (hx p) (hy k) a A hA
    refine ⟨r, h1, ?_⟩
    rw [scA_at K K' q lo hlo g hq y hK hK']
    simp only [hg]
    exact h2
  refine quot_unit _ _ _ (fun i => ?_) d p r (fun k => ?_) w (fun k => ?_) (fun k => ?_) (fun k => vals_one v k) (fun k => vals'_one v' k)
  · obtain ⟨r, _, h2⟩ := key (i 0) (i 1)
    exact ⟨_, (congrArg _ (eq_ix2 i)).trans h2⟩
  · obtain ⟨r', h1, h2⟩ := key k p
    rw [h2, EReal.coe_injective (h1.symm.trans (hr k))]
  · rw [vals_at, hv]
  · rw [vals'_at, hv']

/-- A head's quotient is the softmax of its scores applied to its values. -/
theorem headC (K : FVec Ideal S1x2048x256 .bf16) (K' : FVec Ideal S1x256x256 .bf16) (q : FVec Ideal S1024x256 .bf16) (lo : ℕ) (hlo : lo + 32 ≤ 256) (g : Fin 1024 → Fin 256 → EReal)
    (hq : ∀ p j, q (ix2 p j) = keep lo 32 j (g p j)) (y : Fin 2304 → Fin 32 → EReal) (hy : ∀ k i, IsReal (y k i))
    (hK : ∀ (k : Fin 2048) (i : Fin 32), K (ix3 0 k ⟨lo + (i : ℕ), by omega⟩) = y ⟨(k : ℕ), by omega⟩ i)
    (hK' : ∀ (k : Fin 256) (i : Fin 32), K' (ix3 0 k ⟨lo + (i : ℕ), by omega⟩) = y ⟨2048 + (k : ℕ), by omega⟩ i)
    (x : Fin 1024 → Fin 32 → EReal) (hx : ∀ p i, IsReal (x p i)) (A : EReal) (a : ℝ) (hA : A = (a : EReal))
    (hg : ∀ p (i : Fin 32), g p ⟨lo + (i : ℕ), by omega⟩ = x p i * Ideal.div A (Ideal.log 2))
    (v : FVec Ideal S1x64x2048 .bf16) (v' : FVec Ideal S1x64x256 .bf16) (d : Fin 64) (p : Fin 1024) (w : Fin 2304 → EReal)
    (hv : ∀ k : Fin 2048, v (ix3 0 d k) = w ⟨(k : ℕ), by omega⟩) (hv' : ∀ k : Fin 256, v' (ix3 0 d k) = w ⟨2048 + (k : ℕ), by omega⟩)
    (r : Fin 2304 → ℝ) (hr : ∀ k, (∑ i, x p i * y k i) * A = (r k : EReal)) :
    quot (unit (vals v) (vals' v') (scC K K' q)) (ix2 d p) = soft r w := by
  have key : ∀ k p, ∃ r : ℝ, (∑ i, x p i * y k i) * A = (r : EReal) ∧ scC K K' q (ix2 k p) = ((r / Real.log 2 : ℝ) : EReal) := fun k p => by
    obtain ⟨r, h1, h2⟩ := scaled_dot (x p) (y k) (hx p) (hy k) a A hA
    refine ⟨r, h1, ?_⟩
    rw [scC_at K K' q lo hlo g hq y hK hK']
    simp only [hg]
    exact h2
  refine quot_unit _ _ _ (fun i => ?_) d p r (fun k => ?_) w (fun k => ?_) (fun k => ?_) (fun k => vals_one v k) (fun k => vals'_one v' k)
  · obtain ⟨r, _, h2⟩ := key (i 0) (i 1)
    exact ⟨_, (congrArg _ (eq_ix2 i)).trans h2⟩
  · obtain ⟨r', h1, h2⟩ := key k p
    rw [h2, EReal.coe_injective (h1.symm.trans (hr k))]
  · rw [vals_at, hv]
  · rw [vals'_at, hv']

/-- Four heads side by side, one row per query. -/
def stack (q0 q1 q2 q3 : FVec Ideal S64x1024 .f32) : FVec Ideal S1024x256 .bf16 :=
  truncf .bf16 (transpose S1024x256 [1, 0] (concatenate S256x1024 0 [⟨S64x1024, q0⟩, ⟨S64x1024, q1⟩, ⟨S64x1024, q2⟩, ⟨S64x1024, q3⟩] concatenates_S64x1024_S64x1024_S64x1024_S64x1024_S256x1024_d0) transposes_S256x1024_p1_0_S1024x256) bitsLt_bf16_f32

theorem stack_0 (q0 q1 q2 q3 : FVec Ideal S64x1024 .f32) (p : Fin 1024) (d : Fin 64) : stack q0 q1 q2 q3 (ix2 p ⟨(d : ℕ), by omega⟩) = q0 (ix2 d p) := by
  pointwise [stack]

theorem stack_1 (q0 q1 q2 q3 : FVec Ideal S64x1024 .f32) (p : Fin 1024) (d : Fin 64) : stack q0 q1 q2 q3 (ix2 p ⟨64 + (d : ℕ), by omega⟩) = q1 (ix2 d p) := by
  pointwise [stack]

theorem stack_2 (q0 q1 q2 q3 : FVec Ideal S64x1024 .f32) (p : Fin 1024) (d : Fin 64) : stack q0 q1 q2 q3 (ix2 p ⟨128 + (d : ℕ), by omega⟩) = q2 (ix2 d p) := by
  pointwise [stack]
  rw [dif_neg (by omega), dif_neg (by omega), dif_pos (by omega)]
  blk_ext

theorem stack_3 (q0 q1 q2 q3 : FVec Ideal S64x1024 .f32) (p : Fin 1024) (d : Fin 64) : stack q0 q1 q2 q3 (ix2 p ⟨192 + (d : ℕ), by omega⟩) = q3 (ix2 d p) := by
  pointwise [stack]
  rw [dif_neg (by omega), dif_neg (by omega), dif_neg (by omega)]
  blk_ext

/-- The difference of two heads with its norm. -/
def diffNorm (lm : FVec Ideal S1x1 .f32) (o0 o1 : FVec Ideal S64x1024 .f32) (g : FVec Ideal S64x1 .f32) : FVec Ideal S64x1024 .f32 :=
  mulf (mulf (mulf (subf o0 (mulf (broadcastTo S64x1024 lm broadcasts_S1x1_S64x1024) o1))
    (broadcastTo S64x1024 (rsqrt (addf (divf (shapeCast S1x1024 (multiReduction .add [0] S1024 (mulf (subf o0 (mulf (broadcastTo S64x1024 lm broadcasts_S1x1_S64x1024) o1)) (subf o0 (mulf (broadcastTo S64x1024 lm broadcasts_S1x1_S64x1024) o1))) 0x00000000#32 reduces_S64x1024_S1024 (.inl rfl) rfl : FVec Ideal S1024 .f32) shapeCasts_S1024_S1x1024)
      (broadcast S1x1024 (Scalar.ofBits (F := Ideal) .f32 0x42800000#32))) (broadcast S1x1024 (Scalar.ofBits (F := Ideal) .f32 0x358637BD#32)))) broadcasts_S1x1024_S64x1024))
    (broadcastTo S64x1024 (shapeCast S64x1 g shapeCasts_S64x1_S64x1) broadcasts_S64x1_S64x1024)) (broadcast S64x1024 (Scalar.ofBits (F := Ideal) .f32 0x3F4CCCCD#32))

theorem diffNorm_at (lm : FVec Ideal S1x1 .f32) (o0 o1 : FVec Ideal S64x1024 .f32) (g : FVec Ideal S64x1 .f32) (d : Fin 64) (p : Fin 1024) :
    diffNorm lm o0 o1 g (ix2 d p) = (o0 (ix2 d p) - lm (ix2 0 0) * o1 (ix2 d p))
      * Ideal.rsqrt (Ideal.div (∑ x, (o0 (ix2 x p) - lm (ix2 0 0) * o1 (ix2 x p)) * (o0 (ix2 x p) - lm (ix2 0 0) * o1 (ix2 x p))) (Ideal.ofBits FTy.f32 0x42800000#32) + Ideal.ofBits FTy.f32 0x358637BD#32)
      * g (ix2 d 0) * Ideal.ofBits FTy.f32 0x3F4CCCCD#32 := by
  pointwise [diffNorm]

/-- The weight of the second heads. -/
def lamK (v : FVec Ideal S4x32 .f32) : FVec Ideal S1x1 .f32 := k0_pay119 (F := Ideal) v

theorem lamK_at (v : FVec Ideal S4x32 .f32) :
    lamK v (ix2 0 0) = Ideal.exp (∑ k, v (ix2 0 k) * v (ix2 1 k)) - Ideal.exp (∑ k, v (ix2 2 k) * v (ix2 3 k)) + Ideal.ofBits FTy.f32 0x3E4CCCCD#32 := by
  pointwise [lamK, k0_pay119]
  simp only [Fin.sum_univ_one]

/-- The stored block, from the four parts. -/
def stored (cv : FVec Ideal S1024x256 .f32) (oa oc : FVec Ideal S1024x256 .bf16) (ob : FVec Ideal S1x1024x256 .bf16) (wo : FVec Ideal S1024x1024 .bf16) (h : FVec Ideal S1x1024x1024 .f32) (md : FVec Ideal S1x9x1024 .f32) : FVec Ideal S1x1024x1024 .f32 :=
  k0_pay1 (k0_pay143 cv oa oc (k0_pay142 (F := Ideal) ob) wo h md)

/-- The parts side by side. -/
def rowK (cv : FVec Ideal S1024x256 .f32) (oa oc : FVec Ideal S1024x256 .bf16) (ob : FVec Ideal S1x1024x256 .bf16) : FVec Ideal S1024x1024 .bf16 :=
  concatenate S1024x1024 1 [⟨S1024x256, oa⟩, ⟨S1024x256, oc⟩, ⟨S1024x256, k0_pay142 (F := Ideal) ob⟩, ⟨S1024x256, (truncf .bf16 cv bitsLt_bf16_f32 : FVec Ideal S1024x256 .bf16)⟩] concatenates_S1024x256_S1024x256_S1024x256_S1024x256_S1024x1024_d1

theorem stored_at (cv : FVec Ideal S1024x256 .f32) (oa oc : FVec Ideal S1024x256 .bf16) (ob : FVec Ideal S1x1024x256 .bf16) (wo : FVec Ideal S1024x1024 .bf16) (h : FVec Ideal S1x1024x1024 .f32) (md : FVec Ideal S1x9x1024 .f32) (p d : Fin 1024) :
    stored cv oa oc ob wo h md (ix3 0 p d) = h (ix3 0 p d) + md (ix3 0 5 d) * ∑ e, rowK cv oa oc ob (ix2 p e) * wo (ix2 e d) := by
  have e : stored cv oa oc ob wo h md = k0_pay1 (addf (shapeCast S1024x1024 h shapeCasts_S1x1024x1024_S1024x1024) (mulf (broadcastTo S1024x1024 (extractStridedSlice S1x1024 ![5, 0] (shapeCast S9x1024 md shapeCasts_S1x9x1024_S9x1024) slices_S9x1024_o5_0_S1x1024) broadcasts_S1x1024_S1024x1024)
      (matmul dot_S1024x1024_S1024x1024_S1024x1024_1_0_0_1_n_n none (rowK cv oa oc ob) (shapeCast S1024x1024 wo shapeCasts_S1024x1024_S1024x1024) (constant S1024x1024 .f32 0x00000000#32)))) := rfl
  rw [e]
  pointwise [k0_pay1]

theorem rowK_0 (cv : FVec Ideal S1024x256 .f32) (oa oc : FVec Ideal S1024x256 .bf16) (ob : FVec Ideal S1x1024x256 .bf16) (p : Fin 1024) (e : Fin 256) :
    rowK cv oa oc ob (ix2 p ⟨(e : ℕ), by omega⟩) = oa (ix2 p e) := by
  pointwise [rowK]

theorem rowK_1 (cv : FVec Ideal S1024x256 .f32) (oa oc : FVec Ideal S1024x256 .bf16) (ob : FVec Ideal S1x1024x256 .bf16) (p : Fin 1024) (e : Fin 256) :
    rowK cv oa oc ob (ix2 p ⟨256 + (e : ℕ), by omega⟩) = oc (ix2 p e) := by
  pointwise [rowK]

theorem rowK_2 (cv : FVec Ideal S1024x256 .f32) (oa oc : FVec Ideal S1024x256 .bf16) (ob : FVec Ideal S1x1024x256 .bf16) (p : Fin 1024) (e : Fin 256) :
    rowK cv oa oc ob (ix2 p ⟨512 + (e : ℕ), by omega⟩) = ob (ix3 0 p e) := by
  pointwise [rowK, k0_pay142]
  rw [dif_neg (by omega), dif_neg (by omega), dif_pos (by omega)]
  blk_ext

theorem rowK_3 (cv : FVec Ideal S1024x256 .f32) (oa oc : FVec Ideal S1024x256 .bf16) (ob : FVec Ideal S1x1024x256 .bf16) (p : Fin 1024) (e : Fin 256) :
    rowK cv oa oc ob (ix2 p ⟨768 + (e : ℕ), by omega⟩) = cv (ix2 p e) := by
  pointwise [rowK]
  rw [dif_neg (by omega), dif_neg (by omega), dif_neg (by omega)]
  blk_ext

end Cert.MixIdeal.Part
-- ==== Proof.MixRefHeads.lean ====
module

public import proofs.«01_k».proof.Proof.MixHeads

@[expose] public section

set_option maxRecDepth 16384

noncomputable section

/-! The reference's heads as softmaxes of real scores. -/

namespace Cert.MixRefIdeal.Stage

open Cert.MixRefIdeal Idealize.ShloMosaic Idealize.ShloMosaic.TcCoe Idealize.SL.Sem
open Cert.MixReal Cert.MixIdeal.Part

theorem eighth : Ideal.ofBits FTy.f32 0x3E000000#32 = ((1 / 8 : ℝ) : EReal) := by
  simp [Ideal.ofBits, Ideal.ieee, -EReal.coe_mul]; norm_num

theorem root32 : ∃ a : ℝ, Ideal.ofBits FTy.f32 0x3E3504F3#32 = (a : EReal) := by
  simp [Ideal.ofBits, Ideal.ieee, -EReal.coe_mul]

theorem fifth : IsReal (Ideal.ofBits FTy.f32 0x3E4CCCCD#32) := by
  unfold IsReal
  simp [Ideal.ofBits, Ideal.ieee, -EReal.coe_mul]

theorem two : Ideal.ofBits FTy.f32 0x40000000#32 = 2 := by
  simp [Ideal.ofBits, Ideal.ieee, -EReal.coe_mul]; norm_num; rfl

theorem keysA_real {x4 : FVec Ideal S16x2048x128 .f32} {x8 : FVec Ideal S16x256x128 .f32} (h4 : AllReal x4) (h8 : AllReal x8) (b : Fin 16) (g : Fin 2) (k : Fin 2304) (j : Fin 64) :
    IsReal (keysA x4 x8 (ix4 b g k j)) := by
  rcases two_groups k with ⟨k', rfl⟩ | ⟨k', rfl⟩
  · rw [keysA_lo]; exact h4 _
  · rw [keysA_hi]; exact h8 _

theorem keysC_real {x6 : FVec Ideal S16x2048x256 .f32} {x10 : FVec Ideal S16x256x256 .f32} (h6 : AllReal x6) (h10 : AllReal x10) (b : Fin 16) (h : Fin 4) (c : Fin 2) (k : Fin 2304) (j : Fin 32) :
    IsReal (keysC x6 x10 (ix5 b h c k j)) := by
  rcases two_groups k with ⟨k', rfl⟩ | ⟨k', rfl⟩
  · rw [keysC_lo]; exact h6 _
  · rw [keysC_hi]; exact h10 _

theorem valsC_real {x7 : FVec Ideal S16x2048x256 .f32} {x11 : FVec Ideal S16x256x256 .f32} (h7 : AllReal x7) (h11 : AllReal x11) (b : Fin 16) (h : Fin 4) (k : Fin 2304) (j : Fin 64) :
    IsReal (valsC x7 x11 (ix4 b h k j)) := by
  rcases two_groups k with ⟨k', rfl⟩ | ⟨k', rfl⟩
  · rw [valsC_lo]; exact h7 _
  · rw [valsC_hi]; exact h11 _

theorem scoresA_real {x2 : FVec Ideal S16x2048x256 .f32} {x4 : FVec Ideal S16x2048x128 .f32} {x8 : FVec Ideal S16x256x128 .f32} (h2 : AllReal x2) (h4 : AllReal x4) (h8 : AllReal x8) :
    AllReal (scoresA x2 x4 x8) := fun i => by
  have e : ∀ (b : Fin 16) (g r : Fin 2) (s : Fin 2048) (k : Fin 2304), IsReal (scoresA x2 x4 x8 (ix5 b g r s k)) := fun b g r s k => by
    rw [scoresA_at, eighth]
    exact (IsReal.sum _ _ fun j => (h2 _).mul (keysA_real h4 h8 _ _ _ _)).mul (isReal_coe _)
  exact (congrArg (fun j => IsReal (scoresA x2 x4 x8 j)) (eq_ix5 i)).mpr (e _ _ _ _ _)

theorem scoresC_real {x3 : FVec Ideal S16x2048x256 .f32} {x6 : FVec Ideal S16x2048x256 .f32} {x10 : FVec Ideal S16x256x256 .f32} (h3 : AllReal x3) (h6 : AllReal x6) (h10 : AllReal x10) :
    AllReal (scoresC x3 x6 x10) := fun i => by
  obtain ⟨a, ha⟩ := root32
  have e : ∀ (b : Fin 16) (h : Fin 4) (c : Fin 2) (s : Fin 2048) (k : Fin 2304), IsReal (scoresC x3 x6 x10 (ix5 b h c s k)) := fun b h c s k => by
    rw [scoresC_at, ha]
    exact (IsReal.sum _ _ fun j => (h3 _).mul (keysC_real h6 h10 _ _ _ _ _)).mul (isReal_coe _)
  exact (congrArg (fun j => IsReal (scoresC x3 x6 x10 j)) (eq_ix5 i)).mpr (e _ _ _ _ _)

theorem max_bot_real {x : EReal} (h : IsReal x) : IsReal (max (Ideal.ofBits FTy.f32 0xFF800000#32) x) := by
  rw [ofBits_bot, max_eq_right bot_le]; exact h

/-- A wide head of the reference. -/
theorem wide {x2 : FVec Ideal S16x2048x256 .f32} {x4 : FVec Ideal S16x2048x128 .f32} {x8 : FVec Ideal S16x256x128 .f32} (h2 : AllReal x2) (h4 : AllReal x4) (h8 : AllReal x8)
    (x5 : FVec Ideal S16x2048x128 .f32) (x9 : FVec Ideal S16x256x128 .f32) (b : Fin 16) (g r : Fin 2) (s : Fin 2048) (d : Fin 64) (ρ : Fin 2304 → ℝ)
    (hρ : ∀ k, (∑ j : Fin 64, x2 (ix3 b s ⟨64 * (2 * (g : ℕ) + (r : ℕ)) + (j : ℕ), by omega⟩) * keysA x4 x8 (ix4 b g k j)) * Ideal.ofBits FTy.f32 0x3E000000#32 = (ρ k : EReal)) :
    attA (probA (expA (scoresA x2 x4 x8) (maxA (scoresA x2 x4 x8)))) x5 x9 (ix3 b s ⟨64 * (2 * (g : ℕ) + (r : ℕ)) + (d : ℕ), by omega⟩)
      = soft ρ fun k => valsA x5 x9 (ix4 b g k d) := by
  have hs : ∀ k, scoresA x2 x4 x8 (ix5 b g r s k) = (ρ k : EReal) := fun k => by rw [scoresA_at]; exact hρ k
  have hM := max_bot_real (maxA_real _ (scoresA_real h2 h4 h8) (ix4 b g r s))
  rw [attA_at]
  refine Finset.sum_congr rfl fun k _ => Ideal.mul_congr ?_ rfl
  rw [probA_at]
  simp only [expA_at]
  exact weight_eq (by decide) ρ (fun k => scoresA x2 x4 x8 (ix5 b g r s k)) hs _ hM k

/-- One weight of a narrow head. -/
theorem narrow_weight {x3 : FVec Ideal S16x2048x256 .f32} {x6 : FVec Ideal S16x2048x256 .f32} {x10 : FVec Ideal S16x256x256 .f32} (h3 : AllReal x3) (h6 : AllReal x6) (h10 : AllReal x10)
    (b : Fin 16) (h : Fin 4) (c : Fin 2) (s : Fin 2048) (ρ : Fin 2304 → ℝ)
    (hρ : ∀ k, (∑ j : Fin 32, x3 (ix3 b s ⟨32 * (2 * (h : ℕ) + (c : ℕ)) + (j : ℕ), by omega⟩) * keysC x6 x10 (ix5 b h c k j)) * Ideal.ofBits FTy.f32 0x3E3504F3#32 = (ρ k : EReal)) (k : Fin 2304) :
    probC (expC (scoresC x3 x6 x10) (maxC (scoresC x3 x6 x10))) (ix5 b h c s k) = ((Real.exp (ρ k) / ∑ j, Real.exp (ρ j) : ℝ) : EReal) := by
  have hs : ∀ k, scoresC x3 x6 x10 (ix5 b h c s k) = (ρ k : EReal) := fun k => by rw [scoresC_at]; exact hρ k
  have hM := max_bot_real (maxC_real _ (scoresC_real h3 h6 h10) (ix4 b h c s))
  rw [probC_at]
  simp only [expC_at]
  exact weight_eq (by decide) ρ (fun k => scoresC x3 x6 x10 (ix5 b h c s k)) hs _ hM k

theorem lam_real {x18 : FVec Ideal S4x32 .f32} (h : AllReal x18) (i : S_.Idx) : IsReal (lam x18 i) := by
  rw [lam_at]
  obtain ⟨a, ha⟩ := IsReal.sum Finset.univ (fun j : Fin 32 => x18 (ix2 0 j) * x18 (ix2 1 j)) fun j => (h _).mul (h _)
  obtain ⟨b, hb⟩ := IsReal.sum Finset.univ (fun j : Fin 32 => x18 (ix2 2 j) * x18 (ix2 3 j)) fun j => (h _).mul (h _)
  rw [ha, hb, Ideal.exp_coe, Ideal.exp_coe, ← EReal.coe_sub]
  exact (isReal_coe _).add fifth

/-- The difference of two narrow heads of the reference. -/
theorem narrow {x3 : FVec Ideal S16x2048x256 .f32} {x6 : FVec Ideal S16x2048x256 .f32} {x10 : FVec Ideal S16x256x256 .f32} (h3 : AllReal x3) (h6 : AllReal x6) (h10 : AllReal x10)
    {x7 : FVec Ideal S16x2048x256 .f32} {x11 : FVec Ideal S16x256x256 .f32} (h7 : AllReal x7) (h11 : AllReal x11) {x18 : FVec Ideal S4x32 .f32} (h18 : AllReal x18)
    (b : Fin 16) (h : Fin 4) (s : Fin 2048) (d : Fin 64) (ρ : Fin 2 → Fin 2304 → ℝ)
    (hρ : ∀ (c : Fin 2) k, (∑ j : Fin 32, x3 (ix3 b s ⟨32 * (2 * (h : ℕ) + (c : ℕ)) + (j : ℕ), by omega⟩) * keysC x6 x10 (ix5 b h c k j)) * Ideal.ofBits FTy.f32 0x3E3504F3#32 = (ρ c k : EReal)) :
    diffC (probC (expC (scoresC x3 x6 x10) (maxC (scoresC x3 x6 x10)))) x7 x11 x18 (ix4 b h s d)
      = soft (ρ 0) (fun k => valsC x7 x11 (ix4 b h k d)) - lam x18 ix0 * soft (ρ 1) fun k => valsC x7 x11 (ix4 b h k d) := by
  rw [diffC_at]
  simp only [narrow_weight h3 h6 h10 b h 0 s (ρ 0) (hρ 0), narrow_weight h3 h6 h10 b h 1 s (ρ 1) (hρ 1)]
  exact soft_sub _ _ _ (lam_real h18 _) _ fun k => valsC_real h7 h11 b h k d

end Cert.MixRefIdeal.Stage
-- ==== Proof.MixConv.lean ====
module

public import proofs.«01_k».proof.Proof.MixUnit

@[expose] public section

set_option maxRecDepth 16384

noncomputable section

/-! The mixer's depthwise branch in the kernel: thirty-one taps over rows rotated up, norm and gate. -/

namespace Cert.MixIdeal.Part

open Cert.MixIdeal Cert.MixIdeal.Gen Idealize.ShloMosaic Idealize.ShloMosaic.TcCoe Idealize.SL.Sem
open Cert.MixReal

/-- The rows from sixteen above the block to sixteen below. -/
abbrev win (a : BitVec 32) (y1 : FVec Ideal S1x16x256 .f32) (y2 : FVec Ideal S1x1024x256 .f32) (y3 : FVec Ideal S1x16x256 .f32) : FVec Ideal S1056x256 .f32 := k0_pay126 (F := Ideal) a y1 y2 y3

theorem win_lo (a : BitVec 32) (y1 : FVec Ideal S1x16x256 .f32) (y2 : FVec Ideal S1x1024x256 .f32) (y3 : FVec Ideal S1x16x256 .f32) (r : Fin 16) (e : Fin 256) :
    win a y1 y2 y3 (ix2 ⟨(r : ℕ), by omega⟩ e) = Scalar.select (Scalar.cmpi CmpIPredicate.sgt a 0#32) (y1 (ix3 0 r e)) 0 := by
  pointwise [k0_pay126]

theorem win_mid (a : BitVec 32) (y1 : FVec Ideal S1x16x256 .f32) (y2 : FVec Ideal S1x1024x256 .f32) (y3 : FVec Ideal S1x16x256 .f32) (r : Fin 1024) (e : Fin 256) :
    win a y1 y2 y3 (ix2 ⟨16 + (r : ℕ), by omega⟩ e) = y2 (ix3 0 r e) := by
  pointwise [k0_pay126]

theorem win_hi (a : BitVec 32) (y1 : FVec Ideal S1x16x256 .f32) (y2 : FVec Ideal S1x1024x256 .f32) (y3 : FVec Ideal S1x16x256 .f32) (r : Fin 16) (e : Fin 256) :
    win a y1 y2 y3 (ix2 ⟨1040 + (r : ℕ), by omega⟩ e) = Scalar.select (Scalar.cmpi CmpIPredicate.slt a 1#32) (y3 (ix3 0 r e)) 0 := by
  pointwise [k0_pay126]
  rw [dif_neg (by omega), dif_neg (by omega)]
  congr 1
  blk_ext

/-- One tap. -/
def tapK (z : FVec Ideal S1056x256 .f32) (w : Fin 31 → FVec Ideal S1x256 .f32) (p : Fin 1024) (e : Fin 256) (k : Fin 31) : EReal :=
  z (ix2 ⟨(p : ℕ) + (k : ℕ) + 1, by omega⟩ e) * w k (ix2 0 e)

/-- The taps' sum with the bias. -/
def tapsK (z : FVec Ideal S1056x256 .f32) (w : Fin 31 → FVec Ideal S1x256 .f32) (b : FVec Ideal S1x256 .f32) (p : Fin 1024) (e : Fin 256) : EReal :=
  tapK z w p e 0 + tapK z w p e 1 + tapK z w p e 2 + tapK z w p e 3 + tapK z w p e 4 + tapK z w p e 5 + tapK z w p e 6 + tapK z w p e 7 + tapK z w p e 8 + tapK z w p e 9 + tapK z w p e 10 + tapK z w p e 11 + tapK z w p e 12 + tapK z w p e 13 + tapK z w p e 14 + tapK z w p e 15 + tapK z w p e 16 + tapK z w p e 17 + tapK z w p e 18 + tapK z w p e 19 + tapK z w p e 20 + tapK z w p e 21 + tapK z w p e 22 + tapK z w p e 23 + tapK z w p e 24 + tapK z w p e 25 + tapK z w p e 26 + tapK z w p e 27 + tapK z w p e 28 + tapK z w p e 29 + tapK z w p e 30 + b (ix2 0 e)

/-- The twenty-seven taps before the last four. -/
def accK (a : BitVec 32) (y1 : FVec Ideal S1x16x256 .f32) (y2 : FVec Ideal S1x1024x256 .f32) (y3 : FVec Ideal S1x16x256 .f32) (w : Fin 31 → FVec Ideal S1x256 .f32) : FVec Ideal S1024x256 .f32 :=
  k0_pay136 (win a y1 y2 y3) (k0_pay133 (win a y1 y2 y3) (k0_pay130 (win a y1 y2 y3) (k0_pay127 a y1 y2 y3 (w 7) (w 15) (w 23)) (k0_pay128 a y1 y2 y3) (k0_pay129 a y1 y2 y3) (w 0) (w 8) (w 16) (w 24) (w 1) (w 9) (w 17) (w 25))
    (k0_pay131 (win a y1 y2 y3)) (k0_pay132 (win a y1 y2 y3)) (w 2) (w 10) (w 18) (w 26) (w 3) (w 11) (w 19) (w 27)) (k0_pay134 (win a y1 y2 y3)) (k0_pay135 (win a y1 y2 y3)) (w 4) (w 12) (w 20) (w 28) (w 5) (w 13) (w 21) (w 29)

/-- The branch. -/
def conv (a : BitVec 32) (y1 : FVec Ideal S1x16x256 .f32) (y2 : FVec Ideal S1x1024x256 .f32) (y3 : FVec Ideal S1x16x256 .f32) (w : Fin 31 → FVec Ideal S1x256 .f32) (b g : FVec Ideal S1x256 .f32) : FVec Ideal S1024x256 .f32 :=
  k0_pay139 (accK a y1 y2 y3 w) (k0_pay137 (win a y1 y2 y3)) (k0_pay138 (win a y1 y2 y3)) (w 6) (w 14) (w 22) (w 30) b g

theorem acc0_at (a : BitVec 32) (y1 : FVec Ideal S1x16x256 .f32) (y2 : FVec Ideal S1x1024x256 .f32) (y3 : FVec Ideal S1x16x256 .f32) (w : Fin 31 → FVec Ideal S1x256 .f32) (p : Fin 1024) (e : Fin 256) :
    k0_pay127 (F := Ideal) a y1 y2 y3 (w 7) (w 15) (w 23) (ix2 p e) = tapK (win a y1 y2 y3) w p e 7 + tapK (win a y1 y2 y3) w p e 15 + tapK (win a y1 y2 y3) w p e 23 := by
  pointwise [k0_pay127, tapK]
  refine (Ideal.add_congr (Ideal.add_congr (Ideal.mul_congr ?_ rfl) (Ideal.mul_congr ?_ rfl)) (Ideal.mul_congr ?_ rfl))
  all_goals blk_ext

theorem acc130_at (a : BitVec 32) (y1 : FVec Ideal S1x16x256 .f32) (y2 : FVec Ideal S1x1024x256 .f32) (y3 : FVec Ideal S1x16x256 .f32) (v : FVec Ideal S1024x256 .f32) (w : Fin 31 → FVec Ideal S1x256 .f32) (p : Fin 1024) (e : Fin 256) :
    k0_pay130 (win a y1 y2 y3) v (k0_pay128 (F := Ideal) a y1 y2 y3) (k0_pay129 (F := Ideal) a y1 y2 y3) (w 0) (w 8) (w 16) (w 24) (w 1) (w 9) (w 17) (w 25) (ix2 p e) = v (ix2 p e) + tapK (win a y1 y2 y3) w p e 0 + tapK (win a y1 y2 y3) w p e 8 + tapK (win a y1 y2 y3) w p e 16 + tapK (win a y1 y2 y3) w p e 24 + tapK (win a y1 y2 y3) w p e 1 + tapK (win a y1 y2 y3) w p e 9 + tapK (win a y1 y2 y3) w p e 17 + tapK (win a y1 y2 y3) w p e 25 := by
  pointwise [k0_pay130, k0_pay128, k0_pay129, tapK]
  refine (Ideal.add_congr (Ideal.add_congr (Ideal.add_congr (Ideal.add_congr (Ideal.add_congr (Ideal.add_congr (Ideal.add_congr (Ideal.add_congr rfl (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl))
  all_goals blk_ext

theorem acc133_at (a : BitVec 32) (y1 : FVec Ideal S1x16x256 .f32) (y2 : FVec Ideal S1x1024x256 .f32) (y3 : FVec Ideal S1x16x256 .f32) (v : FVec Ideal S1024x256 .f32) (w : Fin 31 → FVec Ideal S1x256 .f32) (p : Fin 1024) (e : Fin 256) :
    k0_pay133 (win a y1 y2 y3) v (k0_pay131 (win a y1 y2 y3)) (k0_pay132 (win a y1 y2 y3)) (w 2) (w 10) (w 18) (w 26) (w 3) (w 11) (w 19) (w 27) (ix2 p e) = v (ix2 p e) + tapK (win a y1 y2 y3) w p e 2 + tapK (win a y1 y2 y3) w p e 10 + tapK (win a y1 y2 y3) w p e 18 + tapK (win a y1 y2 y3) w p e 26 + tapK (win a y1 y2 y3) w p e 3 + tapK (win a y1 y2 y3) w p e 11 + tapK (win a y1 y2 y3) w p e 19 + tapK (win a y1 y2 y3) w p e 27 := by
  pointwise [k0_pay133, k0_pay131, k0_pay132, tapK]
  refine (Ideal.add_congr (Ideal.add_congr (Ideal.add_congr (Ideal.add_congr (Ideal.add_congr (Ideal.add_congr (Ideal.add_congr (Ideal.add_congr rfl (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl))
  all_goals blk_ext

theorem acc136_at (a : BitVec 32) (y1 : FVec Ideal S1x16x256 .f32) (y2 : FVec Ideal S1x1024x256 .f32) (y3 : FVec Ideal S1x16x256 .f32) (v : FVec Ideal S1024x256 .f32) (w : Fin 31 → FVec Ideal S1x256 .f32) (p : Fin 1024) (e : Fin 256) :
    k0_pay136 (win a y1 y2 y3) v (k0_pay134 (win a y1 y2 y3)) (k0_pay135 (win a y1 y2 y3)) (w 4) (w 12) (w 20) (w 28) (w 5) (w 13) (w 21) (w 29) (ix2 p e) = v (ix2 p e) + tapK (win a y1 y2 y3) w p e 4 + tapK (win a y1 y2 y3) w p e 12 + tapK (win a y1 y2 y3) w p e 20 + tapK (win a y1 y2 y3) w p e 28 + tapK (win a y1 y2 y3) w p e 5 + tapK (win a y1 y2 y3) w p e 13 + tapK (win a y1 y2 y3) w p e 21 + tapK (win a y1 y2 y3) w p e 29 := by
  pointwise [k0_pay136, k0_pay134, k0_pay135, tapK]
  refine (Ideal.add_congr (Ideal.add_congr (Ideal.add_congr (Ideal.add_congr (Ideal.add_congr (Ideal.add_congr (Ideal.add_congr (Ideal.add_congr rfl (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl)) (Ideal.mul_congr ?_ rfl))
  all_goals blk_ext

theorem reorder (x0 x1 x2 x3 x4 x5 x6 x7 x8 x9 x10 x11 x12 x13 x14 x15 x16 x17 x18 x19 x20 x21 x22 x23 x24 x25 x26 x27 x28 x29 x30 : EReal) : x7 + x15 + x23 + x0 + x8 + x16 + x24 + x1 + x9 + x17 + x25 + x2 + x10 + x18 + x26 + x3 + x11 + x19 + x27 + x4 + x12 + x20 + x28 + x5 + x13 + x21 + x29 + x6 + x14 + x22 + x30 = x0 + x1 + x2 + x3 + x4 + x5 + x6 + x7 + x8 + x9 + x10 + x11 + x12 + x13 + x14 + x15 + x16 + x17 + x18 + x19 + x20 + x21 + x22 + x23 + x24 + x25 + x26 + x27 + x28 + x29 + x30 := by
  ac_rfl

theorem conv_at (a : BitVec 32) (y1 : FVec Ideal S1x16x256 .f32) (y2 : FVec Ideal S1x1024x256 .f32) (y3 : FVec Ideal S1x16x256 .f32) (w : Fin 31 → FVec Ideal S1x256 .f32) (b g : FVec Ideal S1x256 .f32) (p : Fin 1024) (e : Fin 256) :
    conv a y1 y2 y3 w b g (ix2 p e)
      = (tapsK (win a y1 y2 y3) w b p e * Ideal.rsqrt (Ideal.div (∑ x, tapsK (win a y1 y2 y3) w b p x * tapsK (win a y1 y2 y3) w b p x) (Ideal.ofBits FTy.f32 0x43800000#32) + Ideal.ofBits FTy.f32 0x358637BD#32) * g (ix2 0 e))
        * Ideal.logistic (tapsK (win a y1 y2 y3) w b p e * Ideal.rsqrt (Ideal.div (∑ x, tapsK (win a y1 y2 y3) w b p x * tapsK (win a y1 y2 y3) w b p x) (Ideal.ofBits FTy.f32 0x43800000#32) + Ideal.ofBits FTy.f32 0x358637BD#32) * g (ix2 0 e)) := by
  have acc : ∀ x : Fin 256, accK a y1 y2 y3 w (ix2 p x) = tapK (win a y1 y2 y3) w p x 7 + tapK (win a y1 y2 y3) w p x 15 + tapK (win a y1 y2 y3) w p x 23 + tapK (win a y1 y2 y3) w p x 0 + tapK (win a y1 y2 y3) w p x 8 + tapK (win a y1 y2 y3) w p x 16 + tapK (win a y1 y2 y3) w p x 24 + tapK (win a y1 y2 y3) w p x 1 + tapK (win a y1 y2 y3) w p x 9 + tapK (win a y1 y2 y3) w p x 17 + tapK (win a y1 y2 y3) w p x 25 + tapK (win a y1 y2 y3) w p x 2 + tapK (win a y1 y2 y3) w p x 10 + tapK (win a y1 y2 y3) w p x 18 + tapK (win a y1 y2 y3) w p x 26 + tapK (win a y1 y2 y3) w p x 3 + tapK (win a y1 y2 y3) w p x 11 + tapK (win a y1 y2 y3) w p x 19 + tapK (win a y1 y2 y3) w p x 27 + tapK (win a y1 y2 y3) w p x 4 + tapK (win a y1 y2 y3) w p x 12 + tapK (win a y1 y2 y3) w p x 20 + tapK (win a y1 y2 y3) w p x 28 + tapK (win a y1 y2 y3) w p x 5 + tapK (win a y1 y2 y3) w p x 13 + tapK (win a y1 y2 y3) w p x 21 + tapK (win a y1 y2 y3) w p x 29 := fun x => by
    unfold accK
    rw [acc136_at, acc133_at, acc130_at, acc0_at]
  have key : ∀ x : Fin 256, accK a y1 y2 y3 w (ix2 p x) + k0_pay138 (win a y1 y2 y3) (ix2 p x) * w 6 (ix2 0 x) + k0_pay137 (win a y1 y2 y3) (ix2 ⟨8 + (p : ℕ), by omega⟩ x) * w 14 (ix2 0 x)
      + k0_pay137 (win a y1 y2 y3) (ix2 ⟨16 + (p : ℕ), by omega⟩ x) * w 22 (ix2 0 x) + k0_pay137 (win a y1 y2 y3) (ix2 ⟨24 + (p : ℕ), by omega⟩ x) * w 30 (ix2 0 x) + b (ix2 0 x) = tapsK (win a y1 y2 y3) w b p x := fun x => by
    unfold tapsK
    refine Eq.trans ?_ (congrArg (· + b (ix2 0 x)) (reorder (tapK (win a y1 y2 y3) w p x 0) (tapK (win a y1 y2 y3) w p x 1) (tapK (win a y1 y2 y3) w p x 2) (tapK (win a y1 y2 y3) w p x 3) (tapK (win a y1 y2 y3) w p x 4) (tapK (win a y1 y2 y3) w p x 5) (tapK (win a y1 y2 y3) w p x 6) (tapK (win a y1 y2 y3) w p x 7) (tapK (win a y1 y2 y3) w p x 8) (tapK (win a y1 y2 y3) w p x 9) (tapK (win a y1 y2 y3) w p x 10) (tapK (win a y1 y2 y3) w p x 11) (tapK (win a y1 y2 y3) w p x 12) (tapK (win a y1 y2 y3) w p x 13) (tapK (win a y1 y2 y3) w p x 14) (tapK (win a y1 y2 y3) w p x 15) (tapK (win a y1 y2 y3) w p x 16) (tapK (win a y1 y2 y3) w p x 17) (tapK (win a y1 y2 y3) w p x 18) (tapK (win a y1 y2 y3) w p x 19) (tapK (win a y1 y2 y3) w p x 20) (tapK (win a y1 y2 y3) w p x 21) (tapK (win a y1 y2 y3) w p x 22) (tapK (win a y1 y2 y3) w p x 23) (tapK (win a y1 y2 y3) w p x 24) (tapK (win a y1 y2 y3) w p x 25) (tapK (win a y1 y2 y3) w p x 26) (tapK (win a y1 y2 y3) w p x 27) (tapK (win a y1 y2 y3) w p x 28) (tapK (win a y1 y2 y3) w p x 29) (tapK (win a y1 y2 y3) w p x 30)))
    rw [← acc]
    pointwise [k0_pay137, k0_pay138, tapK]
    refine Ideal.add_congr (Ideal.add_congr (Ideal.add_congr (Ideal.add_congr (Ideal.add_congr rfl (Ideal.mul_congr ?_ rfl)) (Ideal.mul_congr ?_ rfl)) (Ideal.mul_congr ?_ rfl)) (Ideal.mul_congr ?_ rfl)) rfl
    all_goals blk_ext
  generalize hz : accK a y1 y2 y3 w = z at key
  generalize hu : k0_pay137 (win a y1 y2 y3) = u at key
  generalize hv : k0_pay138 (win a y1 y2 y3) = v at key
  unfold conv
  rw [hz, hu, hv]
  simp only [← key]
  pointwise [k0_pay139]

end Cert.MixIdeal.Part
-- ==== Proof.MixEntry.lean ====
module

public import proofs.«01_k».proof.Proof.MixRefHeads
public import proofs.«01_k».proof.Proof.MixConv

@[expose] public section

set_option maxRecDepth 16384

noncomputable section

/-! What the mixer's kernel reads at each point: the host's arguments and each window's block. -/

namespace Cert.MixIdeal.Part

open Cert.MixIdeal Cert.MixIdeal.Gen Idealize.ShloMosaic Idealize.ShloMosaic.TcCoe Idealize.SL.Sem
open Cert.MixReal

variable (m : (ℓ : Loc nD τ sig) → Buf (Elt Ideal) ℓ)

theorem idxA : ∀ t : Fin cfg0.N, win0_0.index t = ![t.val / 2, t.val % 2, 0] ∧ win0_1.index t = ![t.val / 2, 0, 0] ∧ win0_2.index t = ![t.val / 2, t.val % 2, 0] ∧ win0_3.index t = ![t.val / 2, t.val % 2, 0] ∧ win0_4.index t = ![t.val / 2, 0, 0] ∧ win0_5.index t = ![t.val / 2, 0, 0] ∧ win0_6.index t = ![t.val / 2, 0, 0] ∧ win0_7.index t = ![t.val / 2, 0, 0] ∧ win0_8.index t = ![t.val / 2, 0, 0] ∧ win0_9.index t = ![t.val / 2, 0, 0] ∧ win0_10.index t = ![t.val / 2, 0, 0] ∧ t.val < 32 :=
  (by decide +kernel : ∀ t : Fin grid0.N, _)

theorem idxB : ∀ t : Fin cfg0.N, win0_11.index t = ![t.val / 2, 0, 0] ∧ win0_12.index t = ![t.val / 2, t.val % 2, 0] ∧ win0_13.index t = ![t.val / 2, 0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![t.val / 2, t.val % 2, 0] :=
  (by decide +kernel : ∀ t : Fin grid0.N, _)

theorem offs : ∀ t : Fin cfg0.N, (grid0.coords t 1 : ℕ) = t.val % 2 ∧ (∀ a, k0_off1 (grid0.coords t) a = ![0, 1008 * (t.val % 2), 0] a) ∧ (∀ a, k0_off2 (grid0.coords t) a = ![0, 1024 * (t.val % 2), 0] a)
    ∧ (∀ a, k0_off3 (grid0.coords t) a = ![0, 1024 + 1008 * (t.val % 2), 0] a) :=
  (by decide +kernel : ∀ t : Fin grid0.N, _)

/-- Argument 0. -/
abbrev arg0 (c : Dev nD) : FVec Ideal S16x2048x1024 .f32 := m ((c : Thread nD τ).loc main_arg0)

/-- Argument 1. -/
abbrev arg1 (c : Dev nD) : FVec Ideal S16x9x1024 .f32 := m ((c : Thread nD τ).loc main_arg1)

/-- Argument 2. -/
abbrev arg2 (c : Dev nD) : FVec Ideal S16x2048x256 .f32 := m ((c : Thread nD τ).loc main_arg2)

/-- Argument 3. -/
abbrev arg3 (c : Dev nD) : FVec Ideal S16x2048x256 .f32 := m ((c : Thread nD τ).loc main_arg3)

/-- Argument 4. -/
abbrev arg4 (c : Dev nD) : FVec Ideal S16x2048x128 .f32 := m ((c : Thread nD τ).loc main_arg4)

/-- Argument 5. -/
abbrev arg5 (c : Dev nD) : FVec Ideal S16x2048x128 .f32 := m ((c : Thread nD τ).loc main_arg5)

/-- Argument 6. -/
abbrev arg6 (c : Dev nD) : FVec Ideal S16x2048x256 .f32 := m ((c : Thread nD τ).loc main_arg6)

/-- Argument 7. -/
abbrev arg7 (c : Dev nD) : FVec Ideal S16x2048x256 .f32 := m ((c : Thread nD τ).loc main_arg7)

/-- Argument 8. -/
abbrev arg8 (c : Dev nD) : FVec Ideal S16x256x128 .f32 := m ((c : Thread nD τ).loc main_arg8)

/-- Argument 9. -/
abbrev arg9 (c : Dev nD) : FVec Ideal S16x256x128 .f32 := m ((c : Thread nD τ).loc main_arg9)

/-- Argument 10. -/
abbrev arg10 (c : Dev nD) : FVec Ideal S16x256x256 .f32 := m ((c : Thread nD τ).loc main_arg10)

/-- Argument 11. -/
abbrev arg11 (c : Dev nD) : FVec Ideal S16x256x256 .f32 := m ((c : Thread nD τ).loc main_arg11)

/-- Argument 12. -/
abbrev arg12 (c : Dev nD) : FVec Ideal S16x2048x256 .f32 := m ((c : Thread nD τ).loc main_arg12)

/-- Argument 13. -/
abbrev arg13 (c : Dev nD) : FVec Ideal S16x2048x256 .f32 := m ((c : Thread nD τ).loc main_arg13)

/-- Argument 14. -/
abbrev arg14 (c : Dev nD) : FVec Ideal S31x256 .f32 := m ((c : Thread nD τ).loc main_arg14)

/-- Argument 15. -/
abbrev arg15 (c : Dev nD) : FVec Ideal S256 .f32 := m ((c : Thread nD τ).loc main_arg15)

/-- Argument 16. -/
abbrev arg16 (c : Dev nD) : FVec Ideal S256 .f32 := m ((c : Thread nD τ).loc main_arg16)

/-- Argument 17. -/
abbrev arg17 (c : Dev nD) : FVec Ideal S64 .f32 := m ((c : Thread nD τ).loc main_arg17)

/-- Argument 18. -/
abbrev arg18 (c : Dev nD) : FVec Ideal S4x32 .f32 := m ((c : Thread nD τ).loc main_arg18)

/-- Argument 19. -/
abbrev arg19 (c : Dev nD) : FVec Ideal S1024x1024 .f32 := m ((c : Thread nD τ).loc main_arg19)

/-- The wide queries with the middle heads exchanged, times the scale. -/
def regrouped (x : FVec Ideal S16x2048x256 .f32) : FVec Ideal S16x2048x256 .bf16 :=
  truncf .bf16 (mulf (concatenate S16x2048x256 2 [⟨S16x2048x64, extractStridedSlice S16x2048x64 ![0, 0, 0] x slices_S16x2048x256_S16x2048x64_0_0_0⟩,
    ⟨S16x2048x64, extractStridedSlice S16x2048x64 ![0, 0, 128] x slices_S16x2048x256_S16x2048x64_0_0_128⟩,
    ⟨S16x2048x64, extractStridedSlice S16x2048x64 ![0, 0, 64] x slices_S16x2048x256_S16x2048x64_0_0_64⟩,
    ⟨S16x2048x64, extractStridedSlice S16x2048x64 ![0, 0, 192] x slices_S16x2048x256_S16x2048x64_0_0_192⟩] concatenates_S16x2048x64_S16x2048x64_S16x2048x64_S16x2048x64_S16x2048x256_d2)
    (broadcastInDim S16x2048x256 ![] bcast_S_S16x2048x256 (Host.divf (constant S_ .f32 0x3E000000#32) (Host.log (constant S_ .f32 0x40000000#32))))) bitsLt_bf16_f32

theorem regrouped_0 (x : FVec Ideal S16x2048x256 .f32) (b : Fin 16) (s : Fin 2048) (j : Fin 64) :
    regrouped x (ix3 b s ⟨(j : ℕ), by omega⟩) = x (ix3 b s ⟨(j : ℕ), by omega⟩) * Ideal.div (Ideal.ofBits FTy.f32 0x3E000000#32) (Ideal.log 2) := by
  rw [← Cert.MixRefIdeal.Stage.two]
  pointwise [regrouped]

theorem wideQ_0 (c : Dev nD) (b : Fin 16) (s : Fin 2048) (j : Fin 64) :
    V m c main_v9 (ix3 b s ⟨(j : ℕ), by omega⟩) = arg2 m c (ix3 b s ⟨(j : ℕ), by omega⟩) * Ideal.div (Ideal.ofBits FTy.f32 0x3E000000#32) (Ideal.log 2) :=
  regrouped_0 _ b s j

theorem regrouped_1 (x : FVec Ideal S16x2048x256 .f32) (b : Fin 16) (s : Fin 2048) (j : Fin 64) :
    regrouped x (ix3 b s ⟨128 + (j : ℕ), by omega⟩) = x (ix3 b s ⟨64 + (j : ℕ), by omega⟩) * Ideal.div (Ideal.ofBits FTy.f32 0x3E000000#32) (Ideal.log 2) := by
  rw [← Cert.MixRefIdeal.Stage.two]
  pointwise [regrouped]
  rw [dif_neg (by omega), dif_neg (by omega), dif_pos (by omega)]
  refine Ideal.mul_congr ?_ rfl
  blk_ext

theorem wideQ_1 (c : Dev nD) (b : Fin 16) (s : Fin 2048) (j : Fin 64) :
    V m c main_v9 (ix3 b s ⟨128 + (j : ℕ), by omega⟩) = arg2 m c (ix3 b s ⟨64 + (j : ℕ), by omega⟩) * Ideal.div (Ideal.ofBits FTy.f32 0x3E000000#32) (Ideal.log 2) :=
  regrouped_1 _ b s j

theorem regrouped_2 (x : FVec Ideal S16x2048x256 .f32) (b : Fin 16) (s : Fin 2048) (j : Fin 64) :
    regrouped x (ix3 b s ⟨64 + (j : ℕ), by omega⟩) = x (ix3 b s ⟨128 + (j : ℕ), by omega⟩) * Ideal.div (Ideal.ofBits FTy.f32 0x3E000000#32) (Ideal.log 2) := by
  rw [← Cert.MixRefIdeal.Stage.two]
  pointwise [regrouped]

theorem wideQ_2 (c : Dev nD) (b : Fin 16) (s : Fin 2048) (j : Fin 64) :
    V m c main_v9 (ix3 b s ⟨64 + (j : ℕ), by omega⟩) = arg2 m c (ix3 b s ⟨128 + (j : ℕ), by omega⟩) * Ideal.div (Ideal.ofBits FTy.f32 0x3E000000#32) (Ideal.log 2) :=
  regrouped_2 _ b s j

theorem regrouped_3 (x : FVec Ideal S16x2048x256 .f32) (b : Fin 16) (s : Fin 2048) (j : Fin 64) :
    regrouped x (ix3 b s ⟨192 + (j : ℕ), by omega⟩) = x (ix3 b s ⟨192 + (j : ℕ), by omega⟩) * Ideal.div (Ideal.ofBits FTy.f32 0x3E000000#32) (Ideal.log 2) := by
  rw [← Cert.MixRefIdeal.Stage.two]
  pointwise [regrouped]
  rw [dif_neg (by omega), dif_neg (by omega), dif_neg (by omega)]
  refine Ideal.mul_congr ?_ rfl
  blk_ext

theorem wideQ_3 (c : Dev nD) (b : Fin 16) (s : Fin 2048) (j : Fin 64) :
    V m c main_v9 (ix3 b s ⟨192 + (j : ℕ), by omega⟩) = arg2 m c (ix3 b s ⟨192 + (j : ℕ), by omega⟩) * Ideal.div (Ideal.ofBits FTy.f32 0x3E000000#32) (Ideal.log 2) :=
  regrouped_3 _ b s j

theorem narrowQ (c : Dev nD) (b : Fin 16) (s : Fin 2048) (j : Fin 256) :
    V m c main_v13 (ix3 b s j) = arg3 m c (ix3 b s j) * Ideal.div (Ideal.ofBits FTy.f32 0x3E3504F3#32) (Ideal.log 2) := by
  rw [← Cert.MixRefIdeal.Stage.two]
  entry_read; pointwise

theorem wideK (c : Dev nD) (b : Fin 16) (k : Fin 2048) (e : Fin 128) : V m c main_v17 (ix3 b k e) = arg4 m c (ix3 b k e) := by
  entry_read; pointwise
  try rfl

theorem narrowK (c : Dev nD) (b : Fin 16) (k : Fin 2048) (e : Fin 256) : V m c main_v20 (ix3 b k e) = arg6 m c (ix3 b k e) := by
  entry_read; pointwise
  try rfl

theorem wideK' (c : Dev nD) (b : Fin 16) (k : Fin 256) (e : Fin 128) : V m c main_v23 (ix3 b k e) = arg8 m c (ix3 b k e) := by
  entry_read; pointwise
  try rfl

theorem narrowK' (c : Dev nD) (b : Fin 16) (k : Fin 256) (e : Fin 256) : V m c main_v26 (ix3 b k e) = arg10 m c (ix3 b k e) := by
  entry_read; pointwise
  try rfl

theorem side (c : Dev nD) (b : Fin 16) (k : Fin 2048) (e : Fin 256) : V m c main_v29 (ix3 b k e) = arg12 m c (ix3 b k e) := by
  entry_read; pointwise
  try rfl

theorem wideV (c : Dev nD) (b : Fin 16) (e : Fin 128) (k : Fin 2048) : V m c main_v19 (ix3 b e k) = arg5 m c (ix3 b k e) := by
  entry_read; pointwise
  try rfl

theorem narrowV (c : Dev nD) (b : Fin 16) (e : Fin 256) (k : Fin 2048) : V m c main_v22 (ix3 b e k) = arg7 m c (ix3 b k e) := by
  entry_read; pointwise
  try rfl

theorem wideV' (c : Dev nD) (b : Fin 16) (e : Fin 128) (k : Fin 256) : V m c main_v25 (ix3 b e k) = arg9 m c (ix3 b k e) := by
  entry_read; pointwise
  try rfl

theorem narrowV' (c : Dev nD) (b : Fin 16) (e : Fin 256) (k : Fin 256) : V m c main_v28 (ix3 b e k) = arg11 m c (ix3 b k e) := by
  entry_read; pointwise
  try rfl

theorem bias (c : Dev nD) (e : Fin 256) : V m c main_v14 (ix2 0 e) = arg15 m c (ix1 e) := by
  entry_read; pointwise
  try rfl

theorem convGain (c : Dev nD) (e : Fin 256) : V m c main_v15 (ix2 0 e) = arg16 m c (ix1 e) := by
  entry_read; pointwise
  try rfl

theorem headGain (c : Dev nD) (d : Fin 64) : V m c main_v16 (ix2 d 0) = arg17 m c (ix1 d) := by
  entry_read; pointwise
  try rfl

theorem outer (c : Dev nD) (e d : Fin 1024) : V m c main_v30 (ix2 e d) = arg19 m c (ix2 e d) := by
  entry_read; pointwise
  try rfl

/-! ### The blocks -/

/-- The batch entry of a point. -/
abbrev bt (t : Fin cfg0.N) : Fin 16 := ⟨t.val / 2, by have := (idxA t).2.2.2.2.2.2.2.2.2.2.2; omega⟩

/-- The row of a point's query. -/
abbrev st (t : Fin cfg0.N) (p : Fin 1024) : Fin 2048 := ⟨t.val % 2 * 1024 + (p : ℕ), by omega⟩

theorem in0 (c : Dev nD) (t : Fin cfg0.N) (p d : Fin 1024) : iblk m c 0 t (ix3 0 p d) = arg0 m c (ix3 (bt t) (st t p) d) := by
  blk_ext [iblk, V, idxA t, idxB t]

theorem in1 (c : Dev nD) (t : Fin cfg0.N) (d : Fin 1024) : iblk m c 1 t (ix3 0 5 d) = arg1 m c (ix3 (bt t) 5 d) := by
  blk_ext [iblk, V, idxA t, idxB t]

theorem in2_0 (c : Dev nD) (t : Fin cfg0.N) (p : Fin 1024) (j : Fin 64) : iblk m c 2 t (ix3 0 p ⟨(j : ℕ), by omega⟩) = arg2 m c (ix3 (bt t) (st t p) ⟨(j : ℕ), by omega⟩) * Ideal.div (Ideal.ofBits FTy.f32 0x3E000000#32) (Ideal.log 2) := by
  refine Eq.trans ?_ (wideQ_0 m c (bt t) (st t p) j)
  blk_ext [iblk, idxA t, idxB t]

theorem in2_1 (c : Dev nD) (t : Fin cfg0.N) (p : Fin 1024) (j : Fin 64) : iblk m c 2 t (ix3 0 p ⟨128 + (j : ℕ), by omega⟩) = arg2 m c (ix3 (bt t) (st t p) ⟨64 + (j : ℕ), by omega⟩) * Ideal.div (Ideal.ofBits FTy.f32 0x3E000000#32) (Ideal.log 2) := by
  refine Eq.trans ?_ (wideQ_1 m c (bt t) (st t p) j)
  blk_ext [iblk, idxA t, idxB t]

theorem in2_2 (c : Dev nD) (t : Fin cfg0.N) (p : Fin 1024) (j : Fin 64) : iblk m c 2 t (ix3 0 p ⟨64 + (j : ℕ), by omega⟩) = arg2 m c (ix3 (bt t) (st t p) ⟨128 + (j : ℕ), by omega⟩) * Ideal.div (Ideal.ofBits FTy.f32 0x3E000000#32) (Ideal.log 2) := by
  refine Eq.trans ?_ (wideQ_2 m c (bt t) (st t p) j)
  blk_ext [iblk, idxA t, idxB t]

theorem in2_3 (c : Dev nD) (t : Fin cfg0.N) (p : Fin 1024) (j : Fin 64) : iblk m c 2 t (ix3 0 p ⟨192 + (j : ℕ), by omega⟩) = arg2 m c (ix3 (bt t) (st t p) ⟨192 + (j : ℕ), by omega⟩) * Ideal.div (Ideal.ofBits FTy.f32 0x3E000000#32) (Ideal.log 2) := by
  refine Eq.trans ?_ (wideQ_3 m c (bt t) (st t p) j)
  blk_ext [iblk, idxA t, idxB t]

theorem in3 (c : Dev nD) (t : Fin cfg0.N) (p : Fin 1024) (j : Fin 256) : iblk m c 3 t (ix3 0 p j) = arg3 m c (ix3 (bt t) (st t p) j) * Ideal.div (Ideal.ofBits FTy.f32 0x3E3504F3#32) (Ideal.log 2) := by
  refine Eq.trans ?_ (narrowQ m c (bt t) (st t p) j)
  blk_ext [iblk, idxA t, idxB t]

theorem in4 (c : Dev nD) (t : Fin cfg0.N) (k : Fin 2048) (e : Fin 128) : iblk m c 4 t (ix3 0 k e) = arg4 m c (ix3 (bt t) k e) := by
  refine Eq.trans ?_ (wideK m c (bt t) k e)
  blk_ext [iblk, idxA t, idxB t]

theorem in6 (c : Dev nD) (t : Fin cfg0.N) (k : Fin 2048) (e : Fin 256) : iblk m c 6 t (ix3 0 k e) = arg6 m c (ix3 (bt t) k e) := by
  refine Eq.trans ?_ (narrowK m c (bt t) k e)
  blk_ext [iblk, idxA t, idxB t]

theorem in8 (c : Dev nD) (t : Fin cfg0.N) (k : Fin 256) (e : Fin 128) : iblk m c 8 t (ix3 0 k e) = arg8 m c (ix3 (bt t) k e) := by
  refine Eq.trans ?_ (wideK' m c (bt t) k e)
  blk_ext [iblk, idxA t, idxB t]

theorem in10 (c : Dev nD) (t : Fin cfg0.N) (k : Fin 256) (e : Fin 256) : iblk m c 10 t (ix3 0 k e) = arg10 m c (ix3 (bt t) k e) := by
  refine Eq.trans ?_ (narrowK' m c (bt t) k e)
  blk_ext [iblk, idxA t, idxB t]

theorem in5 (c : Dev nD) (t : Fin cfg0.N) (e : Fin 128) (k : Fin 2048) : iblk m c 5 t (ix3 0 e k) = arg5 m c (ix3 (bt t) k e) := by
  refine Eq.trans ?_ (wideV m c (bt t) e k)
  blk_ext [iblk, idxA t, idxB t]

theorem in7 (c : Dev nD) (t : Fin cfg0.N) (e : Fin 256) (k : Fin 2048) : iblk m c 7 t (ix3 0 e k) = arg7 m c (ix3 (bt t) k e) := by
  refine Eq.trans ?_ (narrowV m c (bt t) e k)
  blk_ext [iblk, idxA t, idxB t]

theorem in9 (c : Dev nD) (t : Fin cfg0.N) (e : Fin 128) (k : Fin 256) : iblk m c 9 t (ix3 0 e k) = arg9 m c (ix3 (bt t) k e) := by
  refine Eq.trans ?_ (wideV' m c (bt t) e k)
  blk_ext [iblk, idxA t, idxB t]

theorem in11 (c : Dev nD) (t : Fin cfg0.N) (e : Fin 256) (k : Fin 256) : iblk m c 11 t (ix3 0 e k) = arg11 m c (ix3 (bt t) k e) := by
  refine Eq.trans ?_ (narrowV' m c (bt t) e k)
  blk_ext [iblk, idxA t, idxB t]

theorem in12 (c : Dev nD) (t : Fin cfg0.N) (p : Fin 1024) (e : Fin 256) : iblk m c 12 t (ix3 0 p e) = arg12 m c (ix3 (bt t) (st t p) e) := by
  refine Eq.trans ?_ (side m c (bt t) (st t p) e)
  blk_ext [iblk, idxA t, idxB t]

theorem in13 (c : Dev nD) (t : Fin cfg0.N) (s : Fin 2048) (e : Fin 256) : iblk m c 13 t (ix3 0 s e) = arg13 m c (ix3 (bt t) s e) := by
  blk_ext [iblk, V, idxA t, idxB t]

theorem in14 (c : Dev nD) (t : Fin cfg0.N) (k : Fin 31) (e : Fin 256) : iblk m c 14 t (ix2 k e) = arg14 m c (ix2 k e) := by
  blk_ext [iblk, V, idxA t, idxB t]

theorem in15 (c : Dev nD) (t : Fin cfg0.N) (e : Fin 256) : iblk m c 15 t (ix2 0 e) = arg15 m c (ix1 e) := by
  refine Eq.trans ?_ (bias m c e)
  blk_ext [iblk, idxA t, idxB t]

theorem in16 (c : Dev nD) (t : Fin cfg0.N) (e : Fin 256) : iblk m c 16 t (ix2 0 e) = arg16 m c (ix1 e) := by
  refine Eq.trans ?_ (convGain m c e)
  blk_ext [iblk, idxA t, idxB t]

theorem in17 (c : Dev nD) (t : Fin cfg0.N) (d : Fin 64) : iblk m c 17 t (ix2 d 0) = arg17 m c (ix1 d) := by
  refine Eq.trans ?_ (headGain m c d)
  blk_ext [iblk, idxA t, idxB t]

theorem in18 (c : Dev nD) (t : Fin cfg0.N) (i : Fin 4) (j : Fin 32) : iblk m c 18 t (ix2 i j) = arg18 m c (ix2 i j) := by
  blk_ext [iblk, V, idxA t, idxB t]

theorem in19 (c : Dev nD) (t : Fin cfg0.N) (e d : Fin 1024) : iblk m c 19 t (ix2 e d) = arg19 m c (ix2 e d) := by
  refine Eq.trans ?_ (outer m c e d)
  blk_ext [iblk, idxA t, idxB t]

/-! ### The loads of a part of a window -/

theorem ld5 (c : Dev nD) (t : Fin cfg0.N) (o : ℕ) (ho : o + 64 ≤ 128) (inb : ∀ a, (![0, o, 0] : Fin 3 → ℕ) a + (![1, 64, 2048] : Fin 3 → ℕ) a ≤ S1x128x2048.size a) (d : Fin 64) (k : Fin 2048) :
    View.ld (Val := Elt Ideal) (e' := .bf16) (iblk m c 5 t) (Rect.unit (s := S1x128x2048) ![0, o, 0] ![1, 64, 2048] inb) (ix3 0 d k) = arg5 m c (ix3 (bt t) k ⟨o + (d : ℕ), by omega⟩) := by
  refine (View.ld_unit_apply_of (Val := Elt Ideal) (e := .bf16) (iblk m c 5 t) ![0, o, 0] ![1, 64, 2048] inb (ix3 0 d k) (ix3 0 ⟨o + (d : ℕ), by omega⟩ k) ?_).trans (in5 m c t _ k)
  intro a
  match a with
  | ⟨0, _⟩ => rfl
  | ⟨1, _⟩ => rfl
  | ⟨2, _⟩ => show (k : ℕ) = 0 + k; omega

theorem ld9 (c : Dev nD) (t : Fin cfg0.N) (o : ℕ) (ho : o + 64 ≤ 128) (inb : ∀ a, (![0, o, 0] : Fin 3 → ℕ) a + (![1, 64, 256] : Fin 3 → ℕ) a ≤ S1x128x256.size a) (d : Fin 64) (k : Fin 256) :
    View.ld (Val := Elt Ideal) (e' := .bf16) (iblk m c 9 t) (Rect.unit (s := S1x128x256) ![0, o, 0] ![1, 64, 256] inb) (ix3 0 d k) = arg9 m c (ix3 (bt t) k ⟨o + (d : ℕ), by omega⟩) := by
  refine (View.ld_unit_apply_of (Val := Elt Ideal) (e := .bf16) (iblk m c 9 t) ![0, o, 0] ![1, 64, 256] inb (ix3 0 d k) (ix3 0 ⟨o + (d : ℕ), by omega⟩ k) ?_).trans (in9 m c t _ k)
  intro a
  match a with
  | ⟨0, _⟩ => rfl
  | ⟨1, _⟩ => rfl
  | ⟨2, _⟩ => show (k : ℕ) = 0 + k; omega

theorem ld7 (c : Dev nD) (t : Fin cfg0.N) (o : ℕ) (ho : o + 64 ≤ 256) (inb : ∀ a, (![0, o, 0] : Fin 3 → ℕ) a + (![1, 64, 2048] : Fin 3 → ℕ) a ≤ S1x256x2048.size a) (d : Fin 64) (k : Fin 2048) :
    View.ld (Val := Elt Ideal) (e' := .bf16) (iblk m c 7 t) (Rect.unit (s := S1x256x2048) ![0, o, 0] ![1, 64, 2048] inb) (ix3 0 d k) = arg7 m c (ix3 (bt t) k ⟨o + (d : ℕ), by omega⟩) := by
  refine (View.ld_unit_apply_of (Val := Elt Ideal) (e := .bf16) (iblk m c 7 t) ![0, o, 0] ![1, 64, 2048] inb (ix3 0 d k) (ix3 0 ⟨o + (d : ℕ), by omega⟩ k) ?_).trans (in7 m c t _ k)
  intro a
  match a with
  | ⟨0, _⟩ => rfl
  | ⟨1, _⟩ => rfl
  | ⟨2, _⟩ => show (k : ℕ) = 0 + k; omega

theorem ld11 (c : Dev nD) (t : Fin cfg0.N) (o : ℕ) (ho : o + 64 ≤ 256) (inb : ∀ a, (![0, o, 0] : Fin 3 → ℕ) a + (![1, 64, 256] : Fin 3 → ℕ) a ≤ S1x256x256.size a) (d : Fin 64) (k : Fin 256) :
    View.ld (Val := Elt Ideal) (e' := .bf16) (iblk m c 11 t) (Rect.unit (s := S1x256x256) ![0, o, 0] ![1, 64, 256] inb) (ix3 0 d k) = arg11 m c (ix3 (bt t) k ⟨o + (d : ℕ), by omega⟩) := by
  refine (View.ld_unit_apply_of (Val := Elt Ideal) (e := .bf16) (iblk m c 11 t) ![0, o, 0] ![1, 64, 256] inb (ix3 0 d k) (ix3 0 ⟨o + (d : ℕ), by omega⟩ k) ?_).trans (in11 m c t _ k)
  intro a
  match a with
  | ⟨0, _⟩ => rfl
  | ⟨1, _⟩ => rfl
  | ⟨2, _⟩ => show (k : ℕ) = 0 + k; omega

theorem ld14 (c : Dev nD) (t : Fin cfg0.N) (k : Fin 31) (inb : ∀ a, (![(k : ℕ), 0] : Fin 2 → ℕ) a + (![1, 256] : Fin 2 → ℕ) a ≤ S31x256.size a) (e : Fin 256) :
    View.ld (Val := Elt Ideal) (e' := .f32) (iblk m c 14 t) (Rect.unit (s := S31x256) ![(k : ℕ), 0] ![1, 256] inb) (ix2 0 e) = arg14 m c (ix2 k e) := by
  refine (View.ld_unit_apply_of (Val := Elt Ideal) (e := .f32) (iblk m c 14 t) ![(k : ℕ), 0] ![1, 256] inb (ix2 0 e) (ix2 k e) ?_).trans (in14 m c t k e)
  intro a
  match a with
  | ⟨0, _⟩ => rfl
  | ⟨1, _⟩ => show (e : ℕ) = 0 + e; omega

theorem ld13_1 (c : Dev nD) (t : Fin cfg0.N) (r : Fin 16) (e : Fin 256) (s : Fin 2048) (hs : (s : ℕ) = 1008 * (t.val % 2) + (r : ℕ)) :
    View.ld (Val := Elt Ideal) (e' := .f32) (iblk m c 13 t) (Rect.unit (s := S1x2048x256) (k0_off1 (grid0.coords t)) ![1, 16, 256] (k0_off1_inb (grid0.coords t))) (ix3 0 r e) = arg13 m c (ix3 (bt t) s e) := by
  refine (View.ld_unit_apply_of (Val := Elt Ideal) (e := .f32) (iblk m c 13 t) _ ![1, 16, 256] _ (ix3 0 r e) (ix3 0 s e) ?_).trans (in13 m c t s e)
  intro a
  rw [(offs t).2.1 a]
  match a with
  | ⟨0, _⟩ => rfl
  | ⟨1, _⟩ => exact hs
  | ⟨2, _⟩ => show (e : ℕ) = 0 + e; omega

theorem ld13_2 (c : Dev nD) (t : Fin cfg0.N) (r : Fin 1024) (e : Fin 256) (s : Fin 2048) (hs : (s : ℕ) = 1024 * (t.val % 2) + (r : ℕ)) :
    View.ld (Val := Elt Ideal) (e' := .f32) (iblk m c 13 t) (Rect.unit (s := S1x2048x256) (k0_off2 (grid0.coords t)) ![1, 1024, 256] (k0_off2_inb (grid0.coords t))) (ix3 0 r e) = arg13 m c (ix3 (bt t) s e) := by
  refine (View.ld_unit_apply_of (Val := Elt Ideal) (e := .f32) (iblk m c 13 t) _ ![1, 1024, 256] _ (ix3 0 r e) (ix3 0 s e) ?_).trans (in13 m c t s e)
  intro a
  rw [(offs t).2.2.1 a]
  match a with
  | ⟨0, _⟩ => rfl
  | ⟨1, _⟩ => exact hs
  | ⟨2, _⟩ => show (e : ℕ) = 0 + e; omega

theorem ld13_3 (c : Dev nD) (t : Fin cfg0.N) (r : Fin 16) (e : Fin 256) (s : Fin 2048) (hs : (s : ℕ) = 1024 + 1008 * (t.val % 2) + (r : ℕ)) :
    View.ld (Val := Elt Ideal) (e' := .f32) (iblk m c 13 t) (Rect.unit (s := S1x2048x256) (k0_off3 (grid0.coords t)) ![1, 16, 256] (k0_off3_inb (grid0.coords t))) (ix3 0 r e) = arg13 m c (ix3 (bt t) s e) := by
  refine (View.ld_unit_apply_of (Val := Elt Ideal) (e := .f32) (iblk m c 13 t) _ ![1, 16, 256] _ (ix3 0 r e) (ix3 0 s e) ?_).trans (in13 m c t s e)
  intro a
  rw [(offs t).2.2.2 a]
  match a with
  | ⟨0, _⟩ => rfl
  | ⟨1, _⟩ => exact hs
  | ⟨2, _⟩ => show (e : ℕ) = 0 + e; omega

end Cert.MixIdeal.Part
-- ==== Proof.MixPieces.lean ====
module

public import proofs.«01_k».proof.Proof.MixEntry

@[expose] public section

set_option maxRecDepth 16384

noncomputable section

/-! Each head of the kernel at each point, as the reference's. -/

namespace Cert.MixIdeal.Part

open Cert.MixIdeal Cert.MixIdeal.Gen Idealize.ShloMosaic Idealize.ShloMosaic.TcCoe Idealize.SL.Sem
open Cert.MixReal
open Cert.MixRefIdeal.Stage

variable (m : (ℓ : Loc nD τ sig) → Buf (Elt Ideal) ℓ)

/-- The arguments whose entries are finite. -/
structure Fin9 (c : Dev nD) : Prop where
  h2 : AllReal (arg2 m c)
  h3 : AllReal (arg3 m c)
  h4 : AllReal (arg4 m c)
  h6 : AllReal (arg6 m c)
  h7 : AllReal (arg7 m c)
  h8 : AllReal (arg8 m c)
  h10 : AllReal (arg10 m c)
  h11 : AllReal (arg11 m c)
  h18 : AllReal (arg18 m c)

/-- The reference's first attention. -/
abbrev refA (c : Dev nD) : FVec Ideal S16x2048x256 .f32 :=
  attA (probA (expA (scoresA (arg2 m c) (arg4 m c) (arg8 m c)) (maxA (scoresA (arg2 m c) (arg4 m c) (arg8 m c))))) (arg5 m c) (arg9 m c)

/-- The reference's differences of heads. -/
abbrev refD (c : Dev nD) : FVec Ideal Cert.MixRefIdeal.S16x4x2048x64 .f32 :=
  diffC (probC (expC (scoresC (arg3 m c) (arg6 m c) (arg10 m c)) (maxC (scoresC (arg3 m c) (arg6 m c) (arg10 m c))))) (arg7 m c) (arg11 m c) (arg18 m c)

/-- Wide head 0. -/
def wideHead_0 (c : Dev nD) (t : Fin cfg0.N) : FVec Ideal S64x1024 .f32 :=
  quot (unit (vals (View.ld (Val := Elt Ideal) (e' := .bf16) (iblk m c 5 t) (Rect.unit (s := S1x128x2048) ![0, 0, 0] ![1, 64, 2048] inb_S1x128x2048_S1x64x2048_0_0_0))) (vals' (View.ld (Val := Elt Ideal) (e' := .bf16) (iblk m c 9 t) (Rect.unit (s := S1x128x256) ![0, 0, 0] ![1, 64, 256] inb_S1x128x256_S1x64x256_0_0_0)))
    (scA (iblk m c 4 t) (iblk m c 8 t) (qA0 (iblk m c 2 t))))

theorem wideHead_0_at (c : Dev nD) (H : Fin9 m c) (t : Fin cfg0.N) (d : Fin 64) (p : Fin 1024) :
    wideHead_0 m c t (ix2 d p) = refA m c (ix3 (bt t) (st t p) ⟨0 + (d : ℕ), by omega⟩) := by
  have hr : ∀ k, ∃ r : ℝ, (∑ j : Fin 64, arg2 m c (ix3 (bt t) (st t p) ⟨0 + (j : ℕ), by omega⟩) * keysA (arg4 m c) (arg8 m c) (ix4 (bt t) 0 k j)) * Ideal.ofBits FTy.f32 0x3E000000#32 = (r : EReal) := fun k => by
    obtain ⟨r, h, _⟩ := scaled_dot (fun j : Fin 64 => arg2 m c (ix3 (bt t) (st t p) ⟨0 + (j : ℕ), by omega⟩)) (fun j => keysA (arg4 m c) (arg8 m c) (ix4 (bt t) 0 k j))
      (fun _ => H.h2 _) (fun j => Cert.MixRefIdeal.Stage.keysA_real H.h4 H.h8 _ _ _ _) _ _ Cert.MixRefIdeal.Stage.eighth
    exact ⟨r, h⟩
  choose ρ hρ using hr
  refine (headA (iblk m c 4 t) (iblk m c 8 t) _ 0 (by omega) (fun p j => iblk m c 2 t (ix3 0 p ⟨(j : ℕ), by omega⟩)) (fun p j => qA0_at _ p j)
    (fun k j => keysA (arg4 m c) (arg8 m c) (ix4 (bt t) 0 k j)) (fun k j => Cert.MixRefIdeal.Stage.keysA_real H.h4 H.h8 _ _ _ _) ?_ ?_
    (fun p j => arg2 m c (ix3 (bt t) (st t p) ⟨0 + (j : ℕ), by omega⟩)) (fun _ _ => H.h2 _) (Ideal.ofBits FTy.f32 0x3E000000#32) _ Cert.MixRefIdeal.Stage.eighth ?_
    _ _ d p (fun k => valsA (arg5 m c) (arg9 m c) (ix4 (bt t) 0 k d)) ?_ ?_ ρ hρ).trans ?_
  · intro k j
    refine (in4 m c t k _).trans ((Cert.MixRefIdeal.Stage.keysA_lo (arg4 m c) (arg8 m c) (bt t) 0 k j).trans ?_).symm
    blk_ext
  · intro k j
    refine (in8 m c t k _).trans ((Cert.MixRefIdeal.Stage.keysA_hi (arg4 m c) (arg8 m c) (bt t) 0 k j).trans ?_).symm
    blk_ext
  · intro p j
    refine Eq.trans ?_ ((in2_0 m c t p j).trans ?_)
    · blk_ext
    · refine Ideal.mul_congr ?_ rfl
      blk_ext
  · intro k
    refine (ld5 m c t 0 (by omega) _ d k).trans ((Cert.MixRefIdeal.Stage.valsA_lo (arg5 m c) (arg9 m c) (bt t) 0 k d).trans ?_).symm
    blk_ext
  · intro k
    refine (ld9 m c t 0 (by omega) _ d k).trans ((Cert.MixRefIdeal.Stage.valsA_hi (arg5 m c) (arg9 m c) (bt t) 0 k d).trans ?_).symm
    blk_ext
  · refine ((Cert.MixRefIdeal.Stage.wide H.h2 H.h4 H.h8 (arg5 m c) (arg9 m c) (bt t) 0 0 (st t p) d ρ ?_).symm).trans ?_
    · intro k
      refine Eq.trans ?_ (hρ k)
      refine Ideal.mul_congr (Finset.sum_congr rfl fun j _ => Ideal.mul_congr ?_ rfl) rfl
      blk_ext
    · blk_ext

/-- Wide head 1. -/
def wideHead_1 (c : Dev nD) (t : Fin cfg0.N) : FVec Ideal S64x1024 .f32 :=
  quot (unit (vals (View.ld (Val := Elt Ideal) (e' := .bf16) (iblk m c 5 t) (Rect.unit (s := S1x128x2048) ![0, 0, 0] ![1, 64, 2048] inb_S1x128x2048_S1x64x2048_0_0_0))) (vals' (View.ld (Val := Elt Ideal) (e' := .bf16) (iblk m c 9 t) (Rect.unit (s := S1x128x256) ![0, 0, 0] ![1, 64, 256] inb_S1x128x256_S1x64x256_0_0_0)))
    (scA (iblk m c 4 t) (iblk m c 8 t) (qA1 (iblk m c 2 t))))

theorem wideHead_1_at (c : Dev nD) (H : Fin9 m c) (t : Fin cfg0.N) (d : Fin 64) (p : Fin 1024) :
    wideHead_1 m c t (ix2 d p) = refA m c (ix3 (bt t) (st t p) ⟨64 + (d : ℕ), by omega⟩) := by
  have hr : ∀ k, ∃ r : ℝ, (∑ j : Fin 64, arg2 m c (ix3 (bt t) (st t p) ⟨64 + (j : ℕ), by omega⟩) * keysA (arg4 m c) (arg8 m c) (ix4 (bt t) 0 k j)) * Ideal.ofBits FTy.f32 0x3E000000#32 = (r : EReal) := fun k => by
    obtain ⟨r, h, _⟩ := scaled_dot (fun j : Fin 64 => arg2 m c (ix3 (bt t) (st t p) ⟨64 + (j : ℕ), by omega⟩)) (fun j => keysA (arg4 m c) (arg8 m c) (ix4 (bt t) 0 k j))
      (fun _ => H.h2 _) (fun j => Cert.MixRefIdeal.Stage.keysA_real H.h4 H.h8 _ _ _ _) _ _ Cert.MixRefIdeal.Stage.eighth
    exact ⟨r, h⟩
  choose ρ hρ using hr
  refine (headA (iblk m c 4 t) (iblk m c 8 t) _ 0 (by omega) (fun p j => iblk m c 2 t (ix3 0 p ⟨128 + (j : ℕ), by omega⟩)) (fun p j => qA1_at _ p j)
    (fun k j => keysA (arg4 m c) (arg8 m c) (ix4 (bt t) 0 k j)) (fun k j => Cert.MixRefIdeal.Stage.keysA_real H.h4 H.h8 _ _ _ _) ?_ ?_
    (fun p j => arg2 m c (ix3 (bt t) (st t p) ⟨64 + (j : ℕ), by omega⟩)) (fun _ _ => H.h2 _) (Ideal.ofBits FTy.f32 0x3E000000#32) _ Cert.MixRefIdeal.Stage.eighth ?_
    _ _ d p (fun k => valsA (arg5 m c) (arg9 m c) (ix4 (bt t) 0 k d)) ?_ ?_ ρ hρ).trans ?_
  · intro k j
    refine (in4 m c t k _).trans ((Cert.MixRefIdeal.Stage.keysA_lo (arg4 m c) (arg8 m c) (bt t) 0 k j).trans ?_).symm
    blk_ext
  · intro k j
    refine (in8 m c t k _).trans ((Cert.MixRefIdeal.Stage.keysA_hi (arg4 m c) (arg8 m c) (bt t) 0 k j).trans ?_).symm
    blk_ext
  · intro p j
    refine Eq.trans ?_ ((in2_1 m c t p j).trans ?_)
    · blk_ext
    · refine Ideal.mul_congr ?_ rfl
      blk_ext
  · intro k
    refine (ld5 m c t 0 (by omega) _ d k).trans ((Cert.MixRefIdeal.Stage.valsA_lo (arg5 m c) (arg9 m c) (bt t) 0 k d).trans ?_).symm
    blk_ext
  · intro k
    refine (ld9 m c t 0 (by omega) _ d k).trans ((Cert.MixRefIdeal.Stage.valsA_hi (arg5 m c) (arg9 m c) (bt t) 0 k d).trans ?_).symm
    blk_ext
  · refine ((Cert.MixRefIdeal.Stage.wide H.h2 H.h4 H.h8 (arg5 m c) (arg9 m c) (bt t) 0 1 (st t p) d ρ ?_).symm).trans ?_
    · intro k
      refine Eq.trans ?_ (hρ k)
      refine Ideal.mul_congr (Finset.sum_congr rfl fun j _ => Ideal.mul_congr ?_ rfl) rfl
      blk_ext
    · blk_ext

/-- Wide head 2. -/
def wideHead_2 (c : Dev nD) (t : Fin cfg0.N) : FVec Ideal S64x1024 .f32 :=
  quot (unit (vals (View.ld (Val := Elt Ideal) (e' := .bf16) (iblk m c 5 t) (Rect.unit (s := S1x128x2048) ![0, 64, 0] ![1, 64, 2048] inb_S1x128x2048_S1x64x2048_0_64_0))) (vals' (View.ld (Val := Elt Ideal) (e' := .bf16) (iblk m c 9 t) (Rect.unit (s := S1x128x256) ![0, 64, 0] ![1, 64, 256] inb_S1x128x256_S1x64x256_0_64_0)))
    (scA (iblk m c 4 t) (iblk m c 8 t) (qA2 (iblk m c 2 t))))

theorem wideHead_2_at (c : Dev nD) (H : Fin9 m c) (t : Fin cfg0.N) (d : Fin 64) (p : Fin 1024) :
    wideHead_2 m c t (ix2 d p) = refA m c (ix3 (bt t) (st t p) ⟨128 + (d : ℕ), by omega⟩) := by
  have hr : ∀ k, ∃ r : ℝ, (∑ j : Fin 64, arg2 m c (ix3 (bt t) (st t p) ⟨128 + (j : ℕ), by omega⟩) * keysA (arg4 m c) (arg8 m c) (ix4 (bt t) 1 k j)) * Ideal.ofBits FTy.f32 0x3E000000#32 = (r : EReal) := fun k => by
    obtain ⟨r, h, _⟩ := scaled_dot (fun j : Fin 64 => arg2 m c (ix3 (bt t) (st t p) ⟨128 + (j : ℕ), by omega⟩)) (fun j => keysA (arg4 m c) (arg8 m c) (ix4 (bt t) 1 k j))
      (fun _ => H.h2 _) (fun j => Cert.MixRefIdeal.Stage.keysA_real H.h4 H.h8 _ _ _ _) _ _ Cert.MixRefIdeal.Stage.eighth
    exact ⟨r, h⟩
  choose ρ hρ using hr
  refine (headA (iblk m c 4 t) (iblk m c 8 t) _ 64 (by omega) (fun p j => iblk m c 2 t (ix3 0 p ⟨(j : ℕ), by omega⟩)) (fun p j => qA2_at _ p j)
    (fun k j => keysA (arg4 m c) (arg8 m c) (ix4 (bt t) 1 k j)) (fun k j => Cert.MixRefIdeal.Stage.keysA_real H.h4 H.h8 _ _ _ _) ?_ ?_
    (fun p j => arg2 m c (ix3 (bt t) (st t p) ⟨128 + (j : ℕ), by omega⟩)) (fun _ _ => H.h2 _) (Ideal.ofBits FTy.f32 0x3E000000#32) _ Cert.MixRefIdeal.Stage.eighth ?_
    _ _ d p (fun k => valsA (arg5 m c) (arg9 m c) (ix4 (bt t) 1 k d)) ?_ ?_ ρ hρ).trans ?_
  · intro k j
    refine (in4 m c t k _).trans ((Cert.MixRefIdeal.Stage.keysA_lo (arg4 m c) (arg8 m c) (bt t) 1 k j).trans ?_).symm
    blk_ext
  · intro k j
    refine (in8 m c t k _).trans ((Cert.MixRefIdeal.Stage.keysA_hi (arg4 m c) (arg8 m c) (bt t) 1 k j).trans ?_).symm
    blk_ext
  · intro p j
    refine Eq.trans ?_ ((in2_2 m c t p j).trans ?_)
    · blk_ext
    · refine Ideal.mul_congr ?_ rfl
      blk_ext
  · intro k
    refine (ld5 m c t 64 (by omega) _ d k).trans ((Cert.MixRefIdeal.Stage.valsA_lo (arg5 m c) (arg9 m c) (bt t) 1 k d).trans ?_).symm
    blk_ext
  · intro k
    refine (ld9 m c t 64 (by omega) _ d k).trans ((Cert.MixRefIdeal.Stage.valsA_hi (arg5 m c) (arg9 m c) (bt t) 1 k d).trans ?_).symm
    blk_ext
  · refine ((Cert.MixRefIdeal.Stage.wide H.h2 H.h4 H.h8 (arg5 m c) (arg9 m c) (bt t) 1 0 (st t p) d ρ ?_).symm).trans ?_
    · intro k
      refine Eq.trans ?_ (hρ k)
      refine Ideal.mul_congr (Finset.sum_congr rfl fun j _ => Ideal.mul_congr ?_ rfl) rfl
      blk_ext
    · blk_ext

/-- Wide head 3. -/
def wideHead_3 (c : Dev nD) (t : Fin cfg0.N) : FVec Ideal S64x1024 .f32 :=
  quot (unit (vals (View.ld (Val := Elt Ideal) (e' := .bf16) (iblk m c 5 t) (Rect.unit (s := S1x128x2048) ![0, 64, 0] ![1, 64, 2048] inb_S1x128x2048_S1x64x2048_0_64_0))) (vals' (View.ld (Val := Elt Ideal) (e' := .bf16) (iblk m c 9 t) (Rect.unit (s := S1x128x256) ![0, 64, 0] ![1, 64, 256] inb_S1x128x256_S1x64x256_0_64_0)))
    (scA (iblk m c 4 t) (iblk m c 8 t) (qA3 (iblk m c 2 t))))

theorem wideHead_3_at (c : Dev nD) (H : Fin9 m c) (t : Fin cfg0.N) (d : Fin 64) (p : Fin 1024) :
    wideHead_3 m c t (ix2 d p) = refA m c (ix3 (bt t) (st t p) ⟨192 + (d : ℕ), by omega⟩) := by
  have hr : ∀ k, ∃ r : ℝ, (∑ j : Fin 64, arg2 m c (ix3 (bt t) (st t p) ⟨192 + (j : ℕ), by omega⟩) * keysA (arg4 m c) (arg8 m c) (ix4 (bt t) 1 k j)) * Ideal.ofBits FTy.f32 0x3E000000#32 = (r : EReal) := fun k => by
    obtain ⟨r, h, _⟩ := scaled_dot (fun j : Fin 64 => arg2 m c (ix3 (bt t) (st t p) ⟨192 + (j : ℕ), by omega⟩)) (fun j => keysA (arg4 m c) (arg8 m c) (ix4 (bt t) 1 k j))
      (fun _ => H.h2 _) (fun j => Cert.MixRefIdeal.Stage.keysA_real H.h4 H.h8 _ _ _ _) _ _ Cert.MixRefIdeal.Stage.eighth
    exact ⟨r, h⟩
  choose ρ hρ using hr
  refine (headA (iblk m c 4 t) (iblk m c 8 t) _ 64 (by omega) (fun p j => iblk m c 2 t (ix3 0 p ⟨128 + (j : ℕ), by omega⟩)) (fun p j => qA3_at _ p j)
    (fun k j => keysA (arg4 m c) (arg8 m c) (ix4 (bt t) 1 k j)) (fun k j => Cert.MixRefIdeal.Stage.keysA_real H.h4 H.h8 _ _ _ _) ?_ ?_
    (fun p j => arg2 m c (ix3 (bt t) (st t p) ⟨192 + (j : ℕ), by omega⟩)) (fun _ _ => H.h2 _) (Ideal.ofBits FTy.f32 0x3E000000#32) _ Cert.MixRefIdeal.Stage.eighth ?_
    _ _ d p (fun k => valsA (arg5 m c) (arg9 m c) (ix4 (bt t) 1 k d)) ?_ ?_ ρ hρ).trans ?_
  · intro k j
    refine (in4 m c t k _).trans ((Cert.MixRefIdeal.Stage.keysA_lo (arg4 m c) (arg8 m c) (bt t) 1 k j).trans ?_).symm
    blk_ext
  · intro k j
    refine (in8 m c t k _).trans ((Cert.MixRefIdeal.Stage.keysA_hi (arg4 m c) (arg8 m c) (bt t) 1 k j).trans ?_).symm
    blk_ext
  · intro p j
    refine Eq.trans ?_ ((in2_3 m c t p j).trans ?_)
    · blk_ext
    · refine Ideal.mul_congr ?_ rfl
      blk_ext
  · intro k
    refine (ld5 m c t 64 (by omega) _ d k).trans ((Cert.MixRefIdeal.Stage.valsA_lo (arg5 m c) (arg9 m c) (bt t) 1 k d).trans ?_).symm
    blk_ext
  · intro k
    refine (ld9 m c t 64 (by omega) _ d k).trans ((Cert.MixRefIdeal.Stage.valsA_hi (arg5 m c) (arg9 m c) (bt t) 1 k d).trans ?_).symm
    blk_ext
  · refine ((Cert.MixRefIdeal.Stage.wide H.h2 H.h4 H.h8 (arg5 m c) (arg9 m c) (bt t) 1 1 (st t p) d ρ ?_).symm).trans ?_
    · intro k
      refine Eq.trans ?_ (hρ k)
      refine Ideal.mul_congr (Finset.sum_congr rfl fun j _ => Ideal.mul_congr ?_ rfl) rfl
      blk_ext
    · blk_ext

theorem lambda_eq (c : Dev nD) (t : Fin cfg0.N) : lamK (iblk m c 18 t) (ix2 0 0) = lam (arg18 m c) ix0 := by
  rw [lamK_at, Cert.MixRefIdeal.Stage.lam_at]
  simp only [in18]

/-- Narrow head 0. -/
def narrowHead_0 (c : Dev nD) (t : Fin cfg0.N) : FVec Ideal S64x1024 .f32 :=
  quot (unit (vals (View.ld (Val := Elt Ideal) (e' := .bf16) (iblk m c 7 t) (Rect.unit (s := S1x256x2048) ![0, 0, 0] ![1, 64, 2048] inb_S1x256x2048_S1x64x2048_0_0_0))) (vals' (View.ld (Val := Elt Ideal) (e' := .bf16) (iblk m c 11 t) (Rect.unit (s := S1x256x256) ![0, 0, 0] ![1, 64, 256] inb_S1x256x256_S1x64x256_0_0_0)))
    (scC (iblk m c 6 t) (iblk m c 10 t) (qC0 (iblk m c 3 t))))

theorem narrowHead_0_at (c : Dev nD) (H : Fin9 m c) (t : Fin cfg0.N) (d : Fin 64) (p : Fin 1024) (ρ : Fin 2304 → ℝ)
    (hρ : ∀ k, (∑ j : Fin 32, arg3 m c (ix3 (bt t) (st t p) ⟨0 + (j : ℕ), by omega⟩) * keysC (arg6 m c) (arg10 m c) (ix5 (bt t) 0 0 k j)) * Ideal.ofBits FTy.f32 0x3E3504F3#32 = (ρ k : EReal)) :
    narrowHead_0 m c t (ix2 d p) = soft ρ fun k => valsC (arg7 m c) (arg11 m c) (ix4 (bt t) 0 k d) := by
  refine headC (iblk m c 6 t) (iblk m c 10 t) _ 0 (by omega) (fun p j => iblk m c 3 t (ix3 0 p j)) (fun p j => qC0_at _ p j)
    (fun k j => keysC (arg6 m c) (arg10 m c) (ix5 (bt t) 0 0 k j)) (fun k j => Cert.MixRefIdeal.Stage.keysC_real H.h6 H.h10 _ _ _ _ _) ?_ ?_
    (fun p j => arg3 m c (ix3 (bt t) (st t p) ⟨0 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 0 k d)) ?_ ?_ ρ hρ
  · intro k j
    refine (in6 m c t k _).trans ((Cert.MixRefIdeal.Stage.keysC_lo (arg6 m c) (arg10 m c) (bt t) 0 0 k j).trans ?_).symm
    blk_ext
  · intro k j
    refine (in10 m c t k _).trans ((Cert.MixRefIdeal.Stage.keysC_hi (arg6 m c) (arg10 m c) (bt t) 0 0 k j).trans ?_).symm
    blk_ext
  · intro p j
    exact in3 m c t p _
  · intro k
    refine (ld7 m c t 0 (by omega) _ d k).trans ((Cert.MixRefIdeal.Stage.valsC_lo (arg7 m c) (arg11 m c) (bt t) 0 k d).trans ?_).symm
    blk_ext
  · intro k
    refine (ld11 m c t 0 (by omega) _ d k).trans ((Cert.MixRefIdeal.Stage.valsC_hi (arg7 m c) (arg11 m c) (bt t) 0 k d).trans ?_).symm
    blk_ext

/-- Narrow head 1. -/
def narrowHead_1 (c : Dev nD) (t : Fin cfg0.N) : FVec Ideal S64x1024 .f32 :=
  quot (unit (vals (View.ld (Val := Elt Ideal) (e' := .bf16) (iblk m c 7 t) (Rect.unit (s := S1x256x2048) ![0, 0, 0] ![1, 64, 2048] inb_S1x256x2048_S1x64x2048_0_0_0))) (vals' (View.ld (Val := Elt Ideal) (e' := .bf16) (iblk m c 11 t) (Rect.unit (s := S1x256x256) ![0, 0, 0] ![1, 64, 256] inb_S1x256x256_S1x64x256_0_0_0)))
    (scC (iblk m c 6 t) (iblk m c 10 t) (qC1 (iblk m c 3 t))))

theorem narrowHead_1_at (c : Dev nD) (H : Fin9 m c) (t : Fin cfg0.N) (d : Fin 64) (p : Fin 1024) (ρ : Fin 2304 → ℝ)
    (hρ : ∀ k, (∑ j : Fin 32, arg3 m c (ix3 (bt t) (st t p) ⟨32 + (j : ℕ), by omega⟩) * keysC (arg6 m c) (arg10 m c) (ix5 (bt t) 0 1 k j)) * Ideal.ofBits FTy.f32 0x3E3504F3#32 = (ρ k : EReal)) :
    narrowHead_1 m c t (ix2 d p) = soft ρ fun k => valsC (arg7 m c) (arg11 m c) (ix4 (bt t) 0 k d) := by
  refine headC (iblk m c 6 t) (iblk m c 10 t) _ 32 (by omega) (fun p j => iblk m c 3 t (ix3 0 p j)) (fun p j => qC1_at _ p j)
    (fun k j => keysC (arg6 m c) (arg10 m c) (ix5 (bt t) 0 1 k j)) (fun k j => Cert.MixRefIdeal.Stage.keysC_real H.h6 H.h10 _ _ _ _ _) ?_ ?_
    (fun p j => arg3 m c (ix3 (bt t) (st t p) ⟨32 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 0 k d)) ?_ ?_ ρ hρ
  · intro k j
    refine (in6 m c t k _).trans ((Cert.MixRefIdeal.Stage.keysC_lo (arg6 m c) (arg10 m c) (bt t) 0 1 k j).trans ?_).symm
    blk_ext
  · intro k j
    refine (in10 m c t k _).trans ((Cert.MixRefIdeal.Stage.keysC_hi (arg6 m c) (arg10 m c) (bt t) 0 1 k j).trans ?_).symm
    blk_ext
  · intro p j
    exact in3 m c t p _
  · intro k
    refine (ld7 m c t 0 (by omega) _ d k).trans ((Cert.MixRefIdeal.Stage.valsC_lo (arg7 m c) (arg11 m c) (bt t) 0 k d).trans ?_).symm
    blk_ext
  · intro k
    refine (ld11 m c t 0 (by omega) _ d k).trans ((Cert.MixRefIdeal.Stage.valsC_hi (arg7 m c) (arg11 m c) (bt t) 0 k d).trans ?_).symm
    blk_ext

theorem difference_0 (c : Dev nD) (H : Fin9 m c) (t : Fin cfg0.N) (d : Fin 64) (p : Fin 1024) :
    narrowHead_0 m c t (ix2 d p) - lamK (iblk m c 18 t) (ix2 0 0) * narrowHead_1 m c t (ix2 d p) = refD m c (ix4 (bt t) 0 (st t p) d) := by
  have hr : ∀ (n : Fin 2) k, ∃ r : ℝ, (∑ j : Fin 32, arg3 m c (ix3 (bt t) (st t p) ⟨32 * (2 * ((0 : Fin 4) : ℕ) + (n : ℕ)) + (j : ℕ), by have := j.isLt; have := n.isLt; show 32 * (2 * 0 + (n : ℕ)) + (j : ℕ) < 256; omega⟩) * keysC (arg6 m c) (arg10 m c) (ix5 (bt t) 0 n k j)) * Ideal.ofBits FTy.f32 0x3E3504F3#32 = (r : EReal) := fun n k => by
    obtain ⟨r, h, _⟩ := scaled_dot (fun j : Fin 32 => arg3 m c (ix3 (bt t) (st t p) ⟨32 * (2 * ((0 : Fin 4) : ℕ) + (n : ℕ)) + (j : ℕ), by have := j.isLt; have := n.isLt; show 32 * (2 * 0 + (n : ℕ)) + (j : ℕ) < 256; omega⟩)) (fun j => keysC (arg6 m c) (arg10 m c) (ix5 (bt t) 0 n k j))
      (fun _ => H.h3 _) (fun j => Cert.MixRefIdeal.Stage.keysC_real H.h6 H.h10 _ _ _ _ _) _ _ Cert.MixRefIdeal.Stage.root32.choose_spec
    exact ⟨r, h⟩
  choose ρ hρ using hr
  refine Eq.trans ?_ (Cert.MixRefIdeal.Stage.narrow H.h3 H.h6 H.h10 H.h7 H.h11 H.h18 (bt t) 0 (st t p) d ρ hρ).symm
  rw [narrowHead_0_at m c H t d p (ρ 0) ?_, narrowHead_1_at m c H t d p (ρ 1) ?_, lambda_eq m c t]
  · intro k
    refine Eq.trans ?_ (hρ 1 k)
    refine Ideal.mul_congr (Finset.sum_congr rfl fun j _ => Ideal.mul_congr ?_ rfl) rfl
    blk_ext
  · intro k
    refine Eq.trans ?_ (hρ 0 k)
    refine Ideal.mul_congr (Finset.sum_congr rfl fun j _ => Ideal.mul_congr ?_ rfl) rfl
    blk_ext

/-- Normalised difference 0. -/
def normHead_0 (c : Dev nD) (t : Fin cfg0.N) : FVec Ideal S64x1024 .f32 :=
  diffNorm (lamK (iblk m c 18 t)) (narrowHead_0 m c t) (narrowHead_1 m c t) (iblk m c 17 t)

theorem normHead_0_at (c : Dev nD) (H : Fin9 m c) (t : Fin cfg0.N) (d : Fin 64) (p : Fin 1024) :
    normHead_0 m c t (ix2 d p) = attC (refD m c) (arg17 m c) (ix3 (bt t) (st t p) ⟨0 + (d : ℕ), by omega⟩) := by
  refine (diffNorm_at _ _ _ _ d p).trans ?_
  simp only [difference_0 m c H t]
  rw [in17]
  refine (Cert.MixRefIdeal.Stage.attC_at (refD m c) (arg17 m c) (bt t) 0 (st t p) d).symm.trans ?_
  blk_ext

/-- Narrow head 2. -/
def narrowHead_2 (c : Dev nD) (t : Fin cfg0.N) : FVec Ideal S64x1024 .f32 :=
  quot (unit (vals (View.ld (Val := Elt Ideal) (e' := .bf16) (iblk m c 7 t) (Rect.unit (s := S1x256x2048) ![0, 64, 0] ![1, 64, 2048] inb_S1x256x2048_S1x64x2048_0_64_0))) (vals' (View.ld (Val := Elt Ideal) (e' := .bf16) (iblk m c 11 t) (Rect.unit (s := S1x256x256) ![0, 64, 0] ![1, 64, 256] inb_S1x256x256_S1x64x256_0_64_0)))
    (scC (iblk m c 6 t) (iblk m c 10 t) (qC2 (iblk m c 3 t))))

theorem narrowHead_2_at (c : Dev nD) (H : Fin9 m c) (t : Fin cfg0.N) (d : Fin 64) (p : Fin 1024) (ρ : Fin 2304 → ℝ)
    (hρ : ∀ k, (∑ j : Fin 32, arg3 m c (ix3 (bt t) (st t p) ⟨64 + (j : ℕ), by omega⟩) * keysC (arg6 m c) (arg10 m c) (ix5 (bt t) 1 0 k j)) * Ideal.ofBits FTy.f32 0x3E3504F3#32 = (ρ k : EReal)) :
    narrowHead_2 m c t (ix2 d p) = soft ρ fun k => valsC (arg7 m c) (arg11 m c) (ix4 (bt t) 1 k d) := by
  refine headC (iblk m c 6 t) (iblk m c 10 t) _ 64 (by omega) (fun p j => iblk m c 3 t (ix3 0 p j)) (fun p j => qC2_at _ p j)
    (fun k j => keysC (arg6 m c) (arg10 m c) (ix5 (bt t) 1 0 k j)) (fun k j => Cert.MixRefIdeal.Stage.keysC_real H.h6 H.h10 _ _ _ _ _) ?_ ?_
    (fun p j => arg3 m c (ix3 (bt t) (st t p) ⟨64 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 1 k d)) ?_ ?_ ρ hρ
  · intro k j
    refine (in6 m c t k _).trans ((Cert.MixRefIdeal.Stage.keysC_lo (arg6 m c) (arg10 m c) (bt t) 1 0 k j).trans ?_).symm
    blk_ext
  · intro k j
    refine (in10 m c t k _).trans ((Cert.MixRefIdeal.Stage.keysC_hi (arg6 m c) (arg10 m c) (bt t) 1 0 k j).trans ?_).symm
    blk_ext
  · intro p j
    exact in3 m c t p _
  · intro k
    refine (ld7 m c t 64 (by omega) _ d k).trans ((Cert.MixRefIdeal.Stage.valsC_lo (arg7 m c) (arg11 m c) (bt t) 1 k d).trans ?_).symm
    blk_ext
  · intro k
    refine (ld11 m c t 64 (by omega) _ d k).trans ((Cert.MixRefIdeal.Stage.valsC_hi (arg7 m c) (arg11 m c) (bt t) 1 k d).trans ?_).symm
    blk_ext

/-- Narrow head 3. -/
def narrowHead_3 (c : Dev nD) (t : Fin cfg0.N) : FVec Ideal S64x1024 .f32 :=
  quot (unit (vals (View.ld (Val := Elt Ideal) (e' := .bf16) (iblk m c 7 t) (Rect.unit (s := S1x256x2048) ![0, 64, 0] ![1, 64, 2048] inb_S1x256x2048_S1x64x2048_0_64_0))) (vals' (View.ld (Val := Elt Ideal) (e' := .bf16) (iblk m c 11 t) (Rect.unit (s := S1x256x256) ![0, 64, 0] ![1, 64, 256] inb_S1x256x256_S1x64x256_0_64_0)))
    (scC (iblk m c 6 t) (iblk m c 10 t) (qC3 (iblk m c 3 t))))

theorem narrowHead_3_at (c : Dev nD) (H : Fin9 m c) (t : Fin cfg0.N) (d : Fin 64) (p : Fin 1024) (ρ : Fin 2304 → ℝ)
    (hρ : ∀ k, (∑ j : Fin 32, arg3 m c (ix3 (bt t) (st t p) ⟨96 + (j : ℕ), by omega⟩) * keysC (arg6 m c) (arg10 m c) (ix5 (bt t) 1 1 k j)) * Ideal.ofBits FTy.f32 0x3E3504F3#32 = (ρ k : EReal)) :
    narrowHead_3 m c t (ix2 d p) = soft ρ fun k => valsC (arg7 m c) (arg11 m c) (ix4 (bt t) 1 k d) := by
  refine headC (iblk m c 6 t) (iblk m c 10 t) _ 96 (by omega) (fun p j => iblk m c 3 t (ix3 0 p j)) (fun p j => qC3_at _ p j)
    (fun k j => keysC (arg6 m c) (arg10 m c) (ix5 (bt t) 1 1 k j)) (fun k j => Cert.MixRefIdeal.Stage.keysC_real H.h6 H.h10 _ _ _ _ _) ?_ ?_
    (fun p j => arg3 m c (ix3 (bt t) (st t p) ⟨96 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 1 k d)) ?_ ?_ ρ hρ
  · intro k j
    refine (in6 m c t k _).trans ((Cert.MixRefIdeal.Stage.keysC_lo (arg6 m c) (arg10 m c) (bt t) 1 1 k j).trans ?_).symm
    blk_ext
  · intro k j
    refine (in10 m c t k _).trans ((Cert.MixRefIdeal.Stage.keysC_hi (arg6 m c) (arg10 m c) (bt t) 1 1 k j).trans ?_).symm
    blk_ext
  · intro p j
    exact in3 m c t p _
  · intro k
    refine (ld7 m c t 64 (by omega) _ d k).trans ((Cert.MixRefIdeal.Stage.valsC_lo (arg7 m c) (arg11 m c) (bt t) 1 k d).trans ?_).symm
    blk_ext
  · intro k
    refine (ld11 m c t 64 (by omega) _ d k).trans ((Cert.MixRefIdeal.Stage.valsC_hi (arg7 m c) (arg11 m c) (bt t) 1 k d).trans ?_).symm
    blk_ext

theorem difference_1 (c : Dev nD) (H : Fin9 m c) (t : Fin cfg0.N) (d : Fin 64) (p : Fin 1024) :
    narrowHead_2 m c t (ix2 d p) - lamK (iblk m c 18 t) (ix2 0 0) * narrowHead_3 m c t (ix2 d p) = refD m c (ix4 (bt t) 1 (st t p) d) := by
  have hr : ∀ (n : Fin 2) k, ∃ r : ℝ, (∑ j : Fin 32, arg3 m c (ix3 (bt t) (st t p) ⟨32 * (2 * ((1 : Fin 4) : ℕ) + (n : ℕ)) + (j : ℕ), by have := j.isLt; have := n.isLt; show 32 * (2 * 1 + (n : ℕ)) + (j : ℕ) < 256; omega⟩) * keysC (arg6 m c) (arg10 m c) (ix5 (bt t) 1 n k j)) * Ideal.ofBits FTy.f32 0x3E3504F3#32 = (r : EReal) := fun n k => by
    obtain ⟨r, h, _⟩ := scaled_dot (fun j : Fin 32 => arg3 m c (ix3 (bt t) (st t p) ⟨32 * (2 * ((1 : Fin 4) : ℕ) + (n : ℕ)) + (j : ℕ), by have := j.isLt; have := n.isLt; show 32 * (2 * 1 + (n : ℕ)) + (j : ℕ) < 256; omega⟩)) (fun j => keysC (arg6 m c) (arg10 m c) (ix5 (bt t) 1 n k j))
      (fun _ => H.h3 _) (fun j => Cert.MixRefIdeal.Stage.keysC_real H.h6 H.h10 _ _ _ _ _) _ _ Cert.MixRefIdeal.Stage.root32.choose_spec
    exact ⟨r, h⟩
  choose ρ hρ using hr
  refine Eq.trans ?_ (Cert.MixRefIdeal.Stage.narrow H.h3 H.h6 H.h10 H.h7 H.h11 H.h18 (bt t) 1 (st t p) d ρ hρ).symm
  rw [narrowHead_2_at m c H t d p (ρ 0) ?_, narrowHead_3_at m c H t d p (ρ 1) ?_, lambda_eq m c t]
  · intro k
    refine Eq.trans ?_ (hρ 1 k)
    refine Ideal.mul_congr (Finset.sum_congr rfl fun j _ => Ideal.mul_congr ?_ rfl) rfl
    blk_ext
  · intro k
    refine Eq.trans ?_ (hρ 0 k)
    refine Ideal.mul_congr (Finset.sum_congr rfl fun j _ => Ideal.mul_congr ?_ rfl) rfl
    blk_ext

/-- Normalised difference 1. -/
def normHead_1 (c : Dev nD) (t : Fin cfg0.N) : FVec Ideal S64x1024 .f32 :=
  diffNorm (lamK (iblk m c 18 t)) (narrowHead_2 m c t) (narrowHead_3 m c t) (iblk m c 17 t)

theorem normHead_1_at (c : Dev nD) (H : Fin9 m c) (t : Fin cfg0.N) (d : Fin 64) (p : Fin 1024) :
    normHead_1 m c t (ix2 d p) = attC (refD m c) (arg17 m c) (ix3 (bt t) (st t p) ⟨64 + (d : ℕ), by omega⟩) := by
  refine (diffNorm_at _ _ _ _ d p).trans ?_
  simp only [difference_1 m c H t]
  rw [in17]
  refine (Cert.MixRefIdeal.Stage.attC_at (refD m c) (arg17 m c) (bt t) 1 (st t p) d).symm.trans ?_
  blk_ext

/-- Narrow head 4. -/
def narrowHead_4 (c : Dev nD) (t : Fin cfg0.N) : FVec Ideal S64x1024 .f32 :=
  quot (unit (vals (View.ld (Val := Elt Ideal) (e' := .bf16) (iblk m c 7 t) (Rect.unit (s := S1x256x2048) ![0, 128, 0] ![1, 64, 2048] inb_S1x256x2048_S1x64x2048_0_128_0))) (vals' (View.ld (Val := Elt Ideal) (e' := .bf16) (iblk m c 11 t) (Rect.unit (s := S1x256x256) ![0, 128, 0] ![1, 64, 256] inb_S1x256x256_S1x64x256_0_128_0)))
    (scC (iblk m c 6 t) (iblk m c 10 t) (qC4 (iblk m c 3 t))))

theorem narrowHead_4_at (c : Dev nD) (H : Fin9 m c) (t : Fin cfg0.N) (d : Fin 64) (p : Fin 1024) (ρ : Fin 2304 → ℝ)
    (hρ : ∀ k, (∑ j : Fin 32, arg3 m c (ix3 (bt t) (st t p) ⟨128 + (j : ℕ), by omega⟩) * keysC (arg6 m c) (arg10 m c) (ix5 (bt t) 2 0 k j)) * Ideal.ofBits FTy.f32 0x3E3504F3#32 = (ρ k : EReal)) :
    narrowHead_4 m c t (ix2 d p) = soft ρ fun k => valsC (arg7 m c) (arg11 m c) (ix4 (bt t) 2 k d) := by
  refine headC (iblk m c 6 t) (iblk m c 10 t) _ 128 (by omega) (fun p j => iblk m c 3 t (ix3 0 p j)) (fun p j => qC4_at _ p j)
    (fun k j => keysC (arg6 m c) (arg10 m c) (ix5 (bt t) 2 0 k j)) (fun k j => Cert.MixRefIdeal.Stage.keysC_real H.h6 H.h10 _ _ _ _ _) ?_ ?_
    (fun p j => arg3 m c (ix3 (bt t) (st t p) ⟨128 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 2 k d)) ?_ ?_ ρ hρ
  · intro k j
    refine (in6 m c t k _).trans ((Cert.MixRefIdeal.Stage.keysC_lo (arg6 m c) (arg10 m c) (bt t) 2 0 k j).trans ?_).symm
    blk_ext
  · intro k j
    refine (in10 m c t k _).trans ((Cert.MixRefIdeal.Stage.keysC_hi (arg6 m c) (arg10 m c) (bt t) 2 0 k j).trans ?_).symm
    blk_ext
  · intro p j
    exact in3 m c t p _
  · intro k
    refine (ld7 m c t 128 (by omega) _ d k).trans ((Cert.MixRefIdeal.Stage.valsC_lo (arg7 m c) (arg11 m c) (bt t) 2 k d).trans ?_).symm
    blk_ext
  · intro k
    refine (ld11 m c t 128 (by omega) _ d k).trans ((Cert.MixRefIdeal.Stage.valsC_hi (arg7 m c) (arg11 m c) (bt t) 2 k d).trans ?_).symm
    blk_ext

/-- Narrow head 5. -/
def narrowHead_5 (c : Dev nD) (t : Fin cfg0.N) : FVec Ideal S64x1024 .f32 :=
  quot (unit (vals (View.ld (Val := Elt Ideal) (e' := .bf16) (iblk m c 7 t) (Rect.unit (s := S1x256x2048) ![0, 128, 0] ![1, 64, 2048] inb_S1x256x2048_S1x64x2048_0_128_0))) (vals' (View.ld (Val := Elt Ideal) (e' := .bf16) (iblk m c 11 t) (Rect.unit (s := S1x256x256) ![0, 128, 0] ![1, 64, 256] inb_S1x256x256_S1x64x256_0_128_0)))
    (scC (iblk m c 6 t) (iblk m c 10 t) (qC5 (iblk m c 3 t))))

theorem narrowHead_5_at (c : Dev nD) (H : Fin9 m c) (t : Fin cfg0.N) (d : Fin 64) (p : Fin 1024) (ρ : Fin 2304 → ℝ)
    (hρ : ∀ k, (∑ j : Fin 32, arg3 m c (ix3 (bt t) (st t p) ⟨160 + (j : ℕ), by omega⟩) * keysC (arg6 m c) (arg10 m c) (ix5 (bt t) 2 1 k j)) * Ideal.ofBits FTy.f32 0x3E3504F3#32 = (ρ k : EReal)) :
    narrowHead_5 m c t (ix2 d p) = soft ρ fun k => valsC (arg7 m c) (arg11 m c) (ix4 (bt t) 2 k d) := by
  refine headC (iblk m c 6 t) (iblk m c 10 t) _ 160 (by omega) (fun p j => iblk m c 3 t (ix3 0 p j)) (fun p j => qC5_at _ p j)
    (fun k j => keysC (arg6 m c) (arg10 m c) (ix5 (bt t) 2 1 k j)) (fun k j => Cert.MixRefIdeal.Stage.keysC_real H.h6 H.h10 _ _ _ _ _) ?_ ?_
    (fun p j => arg3 m c (ix3 (bt t) (st t p) ⟨160 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 2 k d)) ?_ ?_ ρ hρ
  · intro k j
    refine (in6 m c t k _).trans ((Cert.MixRefIdeal.Stage.keysC_lo (arg6 m c) (arg10 m c) (bt t) 2 1 k j).trans ?_).symm
    blk_ext
  · intro k j
    refine (in10 m c t k _).trans ((Cert.MixRefIdeal.Stage.keysC_hi (arg6 m c) (arg10 m c) (bt t) 2 1 k j).trans ?_).symm
    blk_ext
  · intro p j
    exact in3 m c t p _
  · intro k
    refine (ld7 m c t 128 (by omega) _ d k).trans ((Cert.MixRefIdeal.Stage.valsC_lo (arg7 m c) (arg11 m c) (bt t) 2 k d).trans ?_).symm
    blk_ext
  · intro k
    refine (ld11 m c t 128 (by omega) _ d k).trans ((Cert.MixRefIdeal.Stage.valsC_hi (arg7 m c) (arg11 m c) (bt t) 2 k d).trans ?_).symm
    blk_ext

theorem difference_2 (c : Dev nD) (H : Fin9 m c) (t : Fin cfg0.N) (d : Fin 64) (p : Fin 1024) :
    narrowHead_4 m c t (ix2 d p) - lamK (iblk m c 18 t) (ix2 0 0) * narrowHead_5 m c t (ix2 d p) = refD m c (ix4 (bt t) 2 (st t p) d) := by
  have hr : ∀ (n : Fin 2) k, ∃ r : ℝ, (∑ j : Fin 32, arg3 m c (ix3 (bt t) (st t p) ⟨32 * (2 * ((2 : Fin 4) : ℕ) + (n : ℕ)) + (j : ℕ), by have := j.isLt; have := n.isLt; show 32 * (2 * 2 + (n : ℕ)) + (j : ℕ) < 256; omega⟩) * keysC (arg6 m c) (arg10 m c) (ix5 (bt t) 2 n k j)) * Ideal.ofBits FTy.f32 0x3E3504F3#32 = (r : EReal) := fun n k => by
    obtain ⟨r, h, _⟩ := scaled_dot (fun j : Fin 32 => arg3 m c (ix3 (bt t) (st t p) ⟨32 * (2 * ((2 : Fin 4) : ℕ) + (n : ℕ)) + (j : ℕ), by have := j.isLt; have := n.isLt; show 32 * (2 * 2 + (n : ℕ)) + (j : ℕ) < 256; omega⟩)) (fun j => keysC (arg6 m c) (arg10 m c) (ix5 (bt t) 2 n k j))
      (fun _ => H.h3 _) (fun j => Cert.MixRefIdeal.Stage.keysC_real H.h6 H.h10 _ _ _ _ _) _ _ Cert.MixRefIdeal.Stage.root32.choose_spec
    exact ⟨r, h⟩
  choose ρ hρ using hr
  refine Eq.trans ?_ (Cert.MixRefIdeal.Stage.narrow H.h3 H.h6 H.h10 H.h7 H.h11 H.h18 (bt t) 2 (st t p) d ρ hρ).symm
  rw [narrowHead_4_at m c H t d p (ρ 0) ?_, narrowHead_5_at m c H t d p (ρ 1) ?_, lambda_eq m c t]
  · intro k
    refine Eq.trans ?_ (hρ 1 k)
    refine Ideal.mul_congr (Finset.sum_congr rfl fun j _ => Ideal.mul_congr ?_ rfl) rfl
    blk_ext
  · intro k
    refine Eq.trans ?_ (hρ 0 k)
    refine Ideal.mul_congr (Finset.sum_congr rfl fun j _ => Ideal.mul_congr ?_ rfl) rfl
    blk_ext

/-- Normalised difference 2. -/
def normHead_2 (c : Dev nD) (t : Fin cfg0.N) : FVec Ideal S64x1024 .f32 :=
  diffNorm (lamK (iblk m c 18 t)) (narrowHead_4 m c t) (narrowHead_5 m c t) (iblk m c 17 t)

theorem normHead_2_at (c : Dev nD) (H : Fin9 m c) (t : Fin cfg0.N) (d : Fin 64) (p : Fin 1024) :
    normHead_2 m c t (ix2 d p) = attC (refD m c) (arg17 m c) (ix3 (bt t) (st t p) ⟨128 + (d : ℕ), by omega⟩) := by
  refine (diffNorm_at _ _ _ _ d p).trans ?_
  simp only [difference_2 m c H t]
  rw [in17]
  refine (Cert.MixRefIdeal.Stage.attC_at (refD m c) (arg17 m c) (bt t) 2 (st t p) d).symm.trans ?_
  blk_ext

/-- Narrow head 6. -/
def narrowHead_6 (c : Dev nD) (t : Fin cfg0.N) : FVec Ideal S64x1024 .f32 :=
  quot (unit (vals (View.ld (Val := Elt Ideal) (e' := .bf16) (iblk m c 7 t) (Rect.unit (s := S1x256x2048) ![0, 192, 0] ![1, 64, 2048] inb_S1x256x2048_S1x64x2048_0_192_0))) (vals' (View.ld (Val := Elt Ideal) (e' := .bf16) (iblk m c 11 t) (Rect.unit (s := S1x256x256) ![0, 192, 0] ![1, 64, 256] inb_S1x256x256_S1x64x256_0_192_0)))
    (scC (iblk m c 6 t) (iblk m c 10 t) (qC6 (iblk m c 3 t))))

theorem narrowHead_6_at (c : Dev nD) (H : Fin9 m c) (t : Fin cfg0.N) (d : Fin 64) (p : Fin 1024) (ρ : Fin 2304 → ℝ)
    (hρ : ∀ k, (∑ j : Fin 32, arg3 m c (ix3 (bt t) (st t p) ⟨192 + (j : ℕ), by omega⟩) * keysC (arg6 m c) (arg10 m c) (ix5 (bt t) 3 0 k j)) * Ideal.ofBits FTy.f32 0x3E3504F3#32 = (ρ k : EReal)) :
    narrowHead_6 m c t (ix2 d p) = soft ρ fun k => valsC (arg7 m c) (arg11 m c) (ix4 (bt t) 3 k d) := by
  refine headC (iblk m c 6 t) (iblk m c 10 t) _ 192 (by omega) (fun p j => iblk m c 3 t (ix3 0 p j)) (fun p j => qC6_at _ p j)
    (fun k j => keysC (arg6 m c) (arg10 m c) (ix5 (bt t) 3 0 k j)) (fun k j => Cert.MixRefIdeal.Stage.keysC_real H.h6 H.h10 _ _ _ _ _) ?_ ?_
    (fun p j => arg3 m c (ix3 (bt t) (st t p) ⟨192 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 3 k d)) ?_ ?_ ρ hρ
  · intro k j
    refine (in6 m c t k _).trans ((Cert.MixRefIdeal.Stage.keysC_lo (arg6 m c) (arg10 m c) (bt t) 3 0 k j).trans ?_).symm
    blk_ext
  · intro k j
    refine (in10 m c t k _).trans ((Cert.MixRefIdeal.Stage.keysC_hi (arg6 m c) (arg10 m c) (bt t) 3 0 k j).trans ?_).symm
    blk_ext
  · intro p j
    exact in3 m c t p _
  · intro k
    refine (ld7 m c t 192 (by omega) _ d k).trans ((Cert.MixRefIdeal.Stage.valsC_lo (arg7 m c) (arg11 m c) (bt t) 3 k d).trans ?_).symm
    blk_ext
  · intro k
    refine (ld11 m c t 192 (by omega) _ d k).trans ((Cert.MixRefIdeal.Stage.valsC_hi (arg7 m c) (arg11 m c) (bt t) 3 k d).trans ?_).symm
    blk_ext

/-- Narrow head 7. -/
def narrowHead_7 (c : Dev nD) (t : Fin cfg0.N) : FVec Ideal S64x1024 .f32 :=
  quot (unit (vals (View.ld (Val := Elt Ideal) (e' := .bf16) (iblk m c 7 t) (Rect.unit (s := S1x256x2048) ![0, 192, 0] ![1, 64, 2048] inb_S1x256x2048_S1x64x2048_0_192_0))) (vals' (View.ld (Val := Elt Ideal) (e' := .bf16) (iblk m c 11 t) (Rect.unit (s := S1x256x256) ![0, 192, 0] ![1, 64, 256] inb_S1x256x256_S1x64x256_0_192_0)))
    (scC (iblk m c 6 t) (iblk m c 10 t) (qC7 (iblk m c 3 t))))

theorem narrowHead_7_at (c : Dev nD) (H : Fin9 m c) (t : Fin cfg0.N) (d : Fin 64) (p : Fin 1024) (ρ : Fin 2304 → ℝ)
    (hρ : ∀ k, (∑ j : Fin 32, arg3 m c (ix3 (bt t) (st t p) ⟨224 + (j : ℕ), by omega⟩) * keysC (arg6 m c) (arg10 m c) (ix5 (bt t) 3 1 k j)) * Ideal.ofBits FTy.f32 0x3E3504F3#32 = (ρ k : EReal)) :
    narrowHead_7 m c t (ix2 d p) = soft ρ fun k => valsC (arg7 m c) (arg11 m c) (ix4 (bt t) 3 k d) := by
  refine headC (iblk m c 6 t) (iblk m c 10 t) _ 224 (by omega) (fun p j => iblk m c 3 t (ix3 0 p j)) (fun p j => qC7_at _ p j)
    (fun k j => keysC (arg6 m c) (arg10 m c) (ix5 (bt t) 3 1 k j)) (fun k j => Cert.MixRefIdeal.Stage.keysC_real H.h6 H.h10 _ _ _ _ _) ?_ ?_
    (fun p j => arg3 m c (ix3 (bt t) (st t p) ⟨224 + (j : ℕ), by omega⟩)) (fun _ _ => H.h3 _) (Ideal.ofBits FTy.f32 0x3E3504F3#32) _ Cert.MixRefIdeal.Stage.root32.choose_spec ?_
    _ _ d p (fun k => valsC (arg7 m c) (arg11 m c) (ix4 (bt t) 3 k d)) ?_ ?_ ρ hρ
  · intro k j
    refine (in6 m c t k _).trans ((Cert.MixRefIdeal.Stage.keysC_lo (arg6 m c) (arg10 m c) (bt t) 3 1 k j).trans ?_).symm
    blk_ext
  · intro k j
    refine (in10 m c t k _).trans ((Cert.MixRefIdeal.Stage.keysC_hi (arg6 m c) (arg10 m c) (bt t) 3 1 k j).trans ?_).symm
    blk_ext
  · intro p j
    exact in3 m c t p _
  · intro k
    refine (ld7 m c t 192 (by omega) _ d k).trans ((Cert.MixRefIdeal.Stage.valsC_lo (arg7 m c) (arg11 m c) (bt t) 3 k d).trans ?_).symm
    blk_ext
  · intro k
    refine (ld11 m c t 192 (by omega) _ d k).trans ((Cert.MixRefIdeal.Stage.valsC_hi (arg7 m c) (arg11 m c) (bt t) 3 k d).trans ?_).symm
    blk_ext

theorem difference_3 (c : Dev nD) (H : Fin9 m c) (t : Fin cfg0.N) (d : Fin 64) (p : Fin 1024) :
    narrowHead_6 m c t (ix2 d p) - lamK (iblk m c 18 t) (ix2 0 0) * narrowHead_7 m c t (ix2 d p) = refD m c (ix4 (bt t) 3 (st t p) d) := by
  have hr : ∀ (n : Fin 2) k, ∃ r : ℝ, (∑ j : Fin 32, arg3 m c (ix3 (bt t) (st t p) ⟨32 * (2 * ((3 : Fin 4) : ℕ) + (n : ℕ)) + (j : ℕ), by have := j.isLt; have := n.isLt; show 32 * (2 * 3 + (n : ℕ)) + (j : ℕ) < 256; omega⟩) * keysC (arg6 m c) (arg10 m c) (ix5 (bt t) 3 n k j)) * Ideal.ofBits FTy.f32 0x3E3504F3#32 = (r : EReal) := fun n k => by
    obtain ⟨r, h, _⟩ := scaled_dot (fun j : Fin 32 => arg3 m c (ix3 (bt t) (st t p) ⟨32 * (2 * ((3 : Fin 4) : ℕ) + (n : ℕ)) + (j : ℕ), by have := j.isLt; have := n.isLt; show 32 * (2 * 3 + (n : ℕ)) + (j : ℕ) < 256; omega⟩)) (fun j => keysC (arg6 m c) (arg10 m c) (ix5 (bt t) 3 n k j))
      (fun _ => H.h3 _) (fun j => Cert.MixRefIdeal.Stage.keysC_real H.h6 H.h10 _ _ _ _ _) _ _ Cert.MixRefIdeal.Stage.root32.choose_spec
    exact ⟨r, h⟩
  choose ρ hρ using hr
  refine Eq.trans ?_ (Cert.MixRefIdeal.Stage.narrow H.h3 H.h6 H.h10 H.h7 H.h11 H.h18 (bt t) 3 (st t p) d ρ hρ).symm
  rw [narrowHead_6_at m c H t d p (ρ 0) ?_, narrowHead_7_at m c H t d p (ρ 1) ?_, lambda_eq m c t]
  · intro k
    refine Eq.trans ?_ (hρ 1 k)
    refine Ideal.mul_congr (Finset.sum_congr rfl fun j _ => Ideal.mul_congr ?_ rfl) rfl
    blk_ext
  · intro k
    refine Eq.trans ?_ (hρ 0 k)
    refine Ideal.mul_congr (Finset.sum_congr rfl fun j _ => Ideal.mul_congr ?_ rfl) rfl
    blk_ext

/-- Normalised difference 3. -/
def normHead_3 (c : Dev nD) (t : Fin cfg0.N) : FVec Ideal S64x1024 .f32 :=
  diffNorm (lamK (iblk m c 18 t)) (narrowHead_6 m c t) (narrowHead_7 m c t) (iblk m c 17 t)

theorem normHead_3_at (c : Dev nD) (H : Fin9 m c) (t : Fin cfg0.N) (d : Fin 64) (p : Fin 1024) :
    normHead_3 m c t (ix2 d p) = attC (refD m c) (arg17 m c) (ix3 (bt t) (st t p) ⟨192 + (d : ℕ), by omega⟩) := by
  refine (diffNorm_at _ _ _ _ d p).trans ?_
  simp only [difference_3 m c H t]
  rw [in17]
  refine (Cert.MixRefIdeal.Stage.attC_at (refD m c) (arg17 m c) (bt t) 3 (st t p) d).symm.trans ?_
  blk_ext

end Cert.MixIdeal.Part
-- ==== Proof.MixPoint.lean ====
module

public import proofs.«01_k».proof.Proof.MixPieces

@[expose] public section

set_option maxRecDepth 16384

noncomputable section

/-! The convolution's rows, the four parts side by side, and the stored block. -/

namespace Cert.MixIdeal.Part

open Cert.MixIdeal Cert.MixIdeal.Gen Idealize.ShloMosaic Idealize.ShloMosaic.TcCoe Idealize.SL.Sem
open Cert.MixReal
open Cert.MixRefIdeal.Stage

variable (m : (ℓ : Loc nD τ sig) → Buf (Elt Ideal) ℓ)

/-- The block of sixteen rows above. -/
abbrev above (c : Dev nD) (t : Fin cfg0.N) : FVec Ideal S1x16x256 .f32 :=
  View.ld (Val := Elt Ideal) (e' := .f32) (iblk m c 13 t) (Rect.unit (s := S1x2048x256) (k0_off1 (grid0.coords t)) ![1, 16, 256] (k0_off1_inb (grid0.coords t)))

/-- The point's own rows. -/
abbrev within (c : Dev nD) (t : Fin cfg0.N) : FVec Ideal S1x1024x256 .f32 :=
  View.ld (Val := Elt Ideal) (e' := .f32) (iblk m c 13 t) (Rect.unit (s := S1x2048x256) (k0_off2 (grid0.coords t)) ![1, 1024, 256] (k0_off2_inb (grid0.coords t)))

/-- The block of sixteen rows below. -/
abbrev below (c : Dev nD) (t : Fin cfg0.N) : FVec Ideal S1x16x256 .f32 :=
  View.ld (Val := Elt Ideal) (e' := .f32) (iblk m c 13 t) (Rect.unit (s := S1x2048x256) (k0_off3 (grid0.coords t)) ![1, 16, 256] (k0_off3_inb (grid0.coords t)))

/-- The point's second coordinate. -/
abbrev half (t : Fin cfg0.N) : BitVec 32 := BitVec.ofNat 32 (grid0.coords t 1).val

theorem half_eq (t : Fin cfg0.N) : half t = BitVec.ofNat 32 (t.val % 2) := congrArg (BitVec.ofNat 32) (offs t).1

theorem inb14 (k : Fin 31) : ∀ a, (![(k : ℕ), 0] : Fin 2 → ℕ) a + (![1, 256] : Fin 2 → ℕ) a ≤ S31x256.size a := by
  intro a
  match a with
  | ⟨0, _⟩ => show (k : ℕ) + 1 ≤ 31; omega
  | ⟨1, _⟩ => show 0 + 256 ≤ 256; omega

/-- The weights' rows. -/
def weight (c : Dev nD) (t : Fin cfg0.N) (k : Fin 31) : FVec Ideal S1x256 .f32 :=
  View.ld (Val := Elt Ideal) (e' := .f32) (iblk m c 14 t) (Rect.unit (s := S31x256) ![(k : ℕ), 0] ![1, 256] (inb14 k))

theorem window_eq (c : Dev nD) (t : Fin cfg0.N) (R : Fin 1056) (e : Fin 256) (s : Fin 2078) (hs : (s : ℕ) + 1 = t.val % 2 * 1024 + R) :
    win (half t) (above m c t) (within m c t) (below m c t) (ix2 R e) = padded (arg13 m c) (ix3 (bt t) s e) := by
  rw [padded_at, half_eq]
  have hq : t.val % 2 = 0 ∨ t.val % 2 = 1 := by omega
  obtain ⟨R, hR⟩ := R
  replace hs : (s : ℕ) + 1 = t.val % 2 * 1024 + R := hs
  by_cases h1 : R < 16
  · refine (win_lo _ _ _ _ ⟨R, h1⟩ e).trans ?_
    rcases hq with hq | hq
    · rw [hq] at hs ⊢
      rw [dif_neg (by omega)]
      rfl
    · rw [dif_pos (by omega), hq]
      refine Eq.trans (b := above m c t (ix3 0 ⟨R, h1⟩ e)) rfl (ld13_1 m c t ⟨R, h1⟩ e _ ?_)
      show (s : ℕ) - 15 = 1008 * (t.val % 2) + R
      omega
  · by_cases h2 : R < 1040
    · have e1 : (⟨R, hR⟩ : Fin 1056) = ⟨16 + ((⟨R - 16, by omega⟩ : Fin 1024) : ℕ), by show 16 + (R - 16) < 1056; omega⟩ := Fin.ext (by show R = 16 + (R - 16); omega)
      rw [e1, win_mid, dif_pos (by omega)]
      refine ld13_2 m c t _ e _ ?_
      show (s : ℕ) - 15 = 1024 * (t.val % 2) + (R - 16)
      omega
    · have e1 : (⟨R, hR⟩ : Fin 1056) = ⟨1040 + ((⟨R - 1040, by omega⟩ : Fin 16) : ℕ), by show 1040 + (R - 1040) < 1056; omega⟩ := Fin.ext (by show R = 1040 + (R - 1040); omega)
      rw [e1, win_hi]
      rcases hq with hq | hq
      · rw [dif_pos (by omega), hq]
        refine Eq.trans (b := below m c t (ix3 0 ⟨R - 1040, by omega⟩ e)) rfl (ld13_3 m c t ⟨R - 1040, by omega⟩ e _ ?_)
        show (s : ℕ) - 15 = 1024 + 1008 * (t.val % 2) + (R - 1040)
        omega
      · rw [dif_neg (by omega), hq]
        rfl

theorem tap_eq (c : Dev nD) (t : Fin cfg0.N) (p : Fin 1024) (e : Fin 256) (k : Fin 31) :
    tapK (win (half t) (above m c t) (within m c t) (below m c t)) (weight m c t) p e k = tap (padded (arg13 m c)) (arg14 m c) (bt t) (st t p) e k := by
  unfold tapK tap
  refine Ideal.mul_congr (window_eq m c t _ e _ ?_) (ld14 m c t k _ e)
  show (k : ℕ) + (t.val % 2 * 1024 + p) + 1 = t.val % 2 * 1024 + (p + k + 1)
  omega

/-- The convolution branch of the reference, before its norm. -/
abbrev refTaps (c : Dev nD) : FVec Ideal Cert.MixRefIdeal.S16x2048x256 .f32 :=
  taps3 (taps2 (taps1 (padded (arg13 m c)) (arg14 m c)) (padded (arg13 m c)) (arg14 m c)) (padded (arg13 m c)) (arg14 m c) (arg15 m c)

theorem taps_eq (c : Dev nD) (t : Fin cfg0.N) (p : Fin 1024) (e : Fin 256) :
    tapsK (win (half t) (above m c t) (within m c t) (below m c t)) (weight m c t) (iblk m c 15 t) p e = refTaps m c (ix3 (bt t) (st t p) e) := by
  unfold tapsK
  simp only [tap_eq]
  rw [in15]
  refine Eq.trans ?_ (taps3_at _ _ _ _ _ _ _).symm
  rw [taps2_at, taps1_at]

/-- The convolution branch of the kernel. -/
def branch (c : Dev nD) (t : Fin cfg0.N) : FVec Ideal S1024x256 .f32 :=
  conv (half t) (above m c t) (within m c t) (below m c t) (weight m c t) (iblk m c 15 t) (iblk m c 16 t)

theorem branch_at (c : Dev nD) (t : Fin cfg0.N) (p : Fin 1024) (e : Fin 256) :
    branch m c t (ix2 p e) = silu (normD (refTaps m c) (arg16 m c)) (ix3 (bt t) (st t p) e) := by
  unfold branch
  rw [silu_at, normD_at, conv_at]
  simp only [taps_eq]
  rw [in16]

/-- The stored block. -/
def block (c : Dev nD) (t : Fin cfg0.N) : FVec Ideal S1x1024x1024 .f32 :=
  stored (branch m c t) (stack (wideHead_0 m c t) (wideHead_1 m c t) (wideHead_2 m c t) (wideHead_3 m c t))
    (stack (normHead_0 m c t) (normHead_1 m c t) (normHead_2 m c t) (normHead_3 m c t)) (iblk m c 12 t) (iblk m c 19 t) (iblk m c 0 t) (iblk m c 1 t)

theorem four_heads (e : Fin 256) : (∃ d : Fin 64, e = ⟨(d : ℕ), by omega⟩) ∨ (∃ d : Fin 64, e = ⟨64 + (d : ℕ), by omega⟩)
    ∨ (∃ d : Fin 64, e = ⟨128 + (d : ℕ), by omega⟩) ∨ ∃ d : Fin 64, e = ⟨192 + (d : ℕ), by omega⟩ := by
  by_cases h1 : (e : ℕ) < 64
  · exact .inl ⟨⟨e, h1⟩, rfl⟩
  · by_cases h2 : (e : ℕ) < 128
    · exact .inr (.inl ⟨⟨e - 64, by omega⟩, Fin.ext (by show (e : ℕ) = 64 + (e - 64); omega)⟩)
    · by_cases h3 : (e : ℕ) < 192
      · exact .inr (.inr (.inl ⟨⟨e - 128, by omega⟩, Fin.ext (by show (e : ℕ) = 128 + (e - 128); omega)⟩))
      · exact .inr (.inr (.inr ⟨⟨e - 192, by omega⟩, Fin.ext (by show (e : ℕ) = 192 + (e - 192); omega)⟩))

theorem four_parts (e : Fin 1024) : (∃ d : Fin 256, e = ⟨(d : ℕ), by omega⟩) ∨ (∃ d : Fin 256, e = ⟨256 + (d : ℕ), by omega⟩)
    ∨ (∃ d : Fin 256, e = ⟨512 + (d : ℕ), by omega⟩) ∨ ∃ d : Fin 256, e = ⟨768 + (d : ℕ), by omega⟩ := by
  by_cases h1 : (e : ℕ) < 256
  · exact .inl ⟨⟨e, h1⟩, rfl⟩
  · by_cases h2 : (e : ℕ) < 512
    · exact .inr (.inl ⟨⟨e - 256, by omega⟩, Fin.ext (by show (e : ℕ) = 256 + (e - 256); omega)⟩)
    · by_cases h3 : (e : ℕ) < 768
      · exact .inr (.inr (.inl ⟨⟨e - 512, by omega⟩, Fin.ext (by show (e : ℕ) = 512 + (e - 512); omega)⟩))
      · exact .inr (.inr (.inr ⟨⟨e - 768, by omega⟩, Fin.ext (by show (e : ℕ) = 768 + (e - 768); omega)⟩))

theorem wide_part (c : Dev nD) (H : Fin9 m c) (t : Fin cfg0.N) (p : Fin 1024) (e : Fin 256) :
    stack (wideHead_0 m c t) (wideHead_1 m c t) (wideHead_2 m c t) (wideHead_3 m c t) (ix2 p e) = refA m c (ix3 (bt t) (st t p) e) := by
  rcases four_heads e with ⟨d, rfl⟩ | ⟨d, rfl⟩ | ⟨d, rfl⟩ | ⟨d, rfl⟩
  · refine (stack_0 _ _ _ _ p d).trans ((wideHead_0_at m c H t d p).trans ?_)
    blk_ext
  · exact (stack_1 _ _ _ _ p d).trans (wideHead_1_at m c H t d p)
  · exact (stack_2 _ _ _ _ p d).trans (wideHead_2_at m c H t d p)
  · exact (stack_3 _ _ _ _ p d).trans (wideHead_3_at m c H t d p)

theorem narrow_part (c : Dev nD) (H : Fin9 m c) (t : Fin cfg0.N) (p : Fin 1024) (e : Fin 256) :
    stack (normHead_0 m c t) (normHead_1 m c t) (normHead_2 m c t) (normHead_3 m c t) (ix2 p e) = attC (refD m c) (arg17 m c) (ix3 (bt t) (st t p) e) := by
  rcases four_heads e with ⟨d, rfl⟩ | ⟨d, rfl⟩ | ⟨d, rfl⟩ | ⟨d, rfl⟩
  · refine (stack_0 _ _ _ _ p d).trans ((normHead_0_at m c H t d p).trans ?_)
    blk_ext
  · exact (stack_1 _ _ _ _ p d).trans (normHead_1_at m c H t d p)
  · exact (stack_2 _ _ _ _ p d).trans (normHead_2_at m c H t d p)
  · exact (stack_3 _ _ _ _ p d).trans (normHead_3_at m c H t d p)

/-- The reference's parts side by side. -/
abbrev refRow (c : Dev nD) : FVec Ideal Cert.MixRefIdeal.S16x2048x1024 .f32 :=
  joined (refA m c) (attC (refD m c) (arg17 m c)) (arg12 m c) (silu (normD (refTaps m c) (arg16 m c)))

theorem row_eq (c : Dev nD) (H : Fin9 m c) (t : Fin cfg0.N) (p e : Fin 1024) :
    rowK (branch m c t) (stack (wideHead_0 m c t) (wideHead_1 m c t) (wideHead_2 m c t) (wideHead_3 m c t))
      (stack (normHead_0 m c t) (normHead_1 m c t) (normHead_2 m c t) (normHead_3 m c t)) (iblk m c 12 t) (ix2 p e) = refRow m c (ix3 (bt t) (st t p) e) := by
  rcases four_parts e with ⟨d, rfl⟩ | ⟨d, rfl⟩ | ⟨d, rfl⟩ | ⟨d, rfl⟩
  · exact (rowK_0 _ _ _ _ p d).trans ((wide_part m c H t p d).trans (joined_0 _ _ _ _ (bt t) (st t p) d).symm)
  · exact (rowK_1 _ _ _ _ p d).trans ((narrow_part m c H t p d).trans (joined_1 _ _ _ _ (bt t) (st t p) d).symm)
  · exact (rowK_2 _ _ _ _ p d).trans ((in12 m c t p d).trans (joined_2 _ _ _ _ (bt t) (st t p) d).symm)
  · exact (rowK_3 _ _ _ _ p d).trans ((branch_at m c t p d).trans (joined_3 _ _ _ _ (bt t) (st t p) d).symm)

/-- The reference's result from the arguments. -/
abbrev refResult (c : Dev nD) : FVec Ideal Cert.MixRefIdeal.S16x2048x1024 .f32 :=
  result (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c)

theorem block_at (c : Dev nD) (H : Fin9 m c) (t : Fin cfg0.N) (p d : Fin 1024) :
    block m c t (ix3 0 p d) = refResult m c (ix3 (bt t) (st t p) d) := by
  refine (stored_at _ _ _ _ _ _ _ p d).trans (Eq.trans ?_ (gated_at (arg0 m c) (arg1 m c) (refRow m c) (arg19 m c) (bt t) (st t p) d).symm)
  simp only [row_eq m c H]
  rw [in0, in1]
  simp only [in19]

theorem point (c : Dev nD) (H : Fin9 m c) (t : Fin cfg0.N) (y : S1x1024x1024.Idx) (j : S16x2048x1024.Idx)
    (h0 : (j 0 : ℕ) = t.val / 2) (h1 : (j 1 : ℕ) = t.val % 2 * 1024 + y 1) (h2 : (j 2 : ℕ) = y 2) : block m c t y = refResult m c j := by
  obtain ⟨z, p, d, rfl⟩ : ∃ (z : Fin 1) (p d : Fin 1024), y = ix3 z p d := ⟨y 0, y 1, y 2, eq_ix3 y⟩
  obtain rfl : z = 0 := Fin.eq_zero z
  refine (block_at m c H t p d).trans (congrArg (refResult m c) ?_)
  refine Eq.trans ?_ (eq_ix3 j).symm
  have e0 : bt t = j 0 := Fin.ext h0.symm
  have e1 : st t p = j 1 := Fin.ext h1.symm
  have e2 : d = j 2 := Fin.ext h2.symm
  rw [← e0, ← e1, ← e2]

end Cert.MixIdeal.Part
-- ==== Proof.MixFinal.lean ====
module

public import proofs.«01_k».proof.Proof.MixPoint

@[expose] public section

set_option maxRecDepth 16384

noncomputable section

/-! The mixer's result array. -/

namespace Cert.MixIdeal.Part

open Cert.MixIdeal Cert.MixIdeal.Gen Idealize.ShloMosaic Idealize.ShloMosaic.TcCoe Idealize.SL.Sem
open Cert.MixReal

variable (m : (ℓ : Loc nD τ sig) → Buf (Elt Ideal) ℓ)

set_option maxHeartbeats 2000000 in
/-- The kernel's result is the reference's. -/
theorem final (c : Dev nD) (H : Fin9 m c) : (dats m 0 c).arrAt 20 cfg0.N = refResult m c := by
  refine (dats m 0 c).arrAt_eq_of_covers 20 _ (by decide +kernel) fun t hf y => ?_
  blk_simp
  rw [after0_20]
  unfold outsAt0
  frame_open
  frame_out
  refine Eq.trans (b := block m c t y) ?_ (point m c H t y _ ?_ ?_ ?_)
  · rfl
  all_goals (blk_simp [idxB t] <;> try omega)

end Cert.MixIdeal.Part
-- ==== Proof.MixClaims.lean ====
module

public import proofs.«01_k».proof.Defs
public import proofs.«01_k».proof.Proof.MixFinal
public import proofs.«01_k».proof.Proof.Gen.Mix.Frame
public import Idealize.ShloMosaic.Lib.Quiescent
public import Idealize.ShloMosaic.Lib.ReduceAll

@[expose] public section

set_option maxRecDepth 16384

noncomputable section

/-! The mixer's claims. -/

namespace Cert.Proof.MixClaims

open Idealize.ShloMosaic Idealize.ShloMosaic.TcCoe Idealize.SL.Sem
open Cert.MixReal

variable [Cert.Pre_finite.Facts]

theorem both {s : Shape} {x y : IVec s 1} {i : s.Idx} (h : andi x y i = 1#1) : x i = 1#1 ∧ y i = 1#1 := by
  have e : ∀ a b : BitVec 1, IntOp.andi a b = 1#1 → a = 1#1 ∧ b = 1#1 := by decide
  exact e _ _ h

theorem infinity : Ideal.ofBits FTy.f32 0x7F800000#32 = ⊤ := by simp [Ideal.ofBits, Ideal.ieee]

/-- An array whose absolute values all compare less than infinity is real. -/
theorem real_of_all {s : Shape} {axes : List (Fin s.rank)} (x : FVec Ideal s .f32) (hb : Cert.Pre_finite.S_.BroadcastsInDim s (![] : Fin 0 → Fin s.rank)) (h : s.ReducesTo axes Cert.Pre_finite.S_) (hu : 0 < Cert.Pre_finite.S_.numel)
    (e : Host.reduce IntOp.andi (cmpf .olt (Host.absf x) (broadcastInDim s ![] hb (constant Cert.Pre_finite.S_ .f32 0x7F800000#32 : FVec Ideal Cert.Pre_finite.S_ .f32))) (constantI Cert.Pre_finite.S_ 1 1#1) h hu ix0 = 1#1) : AllReal x := by
  intro i
  haveI : Subsingleton Cert.Pre_finite.S_.Idx := ⟨fun a b => funext fun k => k.elim0⟩
  have h1 := Host.reduce_andi_all _ _ h hu ix0 e i
  have h2 : max (x i) (-(x i)) < Ideal.ofBits FTy.f32 0x7F800000#32 := by
    by_contra hn
    have e0 : (cmpf .olt (Host.absf x) (broadcastInDim s ![] hb (constant Cert.Pre_finite.S_ .f32 0x7F800000#32 : FVec Ideal Cert.Pre_finite.S_ .f32))) i = BitVec.ofBool (decide (max (x i) (-(x i)) < Ideal.ofBits FTy.f32 0x7F800000#32)) := rfl
    rw [e0, decide_eq_false hn] at h1
    exact absurd h1 (by decide)
  rw [infinity] at h2
  exact isReal_of_abs_lt_top h2

/-- The precondition says which arrays are finite. -/
theorem finite_arrays (x0 : FVec Ideal Cert.Pre_finite.S16x2048x1024 .f32) (x1 : FVec Ideal Cert.Pre_finite.S16x9x1024 .f32) (x2 : FVec Ideal Cert.Pre_finite.S16x2048x256 .f32) (x3 : FVec Ideal Cert.Pre_finite.S16x2048x256 .f32) (x4 : FVec Ideal Cert.Pre_finite.S16x2048x128 .f32) (x5 : FVec Ideal Cert.Pre_finite.S16x2048x128 .f32) (x6 : FVec Ideal Cert.Pre_finite.S16x2048x256 .f32) (x7 : FVec Ideal Cert.Pre_finite.S16x2048x256 .f32) (x8 : FVec Ideal Cert.Pre_finite.S16x256x128 .f32) (x9 : FVec Ideal Cert.Pre_finite.S16x256x128 .f32) (x10 : FVec Ideal Cert.Pre_finite.S16x256x256 .f32) (x11 : FVec Ideal Cert.Pre_finite.S16x256x256 .f32) (x12 : FVec Ideal Cert.Pre_finite.S16x2048x256 .f32) (x13 : FVec Ideal Cert.Pre_finite.S16x2048x256 .f32) (x14 : FVec Ideal Cert.Pre_finite.S31x256 .f32) (x15 : FVec Ideal Cert.Pre_finite.S256 .f32) (x16 : FVec Ideal Cert.Pre_finite.S256 .f32) (x17 : FVec Ideal Cert.Pre_finite.S64 .f32) (x18 : FVec Ideal Cert.Pre_finite.S4x32 .f32) (x19 : FVec Ideal Cert.Pre_finite.S1024x1024 .f32)
    (h : Cert.Pre_finite.fn (F := Ideal) x0 x1 x2 x3 x4 x5 x6 x7 x8 x9 x10 x11 x12 x13 x14 x15 x16 x17 x18 x19 ix0 = 1#1) :
    AllReal x2 ∧ AllReal x3 ∧ AllReal x4 ∧ AllReal x6 ∧ AllReal x7 ∧ AllReal x8 ∧ AllReal x10 ∧ AllReal x11 ∧ AllReal x18 := by
  have b1 := both h
  have b2 := both b1.1
  have b3 := both b2.1
  have b4 := both b3.1
  have b5 := both b4.1
  have b6 := both b5.1
  have b7 := both b6.1
  have b8 := both b7.1
  refine ⟨?_, ?_, ?_, ?_, ?_, ?_, ?_, ?_, ?_⟩
  · clear * - b8
    exact real_of_all x2 Cert.Pre_finite.Facts.bcast_S_S16x2048x256 Cert.Pre_finite.Facts.reducesTo_S16x2048x256_S_d0_1_2 Cert.Pre_finite.Facts.h_S_ b8.2
  · clear * - b7
    exact real_of_all x3 Cert.Pre_finite.Facts.bcast_S_S16x2048x256 Cert.Pre_finite.Facts.reducesTo_S16x2048x256_S_d0_1_2 Cert.Pre_finite.Facts.h_S_ b7.2
  · clear * - b6
    exact real_of_all x4 Cert.Pre_finite.Facts.bcast_S_S16x2048x128 Cert.Pre_finite.Facts.reducesTo_S16x2048x128_S_d0_1_2 Cert.Pre_finite.Facts.h_S_ b6.2
  · clear * - b5
    exact real_of_all x6 Cert.Pre_finite.Facts.bcast_S_S16x2048x256 Cert.Pre_finite.Facts.reducesTo_S16x2048x256_S_d0_1_2 Cert.Pre_finite.Facts.h_S_ b5.2
  · clear * - b2
    exact real_of_all x7 Cert.Pre_finite.Facts.bcast_S_S16x2048x256 Cert.Pre_finite.Facts.reducesTo_S16x2048x256_S_d0_1_2 Cert.Pre_finite.Facts.h_S_ b2.2
  · clear * - b4
    exact real_of_all x8 Cert.Pre_finite.Facts.bcast_S_S16x256x128 Cert.Pre_finite.Facts.reducesTo_S16x256x128_S_d0_1_2 Cert.Pre_finite.Facts.h_S_ b4.2
  · clear * - b3
    exact real_of_all x10 Cert.Pre_finite.Facts.bcast_S_S16x256x256 Cert.Pre_finite.Facts.reducesTo_S16x256x256_S_d0_1_2 Cert.Pre_finite.Facts.h_S_ b3.2
  · clear * - b1
    exact real_of_all x11 Cert.Pre_finite.Facts.bcast_S_S16x256x256 Cert.Pre_finite.Facts.reducesTo_S16x256x256_S_d0_1_2 Cert.Pre_finite.Facts.h_S_ b1.2
  · clear * - b8
    exact real_of_all x18 Cert.Pre_finite.Facts.bcast_S_S4x32 Cert.Pre_finite.Facts.reducesTo_S4x32_S_d0_1 Cert.Pre_finite.Facts.h_S_ b8.1

/-- The precondition says which arguments are finite. -/
theorem finite_of_pre (m : (ℓ : Loc Cert.MixIdeal.nD Cert.MixIdeal.τ Cert.MixIdeal.sig) → Buf (Elt Ideal) ℓ) (h : Cert.Pre_MixIdeal m) (c : Dev Cert.MixIdeal.nD) :
    Cert.MixIdeal.Part.Fin9 m c := by
  obtain ⟨f2, f3, f4, f6, f7, f8, f10, f11, f18⟩ := finite_arrays _ _ _ _ _ _ _ _ _ _ _ _ _ _ _ _ _ _ _ _ (congrFun (h c) ix0)
  exact ⟨f2, f3, f4, f6, f7, f8, f10, f11, f18⟩

theorem frame_kernel : Cert.quiescent_Mix := fun m ρ _ => Cert.Mix.Gen.frame m ρ

theorem frame_ideal : Cert.quiescent_MixIdeal := fun m ρ _ => Cert.MixIdeal.Gen.frame m ρ

theorem frame_reference : Cert.quiescent_MixRefIdeal := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

set_option maxHeartbeats 2000000 in
theorem same_results : Cert.algebraic_MixIdeal_MixRefIdeal := by
  intro m g m' g' hpre hagree
  refine ⟨fun c => Cert.MixIdeal.Part.refResult m c, ?_, ?_⟩
  · refine θ_run_mono (θ_run_and (Cert.MixIdeal.Gen.run_main m g) (Cert.MixIdeal.Gen.frame m g)) fun r h c => ⟨?_, h.2.1 c⟩
    exact ((h.1 c).1 20).trans (Cert.MixIdeal.Part.final m c (finite_of_pre m hpre c))
  · refine θ_run_mono (Cert.MixRefIdeal.Value.run (F := Ideal) m' g') fun r h c => ⟨(h c).1.trans ?_, (h c).2⟩
    clear h
    refine (Cert.MixRefIdeal.Value.val6_main_v337 _).symm.trans ((Cert.MixRefIdeal.Stage.result_eq _).trans ?_)
    obtain ⟨h0, h1, h2, h3, h4, h5, h6, h7, h8, h9, h10, h11, h12, h13, h14, h15, h16, h17, h18, h19⟩ := hagree c
    exact congr (congr (congr (congr (congr (congr (congr (congr (congr (congr (congr (congr (congr (congr (congr (congr (congr (congr (congr (congrArg Cert.MixRefIdeal.Stage.result h0) h1) h2) h3) h4) h5) h6) h7) h8) h9) h10) h11) h12) h13) h14) h15) h16) h17) h18) h19

end Cert.Proof.MixClaims
-- ==== Proof.lean ====
module

public import proofs.«01_k».proof.Defs
public import proofs.«01_k».proof.Proof.Gen.Mix
public import proofs.«01_k».proof.Proof.Gen.Pre_finite
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.Second
public import proofs.«01_k».proof.Proof.Gen.Second.Frame
public import proofs.«01_k».proof.Proof.Gen.SecondIdeal
public import proofs.«01_k».proof.Proof.Gen.SecondIdeal.Frame
public import proofs.«01_k».proof.Proof.Gen.SecondIdeal.Value
public import proofs.«01_k».proof.Proof.Gen.SecondRefIdeal
public import proofs.«01_k».proof.Proof.Gen.SecondRefIdeal.Run
public import proofs.«01_k».proof.Proof.FfnClaims
public import proofs.«01_k».proof.Proof.HalfClaims
public import proofs.«01_k».proof.Proof.MixClaims
public import Idealize.ShloMosaic.Adequacy
public import Idealize.ShloMosaic.Init

@[expose] public section

noncomputable section

namespace Cert.Proof

open Idealize.ShloMosaic Idealize.SL.Sem

theorem claim : Cert.Claim := ⟨Cert.Mix.Gen.facts, Cert.MixIdeal.Gen.facts, Cert.MixRefIdeal.Gen.facts, Cert.Ffn.Gen.facts, Cert.FfnIdeal.Gen.facts, Cert.FfnRefIdeal.Gen.facts, Cert.First.Gen.facts, Cert.FirstIdeal.Gen.facts, Cert.FirstRefIdeal.Gen.facts, Cert.Second.Gen.facts, Cert.SecondIdeal.Gen.facts, Cert.SecondRefIdeal.Gen.facts, Cert.Pre_finite.Gen.facts,
  MixClaims.frame_kernel, MixClaims.frame_ideal, MixClaims.frame_reference,
  FfnClaims.frame_kernel, FfnClaims.frame_ideal, FfnClaims.frame_reference,
  FirstClaims.frame_kernel, FirstClaims.frame_ideal, FirstClaims.frame_reference,
  SecondClaims.frame_kernel, SecondClaims.frame_ideal, SecondClaims.frame_reference,
  trivial, MixClaims.same_results, trivial, FfnClaims.same_results,
  trivial, FirstClaims.same_results, trivial, SecondClaims.same_results⟩

end Cert.Proof

end
